-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_3)) (v3 : (c : Dev Cert.Kernel3Ideal.nD) → Buf (Elt Ideal) ((c.tc : Thread Cert.Kernel3Ideal.nD Cert.Kernel3Ideal.τ).loc Cert.Kernel3Ideal.main_v11_5)) (v4 : (c : Dev Cert.Kernel3Ideal.nD) → Buf (Elt Ideal) ((c.tc : Thread Cert.Kernel3Ideal.nD Cert.Kernel3Ideal.τ).loc Cert.Kernel3Ideal.main_v11_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_3) = v2 c
          ∧ r.2.mem ((c.tc : Thread Cert.Kernel3Ideal.nD Cert.Kernel3Ideal.τ).loc Cert.Kernel3Ideal.main_v11_5) = v3 c
          ∧ r.2.mem ((c.tc : Thread Cert.Kernel3Ideal.nD Cert.Kernel3Ideal.τ).loc Cert.Kernel3Ideal.main_v11_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v58) = v4 c
          ∧ r.2.mem ((c.tc : Thread Cert.Reference4Ideal.nD Cert.Reference4Ideal.τ).loc Cert.Reference4Ideal.main_v59) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S2x16384x768 : Shape := ⟨3, ![2, 16384, 768]⟩
abbrev S2x16384x128 : Shape := ⟨3, ![2, 16384, 128]⟩
abbrev S12 : Shape := ⟨1, ![12]⟩
abbrev S_ : Shape := ⟨0, ![]⟩

class Facts : Prop where
  bcast_S_S2x16384x768 : S_.BroadcastsInDim S2x16384x768 (![] : Fin 0 → Fin S2x16384x768.rank)
  reducesTo_S2x16384x768_S_d0_1_2 : S2x16384x768.ReducesTo [0, 1, 2] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S12 : S_.BroadcastsInDim S12 (![] : Fin 0 → Fin S12.rank)
  reducesTo_S12_S_d0 : S12.ReducesTo [0] S_

variable [Facts]

def fn {F : FTy → Type} [FloatOps F] (main_arg0 : FVec F S2x16384x768 .f32) (main_arg1 : FVec F S2x16384x128 .f32) (main_arg2 : FVec F S2x16384x128 .f32) (main_arg3 : FVec F S12 .f32) : IVec S_ 1 :=
  let main_v0 : FVec F S2x16384x768 .f32 := Host.absf main_arg0
  let main_cst : FVec F S_ .f32 := constant S_ .f32 0x7F800000#32
  let main_v1 : FVec F S2x16384x768 .f32 := broadcastInDim S2x16384x768 ![] bcast_S_S2x16384x768 main_cst
  let main_v2 : IVec S2x16384x768 1 := cmpf .olt main_v0 main_v1
  let main_c : IVec S_ 1 := constantI S_ 1 1#1
  let main_v3 : IVec S_ 1 := (fun x v => Host.reduce IntOp.andi x v reducesTo_S2x16384x768_S_d0_1_2 h_S_) main_v2 main_c
  let main_v4 : FVec F S2x16384x128 .f32 := Host.absf main_arg1
  let main_cst_0 : FVec F S_ .f32 := constant S_ .f32 0x7F800000#32
  let main_v5 : FVec F S2x16384x128 .f32 := broadcastInDim S2x16384x128 ![] bcast_S_S2x16384x128 main_cst_0
  let main_v6 : IVec S2x16384x128 1 := cmpf .olt main_v4 main_v5
  let main_c_1 : IVec S_ 1 := constantI S_ 1 1#1
  let main_v7 : IVec S_ 1 := (fun x v => Host.reduce IntOp.andi x v reducesTo_S2x16384x128_S_d0_1_2 h_S_) main_v6 main_c_1
  let main_v8 : IVec S_ 1 := andi main_v3 main_v7
  let main_v9 : FVec F S12 .f32 := Host.absf main_arg3
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  main_v13
-- ==== Pre_finite2.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S2x16384x768 .f32) (main_arg1 : FVec F S2x16384x256 .f32) (main_arg2 : FVec F S2x256x256 .f32) (main_arg3 : FVec F S2x256x256 .f32) (main_arg4 : FVec F S2x16384x1024 .f32) (main_arg5 : FVec F S2x16384x1024 .f32) (main_arg6 : FVec F S1024x1024 .f32) (main_arg7 : FVec F S1024 .f32) : IVec S_ 1 :=
  let main_v0 : FVec F S2x16384x256 .f32 := Host.absf main_arg1
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  main_v8
-- ==== Pre_finite4.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S1024x2304 : Shape := ⟨2, ![1024, 2304]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S2x16384x768 .f32) (main_arg1 : FVec F S2x16384x256 .f32) (main_arg2 : FVec F S2x256x256 .f32) (main_arg3 : FVec F S2x256x256 .f32) (main_arg4 : FVec F S2x16384x1024 .f32) (main_arg5 : FVec F S2x16384x1024 .f32) (main_arg6 : FVec F S1024x1024 .f32) (main_arg7 : FVec F S1024 .f32) (main_arg8 : FVec F S1024x2304 .f32) : IVec S_ 1 :=
  let main_v0 : FVec F S2x16384x256 .f32 := Host.absf main_arg1
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  main_v8
-- ==== Kernel.lean ====
abbrev S2x16384x768 : Shape := ⟨3, ![2, 16384, 768]⟩
abbrev S2x16384x128 : Shape := ⟨3, ![2, 16384, 128]⟩
abbrev S12 : Shape := ⟨1, ![12]⟩
abbrev S_ : Shape := ⟨0, ![]⟩
abbrev S2x768x16384 : Shape := ⟨3, ![2, 768, 16384]⟩
abbrev S2x128x16384 : Shape := ⟨3, ![2, 128, 16384]⟩
abbrev S2x16x16384 : Shape := ⟨3, ![2, 16, 16384]⟩
abbrev S2x64x16384 : Shape := ⟨3, ![2, 64, 16384]⟩
abbrev S2x160x16384 : Shape := ⟨3, ![2, 160, 16384]⟩
abbrev S2x12x256x128 : Shape := ⟨4, ![2, 12, 256, 128]⟩
abbrev S1x12x1x1 : Shape := ⟨4, ![1, 12, 1, 1]⟩
abbrev S2x2x6x256x128 : Shape := ⟨5, ![2, 2, 6, 256, 128]⟩
abbrev S2x2x256x6x128 : Shape := ⟨5, ![2, 2, 256, 6, 128]⟩
abbrev S2x2x256x768 : Shape := ⟨4, ![2, 2, 256, 768]⟩
abbrev S12x1x1 : Shape := ⟨3, ![12, 1, 1]⟩
abbrev S12x1x256 : Shape := ⟨3, ![12, 1, 256]⟩
abbrev S1x768x256 : Shape := ⟨3, ![1, 768, 256]⟩
abbrev S1x128x128 : Shape := ⟨3, ![1, 128, 128]⟩
abbrev S1x256x128 : Shape := ⟨3, ![1, 256, 128]⟩
abbrev S1x160x128 : Shape := ⟨3, ![1, 160, 128]⟩
abbrev S1x160x256 : Shape := ⟨3, ![1, 160, 256]⟩
abbrev S1x256x768 : Shape := ⟨3, ![1, 256, 768]⟩
abbrev S768x256 : Shape := ⟨2, ![768, 256]⟩
abbrev S128x128 : Shape := ⟨2, ![128, 128]⟩
abbrev S256x128 : Shape := ⟨2, ![256, 128]⟩
abbrev S384x128 : Shape := ⟨2, ![384, 128]⟩
abbrev S160x128 : Shape := ⟨2, ![160, 128]⟩
abbrev S160x256 : Shape := ⟨2, ![160, 256]⟩
abbrev S160x384 : Shape := ⟨2, ![160, 384]⟩
abbrev S64x128 : Shape := ⟨2, ![64, 128]⟩
abbrev S1x1x256 : Shape := ⟨3, ![1, 1, 256]⟩
abbrev S1x256 : Shape := ⟨2, ![1, 256]⟩
abbrev S1x128 : Shape := ⟨2, ![1, 128]⟩
abbrev S1x768 : Shape := ⟨2, ![1, 768]⟩
abbrev S1x64x128 : Shape := ⟨3, ![1, 64, 128]⟩
abbrev S128x768 : Shape := ⟨2, ![128, 768]⟩
abbrev S256x768 : Shape := ⟨2, ![256, 768]⟩
abbrev S1x1x256x768 : Shape := ⟨4, ![1, 1, 256, 768]⟩
abbrev S80x256 : Shape := ⟨2, ![80, 256]⟩
abbrev S80x768 : Shape := ⟨2, ![80, 768]⟩
abbrev S64x768 : Shape := ⟨2, ![64, 768]⟩
abbrev S1x1x768 : Shape := ⟨3, ![1, 1, 768]⟩
abbrev S1 : Shape := ⟨1, ![1]⟩
abbrev S1x1x1 : Shape := ⟨3, ![1, 1, 1]⟩
abbrev S128 : Shape := ⟨1, ![128]⟩
abbrev S80x128 : Shape := ⟨2, ![80, 128]⟩

abbrev nBuf : Space → Nat
  | .hbm => 66
  | .vmem => 15
  | .smem => 0
  | _ => 0

abbrev bufTy : (tb : Table) → Fin (tcTables nBuf tb) → BufTy
  | .hbm, ⟨0, _⟩ => ⟨S2x16384x768, .f32⟩
  | .hbm, ⟨1, _⟩ => ⟨S2x16384x128, .f32⟩
  | .hbm, ⟨2, _⟩ => ⟨S2x16384x128, .f32⟩
  | .hbm, ⟨3, _⟩ => ⟨S12, .f32⟩
  | .hbm, ⟨4, _⟩ => ⟨S12, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16384x768, .f32⟩
  | .hbm, ⟨12, _⟩ => ⟨S2x16384x768, .f32⟩
  | .hbm, ⟨13, _⟩ => ⟨S2x768x16384, .f32⟩
  | .hbm, ⟨14, _⟩ => ⟨S2x768x16384, .bf16⟩
  | .hbm, ⟨15, _⟩ => ⟨S2x128x16384, .f32⟩
  | .hbm, ⟨16, _⟩ => ⟨S_, .f32⟩
  | .hbm, ⟨17, _⟩ => ⟨S2x16x16384, .f32⟩
  | .hbm, ⟨18, _⟩ => ⟨S2x64x16384, .f32⟩
  | .hbm, ⟨19, _⟩ => ⟨S2x64x16384, .f32⟩
  | .hbm, ⟨20, _⟩ => ⟨S2x160x16384, .f32⟩
  | .hbm, ⟨21, _⟩ => ⟨S2x160x16384, .bf16⟩
  | .hbm, ⟨22, _⟩ => ⟨S2x16384x128, .bf16⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S12, .f32⟩
  | .hbm, ⟨28, _⟩ => ⟨S12, .f32⟩
  | .hbm, ⟨29, _⟩ => ⟨S2x12x256x128, .i32⟩
  | .hbm, ⟨30, _⟩ => ⟨S2x12x256x128, .i32⟩
  | .hbm, ⟨31, _⟩ => ⟨S_, .i32⟩
  | .hbm, ⟨32, _⟩ => ⟨S2x12x256x128, .i32⟩
  | .hbm, ⟨33, _⟩ => ⟨S2x12x256x128, .i32⟩
  | .hbm, ⟨34, _⟩ => ⟨S2x12x256x128, .i32⟩
  | .hbm, ⟨35, _⟩ => ⟨S_, .i32⟩
  | .hbm, ⟨36, _⟩ => ⟨S2x12x256x128, .i32⟩
  | .hbm, ⟨37, _⟩ => ⟨S2x12x256x128, .i1⟩
  | .hbm, ⟨38, _⟩ => ⟨S_, .i32⟩
  | .hbm, ⟨39, _⟩ => ⟨S2x12x256x128, .i32⟩
  | .hbm, ⟨40, _⟩ => ⟨S2x12x256x128, .i1⟩
  | .hbm, ⟨41, _⟩ => ⟨S2x12x256x128, .i1⟩
  | .hbm, ⟨42, _⟩ => ⟨S2x12x256x128, .i32⟩
  | .hbm, ⟨43, _⟩ => ⟨S_, .i32⟩
  | .hbm, ⟨44, _⟩ => ⟨S2x12x256x128, .i32⟩
  | .hbm, ⟨45, _⟩ => ⟨S2x12x256x128, .i1⟩
  | .hbm, ⟨46, _⟩ => ⟨S_, .i32⟩
  | .hbm, ⟨47, _⟩ => ⟨S2x12x256x128, .i32⟩
  | .hbm, ⟨48, _⟩ => ⟨S2x12x256x128, .i1⟩
  | .hbm, ⟨49, _⟩ => ⟨S2x12x256x128, .i1⟩
  | .hbm, ⟨50, _⟩ => ⟨S2x12x256x128, .i1⟩
  | .hbm, ⟨51, _⟩ => ⟨S1x12x1x1, .f32⟩
  | .hbm, ⟨52, _⟩ => ⟨S1x12x1x1, .f32⟩
  | .hbm, ⟨53, _⟩ => ⟨S2x12x256x128, .f32⟩
  | .hbm, ⟨54, _⟩ => ⟨S2x12x256x128, .f32⟩
  | .hbm, ⟨55, _⟩ => ⟨S2x12x256x128, .f32⟩
  | .hbm, ⟨56, _⟩ => ⟨S_, .f32⟩
  | .hbm, ⟨57, _⟩ => ⟨S_, .f32⟩
  | .hbm, ⟨58, _⟩ => ⟨S2x12x256x128, .f32⟩
  | .hbm, ⟨59, _⟩ => ⟨S2x12x256x128, .f32⟩
  | .hbm, ⟨60, _⟩ => ⟨S2x2x6x256x128, .f32⟩
  | .hbm, ⟨61, _⟩ => ⟨S2x2x256x6x128, .f32⟩
  | .hbm, ⟨62, _⟩ => ⟨S2x2x256x768, .f32⟩
  | .hbm, ⟨63, _⟩ => ⟨S12x1x1, .f32⟩
  | .hbm, ⟨64, _⟩ => ⟨S12x1x256, .f32⟩
  | .hbm, ⟨65, _⟩ => ⟨S2x16384x768, .bf16⟩
  | .local _ .vmem, ⟨0, _⟩ => ⟨S1x768x256, .bf16⟩
  | .local _ .vmem, ⟨1, _⟩ => ⟨S1x768x256, .bf16⟩
  | .local _ .vmem, ⟨2, _⟩ => ⟨S1x128x128, .bf16⟩
  | .local _ .vmem, ⟨3, _⟩ => ⟨S1x128x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x160x128, .bf16⟩
  | .local _ .vmem, ⟨7, _⟩ => ⟨S1x160x128, .bf16⟩
  | .local _ .vmem, ⟨8, _⟩ => ⟨S1x160x256, .bf16⟩
  | .local _ .vmem, ⟨9, _⟩ => ⟨S1x160x256, .bf16⟩
  | .local _ .vmem, ⟨10, _⟩ => ⟨S2x2x256x768, .f32⟩
  | .local _ .vmem, ⟨11, _⟩ => ⟨S12x1x256, .f32⟩
  | .local _ .vmem, ⟨12, _⟩ => ⟨S1x256x768, .bf16⟩
  | .local _ .vmem, ⟨13, _⟩ => ⟨S1x256x768, .bf16⟩
  | .local _ .vmem, ⟨14, _⟩ => ⟨S768x256, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def k0_off1 (i : grid0.Coords) : Fin 4 → Nat :=
  let arg1 : BitVec 32 := BitVec.ofNat 32 (i 1).val
  let c1_i32 : BitVec 32 := 1#32
  let v157 : BitVec 32 := Scalar.minsi arg1 c1_i32
  let v158 : Index := Scalar.indexCast v157
  let c0_113 : Index := 0#32
  let c0_114 : Index := 0#32
  let c0_115 : Index := 0#32
  ![v158.toNat, 0, 0, 0]
def k0_off2 (i : grid0.Coords) : Fin 4 → Nat :=
  let arg1 : BitVec 32 := BitVec.ofNat 32 (i 1).val
  let c1_i32_116 : BitVec 32 := 1#32
  let v166 : BitVec 32 := Scalar.minsi arg1 c1_i32_116
  let v167 : Index := Scalar.indexCast v166
  let c1_117 : Index := 1#32
  let c0_118 : Index := 0#32
  let c0_119 : Index := 0#32
  ![v167.toNat, 1, 0, 0]
def k0_off3 (i : grid0.Coords) : Fin 4 → Nat :=
  let arg1 : BitVec 32 := BitVec.ofNat 32 (i 1).val
  let c1_i32_200 : BitVec 32 := 1#32
  let v349 : BitVec 32 := Scalar.minsi arg1 c1_i32_200
  let v350 : Index := Scalar.indexCast v349
  let c0_201 : Index := 0#32
  let c0_202 : Index := 0#32
  let c0_203 : Index := 0#32
  ![v350.toNat, 0, 0, 0]
def k0_off4 (i : grid0.Coords) : Fin 4 → Nat :=
  let arg1 : BitVec 32 := BitVec.ofNat 32 (i 1).val
  let c1_i32_302 : BitVec 32 := 1#32
  let v571 : BitVec 32 := Scalar.minsi arg1 c1_i32_302
  let v572 : Index := Scalar.indexCast v571
  let c1_303 : Index := 1#32
  let c0_304 : Index := 0#32
  let c0_305 : Index := 0#32
  ![v572.toNat, 1, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S12x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x768 : Shape := ⟨3, ![2, 16384, 768]⟩
abbrev S2x16384x128 : Shape := ⟨3, ![2, 16384, 128]⟩
abbrev S12 : Shape := ⟨1, ![12]⟩
abbrev S2x128x128x2x6x64 : Shape := ⟨6, ![2, 128, 128, 2, 6, 64]⟩
abbrev S2x128x128x2x64 : Shape := ⟨5, ![2, 128, 128, 2, 64]⟩
abbrev S_ : Shape := ⟨0, ![]⟩
abbrev S2x129x128x2x64 : Shape := ⟨5, ![2, 129, 128, 2, 64]⟩
abbrev S2x128x256x2x64 : Shape := ⟨5, ![2, 128, 256, 2, 64]⟩
abbrev S2x2x128x256x128x6 : Shape := ⟨6, ![2, 2, 128, 256, 128, 6]⟩
abbrev S2x2x6x128x128x256 : Shape := ⟨6, ![2, 2, 6, 128, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S2x6 : Shape := ⟨2, ![2, 6]⟩
abbrev S1x2x6x1x1x1 : Shape := ⟨6, ![1, 2, 6, 1, 1, 1]⟩
abbrev S1x1x1x1x128x256 : Shape := ⟨6, ![1, 1, 1, 1, 128, 256]⟩
abbrev S1x2x6x1x128x256 : Shape := ⟨6, ![1, 2, 6, 1, 128, 256]⟩
abbrev S2x2x6x128x128 : Shape := ⟨5, ![2, 2, 6, 128, 128]⟩
abbrev S2x2x6x128x128x1 : Shape := ⟨6, ![2, 2, 6, 128, 128, 1]⟩
abbrev S2x128x2x64x6x128 : Shape := ⟨6, ![2, 128, 2, 64, 6, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x16384x128, .f32⟩
  | .hbm, ⟨2, _⟩ => ⟨S2x16384x128, .f32⟩
  | .hbm, ⟨3, _⟩ => ⟨S12, .f32⟩
  | .hbm, ⟨4, _⟩ => ⟨S12, .f32⟩
  | .hbm, ⟨5, _⟩ => ⟨S2x128x128x2x6x64, .f32⟩
  | .hbm, ⟨6, _⟩ => ⟨S2x128x128x2x64, .f32⟩
  | .hbm, ⟨7, _⟩ => ⟨S2x128x128x2x64, .f32⟩
  | .hbm, ⟨8, _⟩ => ⟨S_, .i32⟩
  | .hbm, ⟨9, _⟩ => ⟨S_, .f32⟩
  | .hbm, ⟨10, _⟩ => ⟨S2x129x128x2x64, .f32⟩
  | .hbm, ⟨11, _⟩ => ⟨S2x128x128x2x64, .f32⟩
  | .hbm, ⟨12, _⟩ => ⟨S2x128x256x2x64, .f32⟩
  | .hbm, ⟨13, _⟩ => ⟨S_, .i32⟩
  | .hbm, ⟨14, _⟩ => ⟨S_, .f32⟩
  | .hbm, ⟨15, _⟩ => ⟨S2x129x128x2x64, .f32⟩
  | .hbm, ⟨16, _⟩ => ⟨S2x128x128x2x64, .f32⟩
  | .hbm, ⟨17, _⟩ => ⟨S2x128x256x2x64, .f32⟩
  | .hbm, ⟨18, _⟩ => ⟨S2x2x128x256x128x6, .f32⟩
  | .hbm, ⟨19, _⟩ => ⟨S2x2x6x128x128x256, .f32⟩
  | .hbm, ⟨20, _⟩ => ⟨S_, .f32⟩
  | .hbm, ⟨21, _⟩ => ⟨S2x2x6x128x128x256, .f32⟩
  | .hbm, ⟨22, _⟩ => ⟨S2x2x6x128x128x256, .f32⟩
  | .hbm, ⟨23, _⟩ => ⟨S128, .i32⟩
  | .hbm, ⟨24, _⟩ => ⟨S256, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S128, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S1x256, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S1x128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x1x256, .i1⟩
  | .hbm, ⟨57, _⟩ => ⟨S128x128x256, .i1⟩
  | .hbm, ⟨58, _⟩ => ⟨S128x128x256, .i1⟩
  | .hbm, ⟨59, _⟩ => ⟨S128x128x256, .i1⟩
  | .hbm, ⟨60, _⟩ => ⟨S2x6, .f32⟩
  | .hbm, ⟨61, _⟩ => ⟨S1x2x6x1x1x1, .f32⟩
  | .hbm, ⟨62, _⟩ => ⟨S128x256, .f32⟩
  | .hbm, ⟨63, _⟩ => ⟨S1x1x1x1x128x256, .f32⟩
  | .hbm, ⟨64, _⟩ => ⟨S1x2x6x1x128x256, .f32⟩
  | .hbm, ⟨65, _⟩ => ⟨S1x2x6x1x128x256, .f32⟩
  | .hbm, ⟨66, _⟩ => ⟨S1x2x6x1x128x256, .f32⟩
  | .hbm, ⟨67, _⟩ => ⟨S2x2x6x128x128x256, .f32⟩
  | .hbm, ⟨68, _⟩ => ⟨S2x2x6x128x128x256, .f32⟩
  | .hbm, ⟨69, _⟩ => ⟨S_, .f32⟩
  | .hbm, ⟨70, _⟩ => ⟨S_, .f32⟩
  | .hbm, ⟨71, _⟩ => ⟨S2x2x6x128x128x256, .i1⟩
  | .hbm, ⟨72, _⟩ => ⟨S2x2x6x128x128x256, .f32⟩
  | .hbm, ⟨73, _⟩ => ⟨S2x2x6x128x128x256, .f32⟩
  | .hbm, ⟨74, _⟩ => ⟨S2x6, .f32⟩
  | .hbm, ⟨75, _⟩ => ⟨S1x2x6x1x1x1, .f32⟩
  | .hbm, ⟨76, _⟩ => ⟨S_, .f32⟩
  | .hbm, ⟨77, _⟩ => ⟨S2x2x6x128x128, .f32⟩
  | .hbm, ⟨78, _⟩ => ⟨S2x2x6x128x128x1, .f32⟩
  | .hbm, ⟨79, _⟩ => ⟨S2x2x6x128x128x1, .f32⟩
  | .hbm, ⟨80, _⟩ => ⟨S2x2x6x128x128x1, .f32⟩
  | .hbm, ⟨81, _⟩ => ⟨S2x2x6x128x128x256, .f32⟩
  | .hbm, ⟨82, _⟩ => ⟨S2x2x6x128x128x256, .f32⟩
  | .hbm, ⟨83, _⟩ => ⟨S2x2x6x128x128x256, .f32⟩
  | .hbm, ⟨84, _⟩ => ⟨S_, .f32⟩
  | .hbm, ⟨85, _⟩ => ⟨S2x2x6x128x128, .f32⟩
  | .hbm, ⟨86, _⟩ => ⟨S2x2x6x128x128x1, .f32⟩
  | .hbm, ⟨87, _⟩ => ⟨S2x2x6x128x128x1, .f32⟩
  | .hbm, ⟨88, _⟩ => ⟨S2x2x6x128x128x1, .f32⟩
  | .hbm, ⟨89, _⟩ => ⟨S2x2x6x128x128x1, .f32⟩
  | .hbm, ⟨90, _⟩ => ⟨S2x2x6x128x128x1, .f32⟩
  | .hbm, ⟨91, _⟩ => ⟨S2x2x6x128x128x256, .f32⟩
  | .hbm, ⟨92, _⟩ => ⟨S2x2x6x128x128x256, .f32⟩
  | .hbm, ⟨93, _⟩ => ⟨S2x128x2x64x6x128, .f32⟩
  | .hbm, ⟨94, _⟩ => ⟨S2x128x128x2x6x64, .f32⟩
  | .hbm, ⟨95, _⟩ => ⟨S2x16384x768, .f32⟩
  | .hbm, ⟨96, _⟩ => ⟨S2x16384x768, .bf16⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel2.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S_ : Shape := ⟨0, ![]⟩
abbrev S2x256x16384 : Shape := ⟨3, ![2, 256, 16384]⟩
abbrev S2x4x256x256 : Shape := ⟨4, ![2, 4, 256, 256]⟩
abbrev S2x1x256x256 : Shape := ⟨4, ![2, 1, 256, 256]⟩
abbrev S2x4x64x256 : Shape := ⟨4, ![2, 4, 64, 256]⟩
abbrev S2x4x16x256 : Shape := ⟨4, ![2, 4, 16, 256]⟩
abbrev S2x4x80x256 : Shape := ⟨4, ![2, 4, 80, 256]⟩
abbrev S2x320x256 : Shape := ⟨3, ![2, 320, 256]⟩
abbrev S1x1024 : Shape := ⟨2, ![1, 1024]⟩
abbrev S1x1024x768 : Shape := ⟨3, ![1, 1024, 768]⟩
abbrev S1x256x1024 : Shape := ⟨3, ![1, 256, 1024]⟩
abbrev S1x1024x1024 : Shape := ⟨3, ![1, 1024, 1024]⟩
abbrev S1x4x256x256 : Shape := ⟨4, ![1, 4, 256, 256]⟩
abbrev S1x320x256 : Shape := ⟨3, ![1, 320, 256]⟩
abbrev S256x1024 : Shape := ⟨2, ![256, 1024]⟩
abbrev S1x1x256x256 : Shape := ⟨4, ![1, 1, 256, 256]⟩
abbrev S256x256 : Shape := ⟨2, ![256, 256]⟩
abbrev S1x80x256 : Shape := ⟨3, ![1, 80, 256]⟩
abbrev S80x256 : Shape := ⟨2, ![80, 256]⟩
abbrev S80x1024 : Shape := ⟨2, ![80, 1024]⟩
abbrev S64x1024 : Shape := ⟨2, ![64, 1024]⟩
abbrev S1024x256 : Shape := ⟨2, ![1024, 256]⟩
abbrev S1024x768 : Shape := ⟨2, ![1024, 768]⟩
abbrev S1024x1 : Shape := ⟨2, ![1024, 1]⟩

abbrev nBuf : Space → Nat
  | .hbm => 48
  | .vmem => 16
  | .smem => 0
  | _ => 0

abbrev bufTy : (tb : Table) → Fin (tcTables nBuf tb) → BufTy
  | .hbm, ⟨0, _⟩ => ⟨S2x16384x768, .f32⟩
  | .hbm, ⟨1, _⟩ => ⟨S2x16384x256, .f32⟩
  | .hbm, ⟨2, _⟩ => ⟨S2x256x256, .f32⟩
  | .hbm, ⟨3, _⟩ => ⟨S2x256x256, .f32⟩
  | .hbm, ⟨4, _⟩ => ⟨S2x16384x1024, .f32⟩
  | .hbm, ⟨5, _⟩ => ⟨S2x16384x1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16384x256, .f32⟩
  | .hbm, ⟨15, _⟩ => ⟨S2x16384x256, .f32⟩
  | .hbm, ⟨16, _⟩ => ⟨S2x256x16384, .f32⟩
  | .hbm, ⟨17, _⟩ => ⟨S2x256x16384, .bf16⟩
  | .hbm, ⟨18, _⟩ => ⟨S2x4x256x256, .i32⟩
  | .hbm, ⟨19, _⟩ => ⟨S_, .i32⟩
  | .hbm, ⟨20, _⟩ => ⟨S2x4x256x256, .i32⟩
  | .hbm, ⟨21, _⟩ => ⟨S2x4x256x256, .i32⟩
  | .hbm, ⟨22, _⟩ => ⟨S2x4x256x256, .i32⟩
  | .hbm, ⟨23, _⟩ => ⟨S2x4x256x256, .i1⟩
  | .hbm, ⟨24, _⟩ => ⟨S_, .i32⟩
  | .hbm, ⟨25, _⟩ => ⟨S2x4x256x256, .i32⟩
  | .hbm, ⟨26, _⟩ => ⟨S2x4x256x256, .i32⟩
  | .hbm, ⟨27, _⟩ => ⟨S2x4x256x256, .i1⟩
  | .hbm, ⟨28, _⟩ => ⟨S2x4x256x256, .i1⟩
  | .hbm, ⟨29, _⟩ => ⟨S2x1x256x256, .f32⟩
  | .hbm, ⟨30, _⟩ => ⟨S_, .f32⟩
  | .hbm, ⟨31, _⟩ => ⟨S_, .f32⟩
  | .hbm, ⟨32, _⟩ => ⟨S2x4x256x256, .f32⟩
  | .hbm, ⟨33, _⟩ => ⟨S2x4x256x256, .f32⟩
  | .hbm, ⟨34, _⟩ => ⟨S2x4x256x256, .f32⟩
  | .hbm, ⟨35, _⟩ => ⟨S2x4x256x256, .bf16⟩
  | .hbm, ⟨36, _⟩ => ⟨S2x256x256, .f32⟩
  | .hbm, ⟨37, _⟩ => ⟨S2x4x64x256, .f32⟩
  | .hbm, ⟨38, _⟩ => ⟨S_, .f32⟩
  | .hbm, ⟨39, _⟩ => ⟨S2x4x16x256, .f32⟩
  | .hbm, ⟨40, _⟩ => ⟨S2x4x80x256, .f32⟩
  | .hbm, ⟨41, _⟩ => ⟨S2x320x256, .f32⟩
  | .hbm, ⟨42, _⟩ => ⟨S2x320x256, .bf16⟩
  | .hbm, ⟨43, _⟩ => ⟨S2x16384x768, .bf16⟩
  | .hbm, ⟨44, _⟩ => ⟨S2x16384x1024, .bf16⟩
  | .hbm, ⟨45, _⟩ => ⟨S1024x1024, .bf16⟩
  | .hbm, ⟨46, _⟩ => ⟨S1x1024, .f32⟩
  | .hbm, ⟨47, _⟩ => ⟨S2x16384x1024, .f32⟩
  | .local _ .vmem, ⟨0, _⟩ => ⟨S1x1024x768, .bf16⟩
  | .local _ .vmem, ⟨1, _⟩ => ⟨S1x1024x768, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x4x256x256, .bf16⟩
  | .local _ .vmem, ⟨9, _⟩ => ⟨S1x4x256x256, .bf16⟩
  | .local _ .vmem, ⟨10, _⟩ => ⟨S1x320x256, .bf16⟩
  | .local _ .vmem, ⟨11, _⟩ => ⟨S1x320x256, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S2x16384x4x64 : Shape := ⟨4, ![2, 16384, 4, 64]⟩
abbrev S2x256x4x64 : Shape := ⟨4, ![2, 256, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x16384x256, .f32⟩
  | .hbm, ⟨2, _⟩ => ⟨S2x256x256, .f32⟩
  | .hbm, ⟨3, _⟩ => ⟨S2x256x256, .f32⟩
  | .hbm, ⟨4, _⟩ => ⟨S2x16384x1024, .f32⟩
  | .hbm, ⟨5, _⟩ => ⟨S2x16384x1024, .f32⟩
  | .hbm, ⟨6, _⟩ => ⟨S1024x1024, .f32⟩
  | .hbm, ⟨7, _⟩ => ⟨S1024, .f32⟩
  | .hbm, ⟨8, _⟩ => ⟨S2x16384x4x64, .f32⟩
  | .hbm, ⟨9, _⟩ => ⟨S2x256x4x64, .f32⟩
  | .hbm, ⟨10, _⟩ => ⟨S2x256x4x64, .f32⟩
  | .hbm, ⟨11, _⟩ => ⟨S2x4x16384x256, .f32⟩
  | .hbm, ⟨12, _⟩ => ⟨S_, .f32⟩
  | .hbm, ⟨13, _⟩ => ⟨S2x4x16384x256, .f32⟩
  | .hbm, ⟨14, _⟩ => ⟨S2x4x16384x256, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S2x4x16384x1, .f32⟩
  | .hbm, ⟨21, _⟩ => ⟨S2x4x16384x256, .f32⟩
  | .hbm, ⟨22, _⟩ => ⟨S2x4x16384x256, .f32⟩
  | .hbm, ⟨23, _⟩ => ⟨S2x4x16384x256, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x256, .f32⟩
  | .hbm, ⟨28, _⟩ => ⟨S2x4x16384x256, .f32⟩
  | .hbm, ⟨29, _⟩ => ⟨S2x4x64x16384, .f32⟩
  | .hbm, ⟨30, _⟩ => ⟨S2x16384x4x64, .f32⟩
  | .hbm, ⟨31, _⟩ => ⟨S2x16384x256, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S2x16384x1, .f32⟩
  | .hbm, ⟨53, _⟩ => ⟨S2x16384x1024, .f32⟩
  | .hbm, ⟨54, _⟩ => ⟨S2x16384x1024, .f32⟩
  | .hbm, ⟨55, _⟩ => ⟨S1x1x1024, .f32⟩
  | .hbm, ⟨56, _⟩ => ⟨S2x16384x1024, .f32⟩
  | .hbm, ⟨57, _⟩ => ⟨S2x16384x1024, .f32⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x3584 : Shape := ⟨2, ![1024, 3584]⟩
abbrev S1024x768 : Shape := ⟨2, ![1024, 768]⟩
abbrev S1024x256 : Shape := ⟨2, ![1024, 256]⟩
abbrev S1024x1024 : Shape := ⟨2, ![1024, 1024]⟩
abbrev S1024x1792 : Shape := ⟨2, ![1024, 1792]⟩
abbrev S1792x1024 : Shape := ⟨2, ![1792, 1024]⟩
abbrev S1x1024 : Shape := ⟨2, ![1, 1024]⟩
abbrev S2x6x64x128x256 : Shape := ⟨5, ![2, 6, 64, 128, 256]⟩
abbrev S2x16384x768 : Shape := ⟨3, ![2, 16384, 768]⟩
abbrev S2x16384x128 : Shape := ⟨3, ![2, 16384, 128]⟩
abbrev S2x6x64x160x256 : Shape := ⟨5, ![2, 6, 64, 160, 256]⟩
abbrev S2x32x2x2x768 : Shape := ⟨5, ![2, 32, 2, 2, 768]⟩
abbrev S2x256x16384 : Shape := ⟨3, ![2, 256, 16384]⟩
abbrev S1x512x1024 : Shape := ⟨3, ![1, 512, 1024]⟩
abbrev S1x6x2x128x256 : Shape := ⟨5, ![1, 6, 2, 128, 256]⟩
abbrev S1x512x768 : Shape := ⟨3, ![1, 512, 768]⟩
abbrev S1x512x128 : Shape := ⟨3, ![1, 512, 128]⟩
abbrev S1x6x2x160x256 : Shape := ⟨5, ![1, 6, 2, 160, 256]⟩
abbrev S1x1x2x2x768 : Shape := ⟨5, ![1, 1, 2, 2, 768]⟩
abbrev S1x256x512 : Shape := ⟨3, ![1, 256, 512]⟩
abbrev S512x1024 : Shape := ⟨2, ![512, 1024]⟩
abbrev S512 : Shape := ⟨1, ![512]⟩
abbrev S512x1 : Shape := ⟨2, ![512, 1]⟩
abbrev S1792x512 : Shape := ⟨2, ![1792, 512]⟩
abbrev S512x1792 : Shape := ⟨2, ![512, 1792]⟩
abbrev S16x256 : Shape := ⟨2, ![16, 256]⟩
abbrev S128x256 : Shape := ⟨2, ![128, 256]⟩
abbrev S1x1x1x128x256 : Shape := ⟨5, ![1, 1, 1, 128, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S256x512 : Shape := ⟨2, ![256, 512]⟩
abbrev S512x768 : Shape := ⟨2, ![512, 768]⟩
abbrev S512x128 : Shape := ⟨2, ![512, 128]⟩
abbrev S256x768 : Shape := ⟨2, ![256, 768]⟩
abbrev S768 : Shape := ⟨1, ![768]⟩
abbrev S1x768 : Shape := ⟨2, ![1, 768]⟩
abbrev S1x1x1x1x768 : Shape := ⟨5, ![1, 1, 1, 1, 768]⟩

abbrev nBuf : Space → Nat
  | .hbm => 21
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3584, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x256, .f32⟩
  | .hbm, ⟨7, _⟩ => ⟨S1024x1024, .f32⟩
  | .hbm, ⟨8, _⟩ => ⟨S1024x1792, .f32⟩
  | .hbm, ⟨9, _⟩ => ⟨S1792x1024, .f32⟩
  | .hbm, ⟨10, _⟩ => ⟨S1792x1024, .bf16⟩
  | .hbm, ⟨11, _⟩ => ⟨S1024x1792, .f32⟩
  | .hbm, ⟨12, _⟩ => ⟨S1024x1792, .bf16⟩
  | .hbm, ⟨13, _⟩ => ⟨S1x1024, .f32⟩
  | .hbm, ⟨14, _⟩ => ⟨S2x6x64x128x256, .bf16⟩
  | .hbm, ⟨15, _⟩ => ⟨S2x16384x768, .bf16⟩
  | .hbm, ⟨16, _⟩ => ⟨S2x16384x128, .bf16⟩
  | .hbm, ⟨17, _⟩ => ⟨S2x6x64x160x256, .bf16⟩
  | .hbm, ⟨18, _⟩ => ⟨S2x32x2x2x768, .f32⟩
  | .hbm, ⟨19, _⟩ => ⟨S2x256x16384, .bf16⟩
  | .hbm, ⟨20, _⟩ => ⟨S2x16384x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1792x1024, .bf16⟩
  | .local _ .vmem, ⟨4, _⟩ => ⟨S1024x1792, .bf16⟩
  | .local _ .vmem, ⟨5, _⟩ => ⟨S1x6x2x128x256, .bf16⟩
  | .local _ .vmem, ⟨6, _⟩ => ⟨S1x6x2x128x256, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x128, .bf16⟩
  | .local _ .vmem, ⟨10, _⟩ => ⟨S1x512x128, .bf16⟩
  | .local _ .vmem, ⟨11, _⟩ => ⟨S1x6x2x160x256, .bf16⟩
  | .local _ .vmem, ⟨12, _⟩ => ⟨S1x6x2x160x256, .bf16⟩
  | .local _ .vmem, ⟨13, _⟩ => ⟨S1x1x2x2x768, .f32⟩
  | .local _ .vmem, ⟨14, _⟩ => ⟨S1x1x2x2x768, .f32⟩
  | .local _ .vmem, ⟨15, _⟩ => ⟨S1x256x512, .bf16⟩
  | .local _ .vmem, ⟨16, _⟩ => ⟨S1x256x512, .bf16⟩
  | .local _ .vmem, ⟨17, _⟩ => ⟨S1x512x1024, .bf16⟩
  | .local _ .vmem, ⟨18, _⟩ => ⟨S1x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev main_v11_4 : Ref sig .tc := ⟨.hbm, 18, rfl⟩
abbrev main_v11_5 : Ref sig .tc := ⟨.hbm, 19, rfl⟩
abbrev main_v11_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x2x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x2x160x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x2x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x16384x1024 : Shape := ⟨3, ![2, 16384, 1024]⟩
abbrev S1024 : Shape := ⟨1, ![1024]⟩
abbrev S1024x3584 : Shape := ⟨2, ![1024, 3584]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3584 : Shape := ⟨3, ![2, 16384, 3584]⟩
abbrev S2x16384x768 : Shape := ⟨3, ![2, 16384, 768]⟩
abbrev S2x16384x256 : Shape := ⟨3, ![2, 16384, 256]⟩
abbrev S2x64x256x6x128 : Shape := ⟨5, ![2, 64, 256, 6, 128]⟩
abbrev S2x6x64x128x256 : Shape := ⟨5, ![2, 6, 64, 128, 256]⟩
abbrev S2x64x256x6x2x64 : Shape := ⟨6, ![2, 64, 256, 6, 2, 64]⟩
abbrev S2x6x64x2x64x256 : Shape := ⟨6, ![2, 6, 64, 2, 64, 256]⟩
abbrev S2x6x64x2x16x256 : Shape := ⟨6, ![2, 6, 64, 2, 16, 256]⟩
abbrev S2x6x64x2x80x256 : Shape := ⟨6, ![2, 6, 64, 2, 80, 256]⟩
abbrev S2x6x64x160x256 : Shape := ⟨5, ![2, 6, 64, 160, 256]⟩
abbrev S2x256x16384 : Shape := ⟨3, ![2, 256, 16384]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3584, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x3584, .f32⟩
  | .hbm, ⟨20, _⟩ => ⟨S2x16384x768, .f32⟩
  | .hbm, ⟨21, _⟩ => ⟨S2x16384x768, .f32⟩
  | .hbm, ⟨22, _⟩ => ⟨S2x16384x768, .f32⟩
  | .hbm, ⟨23, _⟩ => ⟨S2x16384x256, .f32⟩
  | .hbm, ⟨24, _⟩ => ⟨S2x16384x1024, .f32⟩
  | .hbm, ⟨25, _⟩ => ⟨S2x64x256x6x128, .f32⟩
  | .hbm, ⟨26, _⟩ => ⟨S2x6x64x128x256, .f32⟩
  | .hbm, ⟨27, _⟩ => ⟨S2x64x256x6x2x64, .f32⟩
  | .hbm, ⟨28, _⟩ => ⟨S2x6x64x2x64x256, .f32⟩
  | .hbm, ⟨29, _⟩ => ⟨S_, .f32⟩
  | .hbm, ⟨30, _⟩ => ⟨S2x6x64x2x16x256, .f32⟩
  | .hbm, ⟨31, _⟩ => ⟨S2x6x64x2x80x256, .f32⟩
  | .hbm, ⟨32, _⟩ => ⟨S2x6x64x160x256, .f32⟩
  | .hbm, ⟨33, _⟩ => ⟨S2x6x64x128x256, .bf16⟩
  | .hbm, ⟨34, _⟩ => ⟨S2x16384x768, .bf16⟩
  | .hbm, ⟨35, _⟩ => ⟨S2x6x64x160x256, .bf16⟩
  | .hbm, ⟨36, _⟩ => ⟨S2x256x16384, .f32⟩
  | .hbm, ⟨37, _⟩ => ⟨S2x256x16384, .bf16⟩
  | .hbm, ⟨38, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel4.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S1024x2304 : Shape := ⟨2, ![1024, 2304]⟩
abbrev S_ : Shape := ⟨0, ![]⟩
abbrev S2x256x16384 : Shape := ⟨3, ![2, 256, 16384]⟩
abbrev S2x4x256x256 : Shape := ⟨4, ![2, 4, 256, 256]⟩
abbrev S2x1x256x256 : Shape := ⟨4, ![2, 1, 256, 256]⟩
abbrev S2x4x64x256 : Shape := ⟨4, ![2, 4, 64, 256]⟩
abbrev S2x4x16x256 : Shape := ⟨4, ![2, 4, 16, 256]⟩
abbrev S2x4x80x256 : Shape := ⟨4, ![2, 4, 80, 256]⟩
abbrev S2x320x256 : Shape := ⟨3, ![2, 320, 256]⟩
abbrev S1x1024 : Shape := ⟨2, ![1, 1024]⟩
abbrev S1024x768 : Shape := ⟨2, ![1024, 768]⟩
abbrev S1024x128 : Shape := ⟨2, ![1024, 128]⟩
abbrev S1024x256 : Shape := ⟨2, ![1024, 256]⟩
abbrev S1024x1152 : Shape := ⟨2, ![1024, 1152]⟩
abbrev S1152x1024 : Shape := ⟨2, ![1152, 1024]⟩
abbrev S2x768x16384 : Shape := ⟨3, ![2, 768, 16384]⟩
abbrev S2x16384x128 : Shape := ⟨3, ![2, 16384, 128]⟩
abbrev S2x160x16384 : Shape := ⟨3, ![2, 160, 16384]⟩
abbrev S1x512x768 : Shape := ⟨3, ![1, 512, 768]⟩
abbrev S1x256x512 : Shape := ⟨3, ![1, 256, 512]⟩
abbrev S1x512x1024 : Shape := ⟨3, ![1, 512, 1024]⟩
abbrev S1x4x256x256 : Shape := ⟨4, ![1, 4, 256, 256]⟩
abbrev S1x320x256 : Shape := ⟨3, ![1, 320, 256]⟩
abbrev S1x768x512 : Shape := ⟨3, ![1, 768, 512]⟩
abbrev S1x512x128 : Shape := ⟨3, ![1, 512, 128]⟩
abbrev S1x160x512 : Shape := ⟨3, ![1, 160, 512]⟩
abbrev S256x512 : Shape := ⟨2, ![256, 512]⟩
abbrev S1x1x256x256 : Shape := ⟨4, ![1, 1, 256, 256]⟩
abbrev S256x256 : Shape := ⟨2, ![256, 256]⟩
abbrev S512 : Shape := ⟨1, ![512]⟩
abbrev S1x512 : Shape := ⟨2, ![1, 512]⟩
abbrev S1x80x256 : Shape := ⟨3, ![1, 80, 256]⟩
abbrev S80x256 : Shape := ⟨2, ![80, 256]⟩
abbrev S80x512 : Shape := ⟨2, ![80, 512]⟩
abbrev S64x512 : Shape := ⟨2, ![64, 512]⟩
abbrev S512x256 : Shape := ⟨2, ![512, 256]⟩
abbrev S512x768 : Shape := ⟨2, ![512, 768]⟩
abbrev S512x1024 : Shape := ⟨2, ![512, 1024]⟩
abbrev S512x1 : Shape := ⟨2, ![512, 1]⟩
abbrev S1152x512 : Shape := ⟨2, ![1152, 512]⟩
abbrev S512x1152 : Shape := ⟨2, ![512, 1152]⟩
abbrev S768x512 : Shape := ⟨2, ![768, 512]⟩
abbrev S1x64x512 : Shape := ⟨3, ![1, 64, 512]⟩
abbrev S16x512 : Shape := ⟨2, ![16, 512]⟩
abbrev S1x16x512 : Shape := ⟨3, ![1, 16, 512]⟩
abbrev S512x128 : Shape := ⟨2, ![512, 128]⟩

abbrev nBuf : Space → Nat
  | .hbm => 64
  | .vmem => 28
  | .smem => 0
  | _ => 0

abbrev bufTy : (tb : Table) → Fin (tcTables nBuf tb) → BufTy
  | .hbm, ⟨0, _⟩ => ⟨S2x16384x768, .f32⟩
  | .hbm, ⟨1, _⟩ => ⟨S2x16384x256, .f32⟩
  | .hbm, ⟨2, _⟩ => ⟨S2x256x256, .f32⟩
  | .hbm, ⟨3, _⟩ => ⟨S2x256x256, .f32⟩
  | .hbm, ⟨4, _⟩ => ⟨S2x16384x1024, .f32⟩
  | .hbm, ⟨5, _⟩ => ⟨S2x16384x1024, .f32⟩
  | .hbm, ⟨6, _⟩ => ⟨S1024x1024, .f32⟩
  | .hbm, ⟨7, _⟩ => ⟨S1024, .f32⟩
  | .hbm, ⟨8, _⟩ => ⟨S1024x2304, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16384x256, .f32⟩
  | .hbm, ⟨16, _⟩ => ⟨S2x16384x256, .f32⟩
  | .hbm, ⟨17, _⟩ => ⟨S2x256x16384, .f32⟩
  | .hbm, ⟨18, _⟩ => ⟨S2x256x16384, .bf16⟩
  | .hbm, ⟨19, _⟩ => ⟨S2x4x256x256, .i32⟩
  | .hbm, ⟨20, _⟩ => ⟨S_, .i32⟩
  | .hbm, ⟨21, _⟩ => ⟨S2x4x256x256, .i32⟩
  | .hbm, ⟨22, _⟩ => ⟨S2x4x256x256, .i32⟩
  | .hbm, ⟨23, _⟩ => ⟨S2x4x256x256, .i32⟩
  | .hbm, ⟨24, _⟩ => ⟨S2x4x256x256, .i1⟩
  | .hbm, ⟨25, _⟩ => ⟨S_, .i32⟩
  | .hbm, ⟨26, _⟩ => ⟨S2x4x256x256, .i32⟩
  | .hbm, ⟨27, _⟩ => ⟨S2x4x256x256, .i32⟩
  | .hbm, ⟨28, _⟩ => ⟨S2x4x256x256, .i1⟩
  | .hbm, ⟨29, _⟩ => ⟨S2x4x256x256, .i1⟩
  | .hbm, ⟨30, _⟩ => ⟨S2x1x256x256, .f32⟩
  | .hbm, ⟨31, _⟩ => ⟨S_, .f32⟩
  | .hbm, ⟨32, _⟩ => ⟨S_, .f32⟩
  | .hbm, ⟨33, _⟩ => ⟨S2x4x256x256, .f32⟩
  | .hbm, ⟨34, _⟩ => ⟨S2x4x256x256, .f32⟩
  | .hbm, ⟨35, _⟩ => ⟨S2x4x256x256, .f32⟩
  | .hbm, ⟨36, _⟩ => ⟨S2x4x256x256, .bf16⟩
  | .hbm, ⟨37, _⟩ => ⟨S2x256x256, .f32⟩
  | .hbm, ⟨38, _⟩ => ⟨S2x4x64x256, .f32⟩
  | .hbm, ⟨39, _⟩ => ⟨S_, .f32⟩
  | .hbm, ⟨40, _⟩ => ⟨S2x4x16x256, .f32⟩
  | .hbm, ⟨41, _⟩ => ⟨S2x4x80x256, .f32⟩
  | .hbm, ⟨42, _⟩ => ⟨S2x320x256, .f32⟩
  | .hbm, ⟨43, _⟩ => ⟨S2x320x256, .bf16⟩
  | .hbm, ⟨44, _⟩ => ⟨S2x16384x768, .bf16⟩
  | .hbm, ⟨45, _⟩ => ⟨S2x16384x1024, .bf16⟩
  | .hbm, ⟨46, _⟩ => ⟨S1024x1024, .bf16⟩
  | .hbm, ⟨47, _⟩ => ⟨S1x1024, .f32⟩
  | .hbm, ⟨48, _⟩ => ⟨S1024x768, .f32⟩
  | .hbm, ⟨49, _⟩ => ⟨S1024x128, .f32⟩
  | .hbm, ⟨50, _⟩ => ⟨S1024x128, .f32⟩
  | .hbm, ⟨51, _⟩ => ⟨S1024x256, .f32⟩
  | .hbm, ⟨52, _⟩ => ⟨S1024x1024, .f32⟩
  | .hbm, ⟨53, _⟩ => ⟨S1024x1152, .f32⟩
  | .hbm, ⟨54, _⟩ => ⟨S1152x1024, .f32⟩
  | .hbm, ⟨55, _⟩ => ⟨S1152x1024, .bf16⟩
  | .hbm, ⟨56, _⟩ => ⟨S1024x1152, .f32⟩
  | .hbm, ⟨57, _⟩ => ⟨S1024x1152, .bf16⟩
  | .hbm, ⟨58, _⟩ => ⟨S2x16384x1024, .f32⟩
  | .hbm, ⟨59, _⟩ => ⟨S2x768x16384, .bf16⟩
  | .hbm, ⟨60, _⟩ => ⟨S2x16384x128, .bf16⟩
  | .hbm, ⟨61, _⟩ => ⟨S2x160x16384, .bf16⟩
  | .hbm, ⟨62, _⟩ => ⟨S2x256x16384, .bf16⟩
  | .hbm, ⟨63, _⟩ => ⟨S2x16384x1024, .bf16⟩
  | .local _ .vmem, ⟨0, _⟩ => ⟨S1x512x768, .bf16⟩
  | .local _ .vmem, ⟨1, _⟩ => ⟨S1x512x768, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x4x256x256, .bf16⟩
  | .local _ .vmem, ⟨9, _⟩ => ⟨S1x4x256x256, .bf16⟩
  | .local _ .vmem, ⟨10, _⟩ => ⟨S1x320x256, .bf16⟩
  | .local _ .vmem, ⟨11, _⟩ => ⟨S1x320x256, .bf16⟩
  | .local _ .vmem, ⟨12, _⟩ => ⟨S1024x1024, .bf16⟩
  | .local _ .vmem, ⟨13, _⟩ => ⟨S1x1024, .f32⟩
  | .local _ .vmem, ⟨14, _⟩ => ⟨S1152x1024, .bf16⟩
  | .local _ .vmem, ⟨15, _⟩ => ⟨S1024x1152, .bf16⟩
  | .local _ .vmem, ⟨16, _⟩ => ⟨S1x512x1024, .f32⟩
  | .local _ .vmem, ⟨17, _⟩ => ⟨S1x512x1024, .f32⟩
  | .local _ .vmem, ⟨18, _⟩ => ⟨S1x768x512, .bf16⟩
  | .local _ .vmem, ⟨19, _⟩ => ⟨S1x768x512, .bf16⟩
  | .local _ .vmem, ⟨20, _⟩ => ⟨S1x512x128, .bf16⟩
  | .local _ .vmem, ⟨21, _⟩ => ⟨S1x512x128, .bf16⟩
  | .local _ .vmem, ⟨22, _⟩ => ⟨S1x160x512, .bf16⟩
  | .local _ .vmem, ⟨23, _⟩ => ⟨S1x160x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x512x1024, .bf16⟩
  | .local _ .vmem, ⟨27, _⟩ => ⟨S1x512x1024, .bf16⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev main_v39_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1152x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1152 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x160x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S2x16384x768 : Shape := ⟨3, ![2, 16384, 768]⟩
abbrev S2x16384x256 : Shape := ⟨3, ![2, 16384, 256]⟩
abbrev S2x256x256 : Shape := ⟨3, ![2, 256, 256]⟩
abbrev S2x16384x1024 : Shape := ⟨3, ![2, 16384, 1024]⟩
abbrev S1024x1024 : Shape := ⟨2, ![1024, 1024]⟩
abbrev S1024 : Shape := ⟨1, ![1024]⟩
abbrev S1024x2304 : Shape := ⟨2, ![1024, 2304]⟩
abbrev S2x16384x4x64 : Shape := ⟨4, ![2, 16384, 4, 64]⟩
abbrev S2x256x4x64 : Shape := ⟨4, ![2, 256, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2304 : Shape := ⟨3, ![2, 16384, 2304]⟩
abbrev S2x16384x128 : Shape := ⟨3, ![2, 16384, 128]⟩
abbrev S2x128x16384 : Shape := ⟨3, ![2, 128, 16384]⟩
abbrev S2x2x64x16384 : Shape := ⟨4, ![2, 2, 64, 16384]⟩
abbrev S2x2x16x16384 : Shape := ⟨4, ![2, 2, 16, 16384]⟩
abbrev S2x2x80x16384 : Shape := ⟨4, ![2, 2, 80, 16384]⟩
abbrev S2x160x16384 : Shape := ⟨3, ![2, 160, 16384]⟩
abbrev S2x768x16384 : Shape := ⟨3, ![2, 768, 16384]⟩
abbrev S2x256x16384 : Shape := ⟨3, ![2, 256, 16384]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x16384x256, .f32⟩
  | .hbm, ⟨2, _⟩ => ⟨S2x256x256, .f32⟩
  | .hbm, ⟨3, _⟩ => ⟨S2x256x256, .f32⟩
  | .hbm, ⟨4, _⟩ => ⟨S2x16384x1024, .f32⟩
  | .hbm, ⟨5, _⟩ => ⟨S2x16384x1024, .f32⟩
  | .hbm, ⟨6, _⟩ => ⟨S1024x1024, .f32⟩
  | .hbm, ⟨7, _⟩ => ⟨S1024, .f32⟩
  | .hbm, ⟨8, _⟩ => ⟨S1024x2304, .f32⟩
  | .hbm, ⟨9, _⟩ => ⟨S2x16384x4x64, .f32⟩
  | .hbm, ⟨10, _⟩ => ⟨S2x256x4x64, .f32⟩
  | .hbm, ⟨11, _⟩ => ⟨S2x256x4x64, .f32⟩
  | .hbm, ⟨12, _⟩ => ⟨S2x4x16384x256, .f32⟩
  | .hbm, ⟨13, _⟩ => ⟨S_, .f32⟩
  | .hbm, ⟨14, _⟩ => ⟨S2x4x16384x256, .f32⟩
  | .hbm, ⟨15, _⟩ => ⟨S2x4x16384x256, .f32⟩
  | .hbm, ⟨16, _⟩ => ⟨S_, .f32⟩
  | .hbm, ⟨17, _⟩ => ⟨S2x4x16384, .f32⟩
  | .hbm, ⟨18, _⟩ => ⟨S_, .f32⟩
  | .hbm, ⟨19, _⟩ => ⟨S2x4x16384, .f32⟩
  | .hbm, ⟨20, _⟩ => ⟨S2x4x16384, .f32⟩
  | .hbm, ⟨21, _⟩ => ⟨S2x4x16384x1, .f32⟩
  | .hbm, ⟨22, _⟩ => ⟨S2x4x16384x256, .f32⟩
  | .hbm, ⟨23, _⟩ => ⟨S2x4x16384x256, .f32⟩
  | .hbm, ⟨24, _⟩ => ⟨S2x4x16384x256, .f32⟩
  | .hbm, ⟨25, _⟩ => ⟨S_, .f32⟩
  | .hbm, ⟨26, _⟩ => ⟨S2x4x16384, .f32⟩
  | .hbm, ⟨27, _⟩ => ⟨S2x4x16384x1, .f32⟩
  | .hbm, ⟨28, _⟩ => ⟨S2x4x16384x256, .f32⟩
  | .hbm, ⟨29, _⟩ => ⟨S2x4x16384x256, .f32⟩
  | .hbm, ⟨30, _⟩ => ⟨S2x4x64x16384, .f32⟩
  | .hbm, ⟨31, _⟩ => ⟨S2x16384x4x64, .f32⟩
  | .hbm, ⟨32, _⟩ => ⟨S2x16384x256, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S2x16384x2304, .f32⟩
  | .hbm, ⟨60, _⟩ => ⟨S2x16384x768, .f32⟩
  | .hbm, ⟨61, _⟩ => ⟨S2x16384x128, .f32⟩
  | .hbm, ⟨62, _⟩ => ⟨S2x16384x128, .f32⟩
  | .hbm, ⟨63, _⟩ => ⟨S2x16384x256, .f32⟩
  | .hbm, ⟨64, _⟩ => ⟨S2x16384x1024, .f32⟩
  | .hbm, ⟨65, _⟩ => ⟨S2x128x16384, .f32⟩
  | .hbm, ⟨66, _⟩ => ⟨S2x2x64x16384, .f32⟩
  | .hbm, ⟨67, _⟩ => ⟨S_, .f32⟩
  | .hbm, ⟨68, _⟩ => ⟨S2x2x16x16384, .f32⟩
  | .hbm, ⟨69, _⟩ => ⟨S2x2x80x16384, .f32⟩
  | .hbm, ⟨70, _⟩ => ⟨S2x160x16384, .f32⟩
  | .hbm, ⟨71, _⟩ => ⟨S2x768x16384, .f32⟩
  | .hbm, ⟨72, _⟩ => ⟨S2x768x16384, .bf16⟩
  | .hbm, ⟨73, _⟩ => ⟨S2x16384x128, .bf16⟩
  | .hbm, ⟨74, _⟩ => ⟨S2x160x16384, .bf16⟩
  | .hbm, ⟨75, _⟩ => ⟨S2x256x16384, .f32⟩
  | .hbm, ⟨76, _⟩ => ⟨S2x256x16384, .bf16⟩
  | .hbm, ⟨77, _⟩ => ⟨S2x16384x1024, .bf16⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole window's staging buffer held at contents `x`. -/
abbrev at' (c : Dev nD) {S : Shape} {e : EltTy} (M : Memref sig .tc .vmem S e) (x : S.Idx → Elt F e) : sProp 𝕄 :=
  M.view.loc (c : Thread nD τ) ↦[M.view.set]{fullShare} M.view.rep x

noncomputable def kernelRun (c : Dev nD) (i : grid0.Coords)
    (arg2 : Memref sig .tc .vmem S1x768x256 .bf16) (harg2 : arg2.IsWhole) (arg3 : Memref sig .tc .vmem S1x128x128 .bf16) (harg3 : arg3.IsWhole)
    (arg4 : Memref sig .tc .vmem S1x256x128 .bf16) (harg4 : arg4.IsWhole) (arg5 : Memref sig .tc .vmem S1x160x128 .bf16) (harg5 : arg5.IsWhole)
    (arg6 : Memref sig .tc .vmem S1x160x256 .bf16) (harg6 : arg6.IsWhole) (arg7 : Memref sig .tc .vmem S2x2x256x768 .f32) (harg7 : arg7.IsWhole)
    (arg8 : Memref sig .tc .vmem S12x1x256 .f32) (harg8 : arg8.IsWhole) (arg9 : Memref sig .tc .vmem S1x256x768 .bf16) (harg9 : arg9.IsWhole)
    (x2 : Vec F S1x768x256 .bf16) (x3 : Vec F S1x128x128 .bf16) (x4 : Vec F S1x256x128 .bf16) (x5 : Vec F S1x160x128 .bf16)
    (x6 : Vec F S1x160x256 .bf16) (x7 : Vec F S2x2x256x768 .f32) (x8 : Vec F S12x1x256 .f32) :
    Σ' (b : BitVec 1) (L₁ : List (View.Piece (Elt F) S1x256x768 .bf16)), { L₂ : List (View.Piece (Elt F) S1x256x768 .bf16) // ∀ (x9 : Vec F S1x256x768 .bf16) (fs : Buf (Elt F) ((Memref.whole cc0_scratch0).view.loc (c : Thread nD τ))) (K : PUnit → sProp 𝕄),
      iprop(at' c arg2 x2 ∗ at' c arg3 x3 ∗ at' c arg4 x4 ∗ at' c arg5 x5 ∗ at' c arg6 x6 ∗ at' c arg7 x7 ∗ at' c arg8 x8
          ∗ at' c arg9 x9 ∗ ((Memref.whole cc0_scratch0).view.loc (c : Thread nD τ) ↦{fullShare} fs)
          ∗ (iprop(at' c arg2 x2 ∗ at' c arg3 x3 ∗ at' c arg4 x4 ∗ at' c arg5 x5 ∗ at' c arg6 x6 ∗ at' c arg7 x7 ∗ at' c arg8 x8
              ∗ (∃ f, arg9.view.loc (c : Thread nD τ) ↦[arg9.view.set]{fullShare}
                  if _hc : b = 1#1 then arg9.view.writes (Elt F) f L₁ else arg9.view.writes (Elt F) f L₂)
              ∗ (∃ f, (Memref.whole cc0_scratch0).view.loc (c : Thread nD τ) ↦{fullShare} f)) -∗ K ⟨⟩))
        ⊢ wp frame (wpE (defs₀ (F := F)) Variants.none c none) Set.univ
            (cc0_swa_attention i arg2 harg2 arg3 harg3 arg4 harg4 arg5 harg5 arg6 harg6 arg7 harg7 arg8 harg8 arg9 harg9
              (Memref.whole cc0_scratch0) (Memref.isWhole_whole _)) K } := by
  refine ⟨?_, ?_, ?_, fun x9 fs K => ?run⟩
  case run =>
    have hA : (Memref.whole cc0_scratch0).IsWhole := Memref.isWhole_whole _
    rw [cc0_swa_attention_eq_skeleton]; unfold cc0_swa_attention_skel
    unfold at'
    iintro ⟨H2, H3, H4, H5, H6, H7, H8, H9, HS, Hk⟩
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact HS

end Cert.KernelIdeal.Hand

end
-- ==== Proof.Run.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem cover₁ (c : Dev nD) (i : grid0.Coords)
    (arg2 : Memref sig .tc .vmem S1x768x256 .bf16) (harg2 : arg2.IsWhole) (arg3 : Memref sig .tc .vmem S1x128x128 .bf16) (harg3 : arg3.IsWhole)
    (arg4 : Memref sig .tc .vmem S1x256x128 .bf16) (harg4 : arg4.IsWhole) (arg5 : Memref sig .tc .vmem S1x160x128 .bf16) (harg5 : arg5.IsWhole)
    (arg6 : Memref sig .tc .vmem S1x160x256 .bf16) (harg6 : arg6.IsWhole) (arg7 : Memref sig .tc .vmem S2x2x256x768 .f32) (harg7 : arg7.IsWhole)
    (arg8 : Memref sig .tc .vmem S12x1x256 .f32) (harg8 : arg8.IsWhole) (arg9 : Memref sig .tc .vmem S1x256x768 .bf16) (harg9 : arg9.IsWhole)
    (x2 : Vec F S1x768x256 .bf16) (x3 : Vec F S1x128x128 .bf16) (x4 : Vec F S1x256x128 .bf16) (x5 : Vec F S1x160x128 .bf16)
    (x6 : Vec F S1x160x256 .bf16) (x7 : Vec F S2x2x256x768 .f32) (x8 : Vec F S12x1x256 .f32) (y : S1x256x768.Idx) :
    ∃ pc ∈ (kernelRun c i arg2 harg2 arg3 harg3 arg4 harg4 arg5 harg5 arg6 harg6 arg7 harg7 arg8 harg8 arg9 harg9 x2 x3 x4 x5 x6 x7 x8).2.1, y ∈ pc.1.set :=
  View.cover_of_tiledL (kernelRun c i arg2 harg2 arg3 harg3 arg4 harg4 arg5 harg5 arg6 harg6 arg7 harg7 arg8 harg8 arg9 harg9 x2 x3 x4 x5 x6 x7 x8).2.1 S1x256x768.size (by sl_kernel_rfl) y

theorem cover₂ (c : Dev nD) (i : grid0.Coords)
    (arg2 : Memref sig .tc .vmem S1x768x256 .bf16) (harg2 : arg2.IsWhole) (arg3 : Memref sig .tc .vmem S1x128x128 .bf16) (harg3 : arg3.IsWhole)
    (arg4 : Memref sig .tc .vmem S1x256x128 .bf16) (harg4 : arg4.IsWhole) (arg5 : Memref sig .tc .vmem S1x160x128 .bf16) (harg5 : arg5.IsWhole)
    (arg6 : Memref sig .tc .vmem S1x160x256 .bf16) (harg6 : arg6.IsWhole) (arg7 : Memref sig .tc .vmem S2x2x256x768 .f32) (harg7 : arg7.IsWhole)
    (arg8 : Memref sig .tc .vmem S12x1x256 .f32) (harg8 : arg8.IsWhole) (arg9 : Memref sig .tc .vmem S1x256x768 .bf16) (harg9 : arg9.IsWhole)
    (x2 : Vec F S1x768x256 .bf16) (x3 : Vec F S1x128x128 .bf16) (x4 : Vec F S1x256x128 .bf16) (x5 : Vec F S1x160x128 .bf16)
    (x6 : Vec F S1x160x256 .bf16) (x7 : Vec F S2x2x256x768 .f32) (x8 : Vec F S12x1x256 .f32) (y : S1x256x768.Idx) :
    ∃ pc ∈ (kernelRun c i arg2 harg2 arg3 harg3 arg4 harg4 arg5 harg5 arg6 harg6 arg7 harg7 arg8 harg8 arg9 harg9 x2 x3 x4 x5 x6 x7 x8).2.2.1, y ∈ pc.1.set :=
  View.cover_of_tiledL (kernelRun c i arg2 harg2 arg3 harg3 arg4 harg4 arg5 harg5 arg6 harg6 arg7 harg7 arg8 harg8 arg9 harg9 x2 x3 x4 x5 x6 x7 x8).2.2.1 S1x256x768.size (by sl_kernel_rfl) y

/-- What the body leaves in the result's buffer: the second store's value where the denominators left the range, else the first's. -/
def out (c : Dev nD) (i : grid0.Coords)
    (arg2 : Memref sig .tc .vmem S1x768x256 .bf16) (harg2 : arg2.IsWhole) (arg3 : Memref sig .tc .vmem S1x128x128 .bf16) (harg3 : arg3.IsWhole)
    (arg4 : Memref sig .tc .vmem S1x256x128 .bf16) (harg4 : arg4.IsWhole) (arg5 : Memref sig .tc .vmem S1x160x128 .bf16) (harg5 : arg5.IsWhole)
    (arg6 : Memref sig .tc .vmem S1x160x256 .bf16) (harg6 : arg6.IsWhole) (arg7 : Memref sig .tc .vmem S2x2x256x768 .f32) (harg7 : arg7.IsWhole)
    (arg8 : Memref sig .tc .vmem S12x1x256 .f32) (harg8 : arg8.IsWhole) (arg9 : Memref sig .tc .vmem S1x256x768 .bf16) (harg9 : arg9.IsWhole)
    (x2 : Vec F S1x768x256 .bf16) (x3 : Vec F S1x128x128 .bf16) (x4 : Vec F S1x256x128 .bf16) (x5 : Vec F S1x160x128 .bf16)
    (x6 : Vec F S1x160x256 .bf16) (x7 : Vec F S2x2x256x768 .f32) (x8 : Vec F S12x1x256 .f32) : Vec F S1x256x768 .bf16 :=
  let r := kernelRun c i arg2 harg2 arg3 harg3 arg4 harg4 arg5 harg5 arg6 harg6 arg7 harg7 arg8 harg8 arg9 harg9 x2 x3 x4 x5 x6 x7 x8
  if r.1 = 1#1 then arg9.view.read (Elt F) (arg9.view.writes (Elt F) arg9.view.junk r.2.1)
  else arg9.view.read (Elt F) (arg9.view.writes (Elt F) arg9.view.junk r.2.2.1)

variable (m : (ℓ : Loc nD τ sig) → Buf (Elt F) ℓ) (ρ : Dev nD → PrngReg)

/-- The result's block at point `t`. -/
def outAt (c : Dev nD) (t : Fin cfg0.N) : Vec F S1x256x768 .bf16 :=
  out c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t) (iblk m c 6 t)

/-- The proof data: the arrays as the region finds them; after the body each input's block in place and the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

/-- The input windows' buffers hold their blocks when the body runs. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

/-- The body at a point, from the windows' blocks to the result's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [after0, after1, after2, after3, after4, after5, after6, after7]
  rw [show (dats m 0 c).Φ t.succ = Pipeline.ΦA spec0 c from rfl, show (dats m 0 c).Φ t.castSucc = Pipeline.ΦA spec0 c from rfl]
  unfold Dat.owesAt Pipeline.owesWithin
  rw [show (dats m 0 c).owed t.castSucc = 0 from rfl, show (dats m 0 c).owed t.succ = 0 from rfl]
  unfold Pipeline.ΦA; rw [scopedRest0_eq]
  simp only [owns_eq_rep (Val := Elt F)]
  iintro ⟨⟨⟨%fs, HS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t) (iblk m c 6 t)).2.2.2 _ fs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, ⟨%f, H7⟩, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← owns_eq_rep (Val := Elt F)]
  unfold owns; iexists _; isplitr
  swap; · iexact H7
  ipureintro
  unfold outAt out
  split
  next h => rw [if_pos h]; exact View.read_writes_of_cover _ _ _ _ _ (cover₁ c _ _ _ _ _ _ _ _ _ _ _ _ _ _ _ _ _ _ _ _ _ _ _ _)
  next h => rw [if_neg h]; exact View.read_writes_of_cover _ _ _ _ _ (cover₂ c _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends, every array the pipeline writes at the proof data's contents, every other as it was, all counters zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.KernelIdeal.Hand

end
-- ==== Proof.Frames.lean ====
/-
  The programs end, leave their arguments as they were, and leave every counter at zero; and the named constant is one over log 2.
-/
module

public import proofs.«01_k».proof.Defs
public import proofs.«01_k».proof.Proof.Run
public import proofs.«01_k».proof.Proof.RunBits
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite.Facts := Cert.Pre_finite.Gen.facts

section
open Cert.Kernel Cert.Kernel.Gen Cert.Kernel.Hand

theorem kernel_frame : Cert.quiescent_Kernel := fun m g _ =>
  (θ_run Cert.Kernel.defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m g)
end

section
open Cert.KernelIdeal Cert.KernelIdeal.Gen Cert.KernelIdeal.Hand

theorem ideal_run (m : (ℓ : Loc nD τ sig) → Buf (Elt Ideal) ℓ) (g : Dev nD → PrngReg) :
    θ_run (defs (F := Ideal)) (onTc (τ := τ) (main (F := Ideal))) ⟨m, fun _ => 0, g⟩ (fun r =>
      ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
      ∧ ∀ c : Dev nD, r.2.mem ((c.tc : Thread nD τ).loc main_v46) = (dats m 0 c).arrAt 7 cfg0.N) :=
  (θ_run defs _ _).mono (fun _ h => ⟨⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩,
      fun c => (h.1 c).1 7⟩) (run_main m g)

theorem ideal_frame : Cert.quiescent_KernelIdeal := fun m g _ => (θ_run defs _ _).mono (fun _ h => h.1) (ideal_run m g)

theorem ideal_frame_finite : Cert.quiescent_KernelIdeal_pre_finite := fun m g _ => (θ_run defs _ _).mono (fun _ h => h.1) (ideal_run m g)
end

theorem reference_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem reference_frame_finite : Cert.quiescent_ReferenceIdeal_pre_finite := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem constant_kept : Cert.preserves_Kernel_KernelIdeal := by
  unfold Cert.preserves_Kernel_KernelIdeal
  exact IdealRules.named_const.statement Cert.KernelIdeal.κ "log2e" .f32 0x3FB8AA3B#32 (((Real.log 2)⁻¹ : ℝ) : EReal) rfl

end Cert.Proof

end
-- ==== Proof.Softmax.lean ====
/-
  The mathematics of attention with a sink over the extended reals: three ways to write a softmax that has one more
  weight in its denominator give the same combination of the values.
-/
module

public import Idealize.ShloMosaic.PureOps.Ideal

@[expose] public section

noncomputable section

namespace Cert.Softmax

open Idealize.ShloMosaic

/-- The weight of a logit in base two: `2 ^ x`, nothing for a masked key. -/
def w2 (x : EReal) : ℝ := if x = ⊥ then 0 else (2 : ℝ) ^ x.toReal

theorem w2_nonneg (x : EReal) : 0 ≤ w2 x := by
  unfold w2; split
  · exact le_rfl
  · exact (Real.rpow_pos_of_pos two_pos _).le

theorem w2_coe (x : ℝ) : w2 (x : EReal) = (2 : ℝ) ^ x := by
  unfold w2; rw [if_neg (EReal.coe_ne_bot x), EReal.toReal_coe]

theorem w2_coe_pos (x : ℝ) : 0 < w2 (x : EReal) := by
  rw [w2_coe]; exact Real.rpow_pos_of_pos two_pos _

/-- The combination of values all of the programs compute. -/
def combine {n : ℕ} (S : Fin n → EReal) (t : EReal) (V : Fin n → EReal) : EReal :=
  ∑ l, V l * ((w2 (S l) / ((∑ j, w2 (S j)) + w2 t) : ℝ) : EReal)

/-- A power of two of a logit less a real number. -/
theorem exp2_sub {x : EReal} (hx : x ≠ ⊤) (a : ℝ) :
    Ideal.exp2 (x - (a : EReal)) = ((w2 x * (2 : ℝ) ^ (-a) : ℝ) : EReal) := by
  induction x with
  | bot => rw [EReal.bot_sub, Ideal.exp2_bot]; simp [w2]
  | top => exact absurd rfl hx
  | coe x =>
    rw [← EReal.coe_sub, Ideal.exp2_coe, w2_coe]
    show (((2 : ℝ) ^ (x - a) : ℝ) : EReal) = _
    rw [sub_eq_add_neg, Real.rpow_add two_pos]

/-- A sum of reals is the real of the sum. -/
theorem coe_sum {n : ℕ} (f : Fin n → ℝ) : (∑ l, ((f l : ℝ) : EReal)) = ((∑ l, f l : ℝ) : EReal) := by
  have : ∀ s : Finset (Fin n), (∑ l ∈ s, ((f l : ℝ) : EReal)) = ((∑ l ∈ s, f l : ℝ) : EReal) := fun s => by
    induction s using Finset.induction_on with
    | empty => simp
    | insert a s ha ih => rw [Finset.sum_insert ha, Finset.sum_insert ha, ih, EReal.coe_add]
  exact this _

/-- A nonnegative real factor moves into a sum. -/
theorem sum_mul_coe {n : ℕ} (f : Fin n → EReal) {r : ℝ} (hr : 0 ≤ r) :
    (∑ l, f l) * (r : EReal) = ∑ l, f l * (r : EReal) := by
  have : ∀ s : Finset (Fin n), (∑ l ∈ s, f l) * (r : EReal) = ∑ l ∈ s, f l * (r : EReal) := fun s => by
    induction s using Finset.induction_on with
    | empty => simp
    | insert a s ha ih =>
      rw [Finset.sum_insert ha, Finset.sum_insert ha, ← ih,
        EReal.right_distrib_of_nonneg_of_ne_top (EReal.coe_nonneg.mpr hr) (EReal.coe_ne_top r)]
  exact this _

/-- The quotient taken after the sum: weights all scaled by one positive number. -/
theorem after_sum {n : ℕ} (W : Fin n → ℝ) (hW : ∀ l, 0 ≤ W l) {T K : ℝ} (hT : 0 < T) (hK : 0 < K) (V : Fin n → EReal) :
    (∑ l, V l * ((W l * K : ℝ) : EReal)) * Ideal.div 1 ((∑ l, 1 * ((W l * K : ℝ) : EReal)) + ((T * K : ℝ) : EReal))
      = ∑ l, V l * ((W l / ((∑ j, W j) + T) : ℝ) : EReal) := by
  have hD : 0 < (∑ j, W j) + T := add_pos_of_nonneg_of_pos (Finset.sum_nonneg fun l _ => hW l) hT
  have hD' : ((∑ l, 1 * ((W l * K : ℝ) : EReal)) + ((T * K : ℝ) : EReal)) = ((((∑ j, W j) + T) * K : ℝ) : EReal) := by
    simp only [one_mul]
    rw [coe_sum, ← EReal.coe_add, ← Finset.sum_mul, add_mul]
  rw [hD', Ideal.div_coe (mul_pos hD hK).ne', one_mul, sum_mul_coe _ (one_div_pos.mpr (mul_pos hD hK)).le]
  refine Finset.sum_congr rfl fun l _ => ?_
  rw [mul_assoc, ← EReal.coe_mul]
  congr 2
  field_simp

/-- Logits less the sink: the denominator's last weight is one. -/
def fast {n : ℕ} (S : Fin n → EReal) (t : EReal) (V U : Fin n → EReal) : EReal :=
  (∑ l, V l * Ideal.exp2 (S l - t)) * Ideal.div 1 ((∑ l, U l * Ideal.exp2 (S l - t)) + 1)

/-- Logits less the maximum of them all and the sink. -/
def slow {n : ℕ} (S : Fin n → EReal) (t : EReal) (V U : Fin n → EReal) : EReal :=
  (∑ l, V l * Ideal.exp2 (S l - max (Finset.univ.fold max ⊥ S) t))
    * Ideal.div 1 ((∑ l, U l * Ideal.exp2 (S l - max (Finset.univ.fold max ⊥ S) t)) + Ideal.exp2 (t - max (Finset.univ.fold max ⊥ S) t))

theorem fast_eq {n : ℕ} (S : Fin n → EReal) (hS : ∀ l, S l ≠ ⊤) (t : ℝ) (V U : Fin n → EReal) (hU : ∀ l, U l = 1) :
    fast S t V U = combine S t V := by
  unfold fast combine
  simp only [exp2_sub (hS _), hU]
  rw [show (1 : EReal) = ((w2 (t : EReal) * (2 : ℝ) ^ (-t) : ℝ) : EReal) from by
    rw [w2_coe, ← Real.rpow_add two_pos, add_neg_cancel, Real.rpow_zero, EReal.coe_one]]
  have := after_sum (fun l => w2 (S l)) (fun l => w2_nonneg _) (w2_coe_pos t) (Real.rpow_pos_of_pos two_pos (-t)) V
  rw [← this]
  rw [show ((w2 (t : EReal) * (2 : ℝ) ^ (-t) : ℝ) : EReal) = 1 from by
    rw [w2_coe, ← Real.rpow_add two_pos, add_neg_cancel, Real.rpow_zero, EReal.coe_one]]

theorem fold_max_ne_top {n : ℕ} (S : Fin n → EReal) (hS : ∀ l, S l ≠ ⊤) : Finset.univ.fold max ⊥ S ≠ ⊤ := by
  have : Finset.univ.fold max ⊥ S < ⊤ := Finset.fold_max_lt _ |>.mpr ⟨bot_lt_top, fun l _ => (hS l).lt_top⟩
  exact this.ne

/-- The maximum with the sink is a real number. -/
theorem exists_max {M : EReal} (hM : M ≠ ⊤) (t : ℝ) : ∃ a : ℝ, max M (t : EReal) = a := by
  induction M with
  | bot => exact ⟨t, max_eq_right bot_le⟩
  | top => exact absurd rfl hM
  | coe x => rcases le_total x t with h | h
             · exact ⟨t, max_eq_right (EReal.coe_le_coe_iff.mpr h)⟩
             · exact ⟨x, max_eq_left (EReal.coe_le_coe_iff.mpr h)⟩

theorem slow_eq {n : ℕ} (S : Fin n → EReal) (hS : ∀ l, S l ≠ ⊤) (t : ℝ) (V U : Fin n → EReal) (hU : ∀ l, U l = 1) :
    slow S t V U = combine S t V := by
  obtain ⟨a, ha⟩ := exists_max (fold_max_ne_top S hS) t
  unfold slow combine
  rw [ha]
  simp only [exp2_sub (hS _), exp2_sub (EReal.coe_ne_top t), hU]
  exact after_sum (fun l => w2 (S l)) (fun l => w2_nonneg _) (w2_coe_pos t) (Real.rpow_pos_of_pos two_pos (-a)) V

/-- One over the natural logarithm of two. -/
def log2e : ℝ := (Real.log 2)⁻¹

theorem rpow_log2e (x : ℝ) : (2 : ℝ) ^ (log2e * x) = Real.exp x := by
  rw [Real.rpow_def_of_pos two_pos, log2e, ← mul_assoc, mul_inv_cancel₀ (Real.log_pos one_lt_two).ne', one_mul]

theorem log2e_pos : 0 < log2e := inv_pos.mpr (Real.log_pos one_lt_two)

/-- A logit in base two of a logit in base e. -/
theorem exp_sub {x : EReal} (hx : x ≠ ⊤) (a : ℝ) :
    Ideal.exp (x - (a : EReal)) = ((w2 ((log2e : EReal) * x) * Real.exp (-a) : ℝ) : EReal) := by
  induction x with
  | bot => rw [EReal.bot_sub, Ideal.exp_bot, EReal.coe_mul_bot_of_pos log2e_pos]; simp [w2]
  | top => exact absurd rfl hx
  | coe x =>
    rw [← EReal.coe_sub, Ideal.exp_coe, ← EReal.coe_mul, w2_coe, rpow_log2e, ← Real.exp_add, sub_eq_add_neg]

/-- The softmax in base e does not depend on the number taken off its logits. -/
theorem shifted_eq {n : ℕ} (L : Fin n → EReal) (hL : ∀ l, L l ≠ ⊤) (t : ℝ) (V : Fin n → EReal) (a : ℝ) :
    ∑ l, V l * Ideal.div (Ideal.exp (L l - (a : EReal))) ((∑ j, Ideal.exp (L j - (a : EReal))) + Ideal.exp ((t : EReal) - (a : EReal)))
      = combine (fun l => (log2e : EReal) * L l) ((log2e * t : ℝ) : EReal) V := by
  unfold combine
  simp only [exp_sub (hL _), exp_sub (EReal.coe_ne_top t)]
  rw [coe_sum]
  refine Finset.sum_congr rfl fun l _ => ?_
  rw [← EReal.coe_mul log2e t, ← EReal.coe_add, ← Finset.sum_mul, ← add_mul]
  have hD : 0 < (∑ j, w2 ((log2e : EReal) * L j)) + w2 ((log2e * t : ℝ) : EReal) :=
    add_pos_of_nonneg_of_pos (Finset.sum_nonneg fun l _ => w2_nonneg _) (w2_coe_pos _)
  rw [Ideal.div_coe (mul_pos hD (Real.exp_pos _)).ne', ← EReal.coe_mul]
  congr 2
  field_simp

/-- Two averages agree when their logits do and their values do wherever the logit is not minus infinity. -/
theorem combine_congr {n : ℕ} {S S' : Fin n → EReal} {t t' : EReal} {V V' : Fin n → EReal} (hS : ∀ l, S l = S' l) (ht : t = t')
    (hV : ∀ l, S l = ⊥ ∨ V l = V' l) : combine S t V = combine S' t' V' := by
  obtain rfl : S = S' := funext hS
  subst ht
  unfold combine
  refine Finset.sum_congr rfl fun l _ => ?_
  rcases hV l with h | h
  · simp [h, w2]
  · rw [h]

end Cert.Softmax

end
-- ==== Proof.BlockFast.lean ====
/-
  What the kernel's body leaves in its result block, over the extended reals: every entry is one query's combination of
  the values with the weights of a softmax with a sink, by whichever of the body's two ways it was computed.
-/
module

public import proofs.«01_k».proof.Proof.Run
public import proofs.«01_k».proof.Proof.Softmax
public import Idealize.ShloMosaic.Lib.Pointwise
public import Idealize.ShloMosaic.Lib.VecWindow
public import Idealize.ShloMosaic.Lib.Tactic.CleanTypes

@[expose] public section

set_option maxRecDepth 16384

noncomputable section

namespace Cert.KernelIdeal.Hand

open Cert.KernelIdeal Cert.KernelIdeal.Gen Idealize.ShloMosaic Idealize.ShloMosaic.TcCoe

/-- Which of the two tables of biases a half of the tile uses: the first half of the first tile has its own. -/
def tab (i : grid0.Coords) (u : Fin 2) : Fin 2 := if (i 1).val = 0 ∧ u = 0 then 0 else 1

theorem word_tab : ∀ j : Fin 64, (Scalar.indexCast (Scalar.minsi (BitVec.ofNat 32 j.val) 1#32)).toNat = if j.val = 0 then 0 else 1 := by
  decide +kernel

theorem off1_eq (i : grid0.Coords) : k0_off1 i = ![(tab i 0).val, 0, 0, 0] := by
  have h := word_tab (i 1)
  unfold k0_off1 tab
  simp only [and_true]
  rw [h]
  split <;> rfl

theorem off2_eq (i : grid0.Coords) : k0_off2 i = ![(tab i 0).val, 1, 0, 0] := by
  have h := word_tab (i 1)
  unfold k0_off2 tab
  simp only [and_true]
  rw [h]
  split <;> rfl

theorem off3_eq (i : grid0.Coords) : k0_off3 i = ![(tab i 0).val, 0, 0, 0] := off1_eq i
theorem off4_eq (i : grid0.Coords) : k0_off4 i = ![(tab i 0).val, 1, 0, 0] := off2_eq i

/-- A load of a window held at `x` reads `x`. -/
theorem read_eq {κ : Kind} {sp : Space} {s : Shape} {e : EltTy} (v : View sig κ sp s e) (x : s.Idx → Elt Ideal e)
    {off size : Fin s.rank → ℕ} (inb : ∀ a, off a + size a ≤ s.size a) :
    v.readAt (Elt Ideal) (Rect.unit off size inb).toLoadRect (v.rep x) = View.ld x (Rect.unit off size inb) :=
  View.readAt_rep_unit v x inb rfl inb

theorem ofBits_neg_inf : Ideal.ofBits .f32 4286578688#32 = ⊥ := by
  simp [Ideal.ofBits, Ideal.ieee]

/-- A logit of the tile in base two: the queries carry the scale, the table the bias and the mask. -/
def logit (K : FVec Ideal S384x128 .bf16) (x2 : FVec Ideal S1x768x256 .bf16) (x7 : FVec Ideal S2x2x256x768 .f32) (w : Fin 2)
    (g h u : ℕ) (hg : g < 2) (hh : h < 6) (hu : u < 2) (q : Fin 128) (l : Fin 256) : EReal :=
  (∑ x : Fin 64, K (ix2 ⟨128 * u + l.val, by omega⟩ ⟨64 * g + x.val, by omega⟩) * x2 (ix3 0 ⟨384 * g + 64 * h + x.val, by omega⟩ ⟨128 * u + q.val, by omega⟩))
    + x7 (ix4 w ⟨g, hg⟩ l ⟨128 * h + q.val, by omega⟩)

/-- A head's sink in base two. -/
def sinkAt (x8 : FVec Ideal S12x1x256 .f32) (g h : ℕ) (hg : g < 2) (hh : h < 6) (q : Fin 128) : EReal :=
  x8 (ix3 ⟨6 * g + h, by omega⟩ 0 ⟨q.val, by omega⟩) * Named.named (F := Ideal) κ "log2e" 1069066811#32

/-- A row of the values beside the tile, or the row of ones under them. -/
def valueRow (W : FVec Ideal S160x384 .bf16) (r g u : ℕ) (hr : r < 80) (hg : g < 2) (hu : u < 2) (l : Fin 256) : EReal :=
  W (ix2 ⟨80 * g + r, by omega⟩ ⟨128 * u + l.val, by omega⟩)

variable (i : grid0.Coords)
    (arg2 : Memref sig .tc .vmem S1x768x256 .bf16) (arg3 : Memref sig .tc .vmem S1x128x128 .bf16)
    (arg4 : Memref sig .tc .vmem S1x256x128 .bf16) (arg5 : Memref sig .tc .vmem S1x160x128 .bf16)
    (arg6 : Memref sig .tc .vmem S1x160x256 .bf16) (arg7 : Memref sig .tc .vmem S2x2x256x768 .f32)
    (arg8 : Memref sig .tc .vmem S12x1x256 .f32)
    (x2 : Vec Ideal S1x768x256 .bf16) (x3 : Vec Ideal S1x128x128 .bf16) (x4 : Vec Ideal S1x256x128 .bf16) (x5 : Vec Ideal S1x160x128 .bf16)
    (x6 : Vec Ideal S1x160x256 .bf16) (x7 : Vec Ideal S2x2x256x768 .f32) (x8 : Vec Ideal S12x1x256 .f32)

theorem q96_at (x : Fin 64) (q : Fin 128) : kernelRun.sl.v96 (F := Ideal) arg2 x2 (ix2 x q)
    = x2 (ix3 0 ⟨384 + x.val, by omega⟩ ⟨0 + q.val, by omega⟩) := by
  unfold kernelRun.sl.v96
  simp only [read_eq]
  pointwise

theorem q99_at (x : Fin 64) (q : Fin 128) : kernelRun.sl.v99 (F := Ideal) arg2 x2 (ix2 x q)
    = x2 (ix3 0 ⟨448 + x.val, by omega⟩ ⟨0 + q.val, by omega⟩) := by
  unfold kernelRun.sl.v99
  simp only [read_eq]
  pointwise

theorem q102_at (x : Fin 64) (q : Fin 128) : kernelRun.sl.v102 (F := Ideal) arg2 x2 (ix2 x q)
    = x2 (ix3 0 ⟨512 + x.val, by omega⟩ ⟨0 + q.val, by omega⟩) := by
  unfold kernelRun.sl.v102
  simp only [read_eq]
  pointwise

theorem q105_at (x : Fin 64) (q : Fin 128) : kernelRun.sl.v105 (F := Ideal) arg2 x2 (ix2 x q)
    = x2 (ix3 0 ⟨576 + x.val, by omega⟩ ⟨0 + q.val, by omega⟩) := by
  unfold kernelRun.sl.v105
  simp only [read_eq]
  pointwise

theorem q108_at (x : Fin 64) (q : Fin 128) : kernelRun.sl.v108 (F := Ideal) arg2 x2 (ix2 x q)
    = x2 (ix3 0 ⟨640 + x.val, by omega⟩ ⟨0 + q.val, by omega⟩) := by
  unfold kernelRun.sl.v108
  simp only [read_eq]
  pointwise

theorem q111_at (x : Fin 64) (q : Fin 128) : kernelRun.sl.v111 (F := Ideal) arg2 x2 (ix2 x q)
    = x2 (ix3 0 ⟨704 + x.val, by omega⟩ ⟨0 + q.val, by omega⟩) := by
  unfold kernelRun.sl.v111
  simp only [read_eq]
  pointwise

theorem q117_at (x : Fin 64) (q : Fin 128) : kernelRun.sl.v117 (F := Ideal) arg2 x2 (ix2 x q)
    = x2 (ix3 0 ⟨0 + x.val, by omega⟩ ⟨128 + q.val, by omega⟩) := by
  unfold kernelRun.sl.v117
  simp only [read_eq]
  pointwise

theorem q120_at (x : Fin 64) (q : Fin 128) : kernelRun.sl.v120 (F := Ideal) arg2 x2 (ix2 x q)
    = x2 (ix3 0 ⟨64 + x.val, by omega⟩ ⟨128 + q.val, by omega⟩) := by
  unfold kernelRun.sl.v120
  simp only [read_eq]
  pointwise

theorem q123_at (x : Fin 64) (q : Fin 128) : kernelRun.sl.v123 (F := Ideal) arg2 x2 (ix2 x q)
    = x2 (ix3 0 ⟨128 + x.val, by omega⟩ ⟨128 + q.val, by omega⟩) := by
  unfold kernelRun.sl.v123
  simp only [read_eq]
  pointwise

theorem q126_at (x : Fin 64) (q : Fin 128) : kernelRun.sl.v126 (F := Ideal) arg2 x2 (ix2 x q)
    = x2 (ix3 0 ⟨192 + x.val, by omega⟩ ⟨128 + q.val, by omega⟩) := by
  unfold kernelRun.sl.v126
  simp only [read_eq]
  pointwise

theorem q129_at (x : Fin 64) (q : Fin 128) : kernelRun.sl.v129 (F := Ideal) arg2 x2 (ix2 x q)
    = x2 (ix3 0 ⟨256 + x.val, by omega⟩ ⟨128 + q.val, by omega⟩) := by
  unfold kernelRun.sl.v129
  simp only [read_eq]
  pointwise

theorem q132_at (x : Fin 64) (q : Fin 128) : kernelRun.sl.v132 (F := Ideal) arg2 x2 (ix2 x q)
    = x2 (ix3 0 ⟨320 + x.val, by omega⟩ ⟨128 + q.val, by omega⟩) := by
  unfold kernelRun.sl.v132
  simp only [read_eq]
  pointwise

theorem q138_at (x : Fin 64) (q : Fin 128) : kernelRun.sl.v138 (F := Ideal) arg2 x2 (ix2 x q)
    = x2 (ix3 0 ⟨384 + x.val, by omega⟩ ⟨128 + q.val, by omega⟩) := by
  unfold kernelRun.sl.v138
  simp only [read_eq]
  pointwise

theorem q141_at (x : Fin 64) (q : Fin 128) : kernelRun.sl.v141 (F := Ideal) arg2 x2 (ix2 x q)
    = x2 (ix3 0 ⟨448 + x.val, by omega⟩ ⟨128 + q.val, by omega⟩) := by
  unfold kernelRun.sl.v141
  simp only [read_eq]
  pointwise

theorem q144_at (x : Fin 64) (q : Fin 128) : kernelRun.sl.v144 (F := Ideal) arg2 x2 (ix2 x q)
    = x2 (ix3 0 ⟨512 + x.val, by omega⟩ ⟨128 + q.val, by omega⟩) := by
  unfold kernelRun.sl.v144
  simp only [read_eq]
  pointwise

theorem q147_at (x : Fin 64) (q : Fin 128) : kernelRun.sl.v147 (F := Ideal) arg2 x2 (ix2 x q)
    = x2 (ix3 0 ⟨576 + x.val, by omega⟩ ⟨128 + q.val, by omega⟩) := by
  unfold kernelRun.sl.v147
  simp only [read_eq]
  pointwise

theorem q150_at (x : Fin 64) (q : Fin 128) : kernelRun.sl.v150 (F := Ideal) arg2 x2 (ix2 x q)
    = x2 (ix3 0 ⟨640 + x.val, by omega⟩ ⟨128 + q.val, by omega⟩) := by
  unfold kernelRun.sl.v150
  simp only [read_eq]
  pointwise

theorem q153_at (x : Fin 64) (q : Fin 128) : kernelRun.sl.v153 (F := Ideal) arg2 x2 (ix2 x q)
    = x2 (ix3 0 ⟨704 + x.val, by omega⟩ ⟨128 + q.val, by omega⟩) := by
  unfold kernelRun.sl.v153
  simp only [read_eq]
  pointwise

theorem m_r_12_at (x : Fin 256) (h : ℕ) (hh : h < 6) (q : Fin 128) : kernelRun.sl.r_12 (F := Ideal) arg2 arg3 arg4 x2 x3 x4 (ix2 x ⟨128 * h + q.val, by omega⟩)
    = ∑ y : Fin 64, kernelRun.sl.r (F := Ideal) arg3 arg4 x3 x4 (ix2 ⟨0 + x.val, by omega⟩ ⟨0 + y.val, by omega⟩) * x2 (ix3 0 ⟨0 + 64 * h + y.val, by omega⟩ ⟨0 + q.val, by omega⟩) := by
  unfold kernelRun.sl.r_12
  generalize (kernelRun.sl.r arg3 arg4 x3 x4 : FVec Ideal S384x128 .bf16) = K
  simp only [read_eq]
  pointwise [k0_pay76, k0_pay87]
  skip
  interval_cases h <;> simp (disch := omega) only [dif_neg, dif_pos, mul_zero, Finset.sum_const_zero, add_zero, zero_add, Nat.zero_add, Nat.reduceMul, Nat.reduceAdd, Nat.mul_zero, Nat.add_zero] <;> refine Finset.sum_congr rfl fun y _ => ?_ <;> congr 3 <;> first | rfl | (apply Fin.ext; dsimp only; omega)

theorem m_v114_at (x : Fin 256) (h : ℕ) (hh : h < 6) (q : Fin 128) : kernelRun.sl.v114 (F := Ideal) arg2 arg3 arg4 x2 x3 x4 (ix2 x ⟨128 * h + q.val, by omega⟩)
    = ∑ y : Fin 64, kernelRun.sl.r (F := Ideal) arg3 arg4 x3 x4 (ix2 ⟨0 + x.val, by omega⟩ ⟨64 + y.val, by omega⟩) * x2 (ix3 0 ⟨384 + 64 * h + y.val, by omega⟩ ⟨0 + q.val, by omega⟩) := by
  unfold kernelRun.sl.v114 kernelRun.sl.r_13 kernelRun.sl.v113 kernelRun.sl.cst_74 kernelRun.sl.v97 kernelRun.sl.v100 kernelRun.sl.v103 kernelRun.sl.v106 kernelRun.sl.v109 kernelRun.sl.v112
  generalize (kernelRun.sl.r arg3 arg4 x3 x4 : FVec Ideal S384x128 .bf16) = K
  skip
  pointwise [k0_pay76, k0_pay88]
  simp only [q96_at, q99_at, q102_at, q105_at, q108_at, q111_at]
  interval_cases h <;> simp (disch := omega) only [dif_neg, dif_pos, mul_zero, Finset.sum_const_zero, add_zero, zero_add, Nat.zero_add, Nat.reduceMul, Nat.reduceAdd, Nat.mul_zero, Nat.add_zero] <;> refine Finset.sum_congr rfl fun y _ => ?_ <;> congr 3 <;> first | rfl | (apply Fin.ext; dsimp only; omega)

theorem m_v135_at (x : Fin 256) (h : ℕ) (hh : h < 6) (q : Fin 128) : kernelRun.sl.v135 (F := Ideal) arg2 arg3 arg4 x2 x3 x4 (ix2 x ⟨128 * h + q.val, by omega⟩)
    = ∑ y : Fin 64, kernelRun.sl.r (F := Ideal) arg3 arg4 x3 x4 (ix2 ⟨128 + x.val, by omega⟩ ⟨0 + y.val, by omega⟩) * x2 (ix3 0 ⟨0 + 64 * h + y.val, by omega⟩ ⟨128 + q.val, by omega⟩) := by
  unfold kernelRun.sl.v135 kernelRun.sl.v115 kernelRun.sl.v134 kernelRun.sl.cst_74 kernelRun.sl.v118 kernelRun.sl.v121 kernelRun.sl.v124 kernelRun.sl.v127 kernelRun.sl.v130 kernelRun.sl.v133
  generalize (kernelRun.sl.r arg3 arg4 x3 x4 : FVec Ideal S384x128 .bf16) = K
  skip
  pointwise [k0_pay76]
  simp only [q117_at, q120_at, q123_at, q126_at, q129_at, q132_at]
  interval_cases h <;> simp (disch := omega) only [dif_neg, dif_pos, mul_zero, Finset.sum_const_zero, add_zero, zero_add, Nat.zero_add, Nat.reduceMul, Nat.reduceAdd, Nat.mul_zero, Nat.add_zero] <;> refine Finset.sum_congr rfl fun y _ => ?_ <;> congr 3 <;> first | rfl | (apply Fin.ext; dsimp only; omega)

theorem m_v156_at (x : Fin 256) (h : ℕ) (hh : h < 6) (q : Fin 128) : kernelRun.sl.v156 (F := Ideal) arg2 arg3 arg4 x2 x3 x4 (ix2 x ⟨128 * h + q.val, by omega⟩)
    = ∑ y : Fin 64, kernelRun.sl.r (F := Ideal) arg3 arg4 x3 x4 (ix2 ⟨128 + x.val, by omega⟩ ⟨64 + y.val, by omega⟩) * x2 (ix3 0 ⟨384 + 64 * h + y.val, by omega⟩ ⟨128 + q.val, by omega⟩) := by
  unfold kernelRun.sl.v156 kernelRun.sl.v115 kernelRun.sl.v155 kernelRun.sl.cst_74 kernelRun.sl.v139 kernelRun.sl.v142 kernelRun.sl.v145 kernelRun.sl.v148 kernelRun.sl.v151 kernelRun.sl.v154
  generalize (kernelRun.sl.r arg3 arg4 x3 x4 : FVec Ideal S384x128 .bf16) = K
  skip
  pointwise [k0_pay76]
  simp only [q138_at, q141_at, q144_at, q147_at, q150_at, q153_at]
  interval_cases h <;> simp (disch := omega) only [dif_neg, dif_pos, mul_zero, Finset.sum_const_zero, add_zero, zero_add, Nat.zero_add, Nat.reduceMul, Nat.reduceAdd, Nat.mul_zero, Nat.add_zero] <;> refine Finset.sum_congr rfl fun y _ => ?_ <;> congr 3 <;> first | rfl | (apply Fin.ext; dsimp only; omega)

theorem b160_at (x : Fin 256) (col : Fin 768) : kernelRun.sl.v160 (F := Ideal) i arg7 x7 (ix2 x col) = x7 (ix4 (tab i 0) 0 x col) := by
  unfold kernelRun.sl.v160
  simp only [read_eq]
  pointwise
  congr 2 <;> (apply Fin.ext; simp [off1_eq])

theorem b169_at (x : Fin 256) (col : Fin 768) : kernelRun.sl.v169 (F := Ideal) i arg7 x7 (ix2 x col) = x7 (ix4 (tab i 0) 1 x col) := by
  unfold kernelRun.sl.v169
  simp only [read_eq]
  pointwise
  congr 2 <;> (apply Fin.ext; simp [off2_eq])

theorem b176_at (x : Fin 256) (col : Fin 768) : kernelRun.sl.v176 (F := Ideal) arg7 x7 (ix2 x col) = x7 (ix4 1 0 x col) := by
  unfold kernelRun.sl.v176
  simp only [read_eq]
  pointwise

theorem b183_at (x : Fin 256) (col : Fin 768) : kernelRun.sl.v183 (F := Ideal) arg7 x7 (ix2 x col) = x7 (ix4 1 1 x col) := by
  unfold kernelRun.sl.v183
  simp only [read_eq]
  pointwise

theorem t6_at (h : ℕ) (hh : h < 6) (q : Fin 128) : kernelRun.sl.r_6 (F := Ideal) arg8 x8 (ix2 0 ⟨128 * h + q.val, by omega⟩)
    = sinkAt x8 0 h (by decide) hh q := by
  unfold kernelRun.sl.r_6 kernelRun.sl.r_2 kernelRun.sl.r_3 kernelRun.sl.r_4 kernelRun.sl.r_5 sinkAt
  simp only [read_eq]
  pointwise [k0_pay77, k0_pay78, k0_pay79, k0_pay80, k0_pay81]
  interval_cases h <;> simp (disch := omega) only [dif_neg, dif_pos, mul_zero, Finset.sum_const_zero, add_zero, zero_add, Nat.zero_add, Nat.reduceMul, Nat.reduceAdd, Nat.mul_zero, Nat.add_zero] <;> first | rfl | (congr 3; first | rfl | (apply Fin.ext; dsimp only; omega))

theorem t11_at (h : ℕ) (hh : h < 6) (q : Fin 128) : kernelRun.sl.r_11 (F := Ideal) arg8 x8 (ix2 0 ⟨128 * h + q.val, by omega⟩)
    = sinkAt x8 1 h (by decide) hh q := by
  unfold kernelRun.sl.r_11 kernelRun.sl.r_7 kernelRun.sl.r_8 kernelRun.sl.r_9 kernelRun.sl.r_10 sinkAt
  simp only [read_eq]
  pointwise [k0_pay82, k0_pay83, k0_pay84, k0_pay85, k0_pay86]
  interval_cases h <;> simp (disch := omega) only [dif_neg, dif_pos, mul_zero, Finset.sum_const_zero, add_zero, zero_add, Nat.zero_add, Nat.reduceMul, Nat.reduceAdd, Nat.mul_zero, Nat.add_zero] <;> first | rfl | (congr 3; first | rfl | (apply Fin.ext; dsimp only; omega))

theorem s206_at (d : Fin 64) (h : ℕ) (hh : h < 6) (q : Fin 128) : kernelRun.sl.v206 (F := Ideal) i arg2 arg3 arg4 arg5 arg6 arg7 arg8 x2 x3 x4 x5 x6 x7 x8 (ix2 d ⟨128 * h + q.val, by omega⟩)
    = Softmax.fast (logit (kernelRun.sl.r arg3 arg4 x3 x4) x2 x7 (tab i 0) 0 h 0 (by decide) hh (by decide) q) (sinkAt x8 0 h (by decide) hh q)
        (valueRow (kernelRun.sl.r_1 arg5 arg6 x5 x6) d.val 0 0 (by omega) (by decide) (by decide)) (valueRow (kernelRun.sl.r_1 arg5 arg6 x5 x6) 64 0 0 (by decide) (by decide) (by decide)) := by
  have hM := m_r_12_at arg2 arg3 arg4 x2 x3 x4
  have hB := b160_at i arg7 x7
  have hT := t6_at arg8 x8 h hh q
  unfold kernelRun.sl.v206 kernelRun.sl.v205 kernelRun.sl.v204 kernelRun.sl.v202 kernelRun.sl.v200 kernelRun.sl.v199 kernelRun.sl.v198 kernelRun.sl.v190 kernelRun.sl.v189 kernelRun.sl.v165 kernelRun.sl.v164 kernelRun.sl.v163 kernelRun.sl.v162 kernelRun.sl.v161 kernelRun.sl.cst_128 kernelRun.sl.cst_133
  generalize (kernelRun.sl.r_12 arg2 arg3 arg4 x2 x3 x4 : FVec Ideal S256x768 .f32) = M at hM ⊢
  generalize (kernelRun.sl.v160 i arg7 x7 : FVec Ideal S256x768 .f32) = B at hB ⊢
  generalize (kernelRun.sl.r_6 arg8 x8 : FVec Ideal S1x768 .f32) = T at hT ⊢
  generalize (kernelRun.sl.r_1 arg5 arg6 x5 x6 : FVec Ideal S160x384 .bf16) = W
  pointwise
  simp only [hM _ h hh q, hB, hT]
  unfold Softmax.fast logit valueRow
  simp only [Nat.zero_add, Nat.mul_zero, Nat.mul_one, zero_add, Nat.reduceMul, Nat.reduceAdd]
  rfl

theorem s239_at (d : Fin 64) (h : ℕ) (hh : h < 6) (q : Fin 128) : kernelRun.sl.v239 (F := Ideal) i arg2 arg3 arg4 arg5 arg6 arg7 arg8 x2 x3 x4 x5 x6 x7 x8 (ix2 d ⟨128 * h + q.val, by omega⟩)
    = Softmax.fast (logit (kernelRun.sl.r arg3 arg4 x3 x4) x2 x7 (tab i 0) 1 h 0 (by decide) hh (by decide) q) (sinkAt x8 1 h (by decide) hh q)
        (valueRow (kernelRun.sl.r_1 arg5 arg6 x5 x6) d.val 1 0 (by omega) (by decide) (by decide)) (valueRow (kernelRun.sl.r_1 arg5 arg6 x5 x6) 64 1 0 (by decide) (by decide) (by decide)) := by
  have hM := m_v114_at arg2 arg3 arg4 x2 x3 x4
  have hB := b169_at i arg7 x7
  have hT := t11_at arg8 x8 h hh q
  unfold kernelRun.sl.v239 kernelRun.sl.v238 kernelRun.sl.v237 kernelRun.sl.v235 kernelRun.sl.v233 kernelRun.sl.v231 kernelRun.sl.v199 kernelRun.sl.v192 kernelRun.sl.v191 kernelRun.sl.v174 kernelRun.sl.v173 kernelRun.sl.v172 kernelRun.sl.v171 kernelRun.sl.v170 kernelRun.sl.cst_128 kernelRun.sl.cst_133
  generalize (kernelRun.sl.v114 arg2 arg3 arg4 x2 x3 x4 : FVec Ideal S256x768 .f32) = M at hM ⊢
  generalize (kernelRun.sl.v169 i arg7 x7 : FVec Ideal S256x768 .f32) = B at hB ⊢
  generalize (kernelRun.sl.r_11 arg8 x8 : FVec Ideal S1x768 .f32) = T at hT ⊢
  generalize (kernelRun.sl.r_1 arg5 arg6 x5 x6 : FVec Ideal S160x384 .bf16) = W
  pointwise
  simp only [hM _ h hh q, hB, hT]
  unfold Softmax.fast logit valueRow
  simp only [Nat.zero_add, Nat.mul_zero, Nat.mul_one, zero_add, Nat.reduceMul, Nat.reduceAdd]
  rfl

theorem s272_at (d : Fin 64) (h : ℕ) (hh : h < 6) (q : Fin 128) : kernelRun.sl.v272 (F := Ideal) arg2 arg3 arg4 arg5 arg6 arg7 arg8 x2 x3 x4 x5 x6 x7 x8 (ix2 d ⟨128 * h + q.val, by omega⟩)
    = Softmax.fast (logit (kernelRun.sl.r arg3 arg4 x3 x4) x2 x7 1 0 h 1 (by decide) hh (by decide) q) (sinkAt x8 0 h (by decide) hh q)
        (valueRow (kernelRun.sl.r_1 arg5 arg6 x5 x6) d.val 0 1 (by omega) (by decide) (by decide)) (valueRow (kernelRun.sl.r_1 arg5 arg6 x5 x6) 64 0 1 (by decide) (by decide) (by decide)) := by
  have hM := m_v135_at arg2 arg3 arg4 x2 x3 x4
  have hB := b176_at arg7 x7
  have hT := t6_at arg8 x8 h hh q
  unfold kernelRun.sl.v272 kernelRun.sl.v271 kernelRun.sl.v270 kernelRun.sl.v268 kernelRun.sl.v266 kernelRun.sl.v264 kernelRun.sl.v199 kernelRun.sl.v194 kernelRun.sl.v193 kernelRun.sl.v181 kernelRun.sl.v180 kernelRun.sl.v179 kernelRun.sl.v177 kernelRun.sl.v162 kernelRun.sl.cst_128 kernelRun.sl.cst_133
  generalize (kernelRun.sl.v135 arg2 arg3 arg4 x2 x3 x4 : FVec Ideal S256x768 .f32) = M at hM ⊢
  generalize (kernelRun.sl.v176 arg7 x7 : FVec Ideal S256x768 .f32) = B at hB ⊢
  generalize (kernelRun.sl.r_6 arg8 x8 : FVec Ideal S1x768 .f32) = T at hT ⊢
  generalize (kernelRun.sl.r_1 arg5 arg6 x5 x6 : FVec Ideal S160x384 .bf16) = W
  pointwise
  simp only [hM _ h hh q, hB, hT]
  unfold Softmax.fast logit valueRow
  simp only [Nat.zero_add, Nat.mul_zero, Nat.mul_one, zero_add, Nat.reduceMul, Nat.reduceAdd]
  rfl

theorem s305_at (d : Fin 64) (h : ℕ) (hh : h < 6) (q : Fin 128) : kernelRun.sl.v305 (F := Ideal) arg2 arg3 arg4 arg5 arg6 arg7 arg8 x2 x3 x4 x5 x6 x7 x8 (ix2 d ⟨128 * h + q.val, by omega⟩)
    = Softmax.fast (logit (kernelRun.sl.r arg3 arg4 x3 x4) x2 x7 1 1 h 1 (by decide) hh (by decide) q) (sinkAt x8 1 h (by decide) hh q)
        (valueRow (kernelRun.sl.r_1 arg5 arg6 x5 x6) d.val 1 1 (by omega) (by decide) (by decide)) (valueRow (kernelRun.sl.r_1 arg5 arg6 x5 x6) 64 1 1 (by decide) (by decide) (by decide)) := by
  have hM := m_v156_at arg2 arg3 arg4 x2 x3 x4
  have hB := b183_at arg7 x7
  have hT := t11_at arg8 x8 h hh q
  unfold kernelRun.sl.v305 kernelRun.sl.v304 kernelRun.sl.v303 kernelRun.sl.v301 kernelRun.sl.v299 kernelRun.sl.v297 kernelRun.sl.v199 kernelRun.sl.v196 kernelRun.sl.v195 kernelRun.sl.v188 kernelRun.sl.v187 kernelRun.sl.v186 kernelRun.sl.v184 kernelRun.sl.v171 kernelRun.sl.cst_128 kernelRun.sl.cst_133
  generalize (kernelRun.sl.v156 arg2 arg3 arg4 x2 x3 x4 : FVec Ideal S256x768 .f32) = M at hM ⊢
  generalize (kernelRun.sl.v183 arg7 x7 : FVec Ideal S256x768 .f32) = B at hB ⊢
  generalize (kernelRun.sl.r_11 arg8 x8 : FVec Ideal S1x768 .f32) = T at hT ⊢
  generalize (kernelRun.sl.r_1 arg5 arg6 x5 x6 : FVec Ideal S160x384 .bf16) = W
  pointwise
  simp only [hM _ h hh q, hB, hT]
  unfold Softmax.fast logit valueRow
  simp only [Nat.zero_add, Nat.mul_zero, Nat.mul_one, zero_add, Nat.reduceMul, Nat.reduceAdd]
  rfl

end Cert.KernelIdeal.Hand
end
-- ==== Proof.BlockSlow.lean ====
/-
  The other way of the kernel's body: each head on its own, its logits less the maximum of them and the sink.
-/
module

public import proofs.«01_k».proof.Proof.BlockFast
public import Idealize.ShloMosaic.Lib.Pointwise
public import Idealize.ShloMosaic.Lib.VecWindow
public import Idealize.ShloMosaic.Lib.Tactic.CleanTypes

@[expose] public section

set_option maxRecDepth 16384

noncomputable section

namespace Cert.KernelIdeal.Hand

open Cert.KernelIdeal Cert.KernelIdeal.Gen Idealize.ShloMosaic Idealize.ShloMosaic.TcCoe

variable (i : grid0.Coords)
    (arg2 : Memref sig .tc .vmem S1x768x256 .bf16) (arg3 : Memref sig .tc .vmem S1x128x128 .bf16)
    (arg4 : Memref sig .tc .vmem S1x256x128 .bf16) (arg5 : Memref sig .tc .vmem S1x160x128 .bf16)
    (arg6 : Memref sig .tc .vmem S1x160x256 .bf16) (arg7 : Memref sig .tc .vmem S2x2x256x768 .f32)
    (arg8 : Memref sig .tc .vmem S12x1x256 .f32)
    (x2 : Vec Ideal S1x768x256 .bf16) (x3 : Vec Ideal S1x128x128 .bf16) (x4 : Vec Ideal S1x256x128 .bf16) (x5 : Vec Ideal S1x160x128 .bf16)
    (x6 : Vec Ideal S1x160x256 .bf16) (x7 : Vec Ideal S2x2x256x768 .f32) (x8 : Vec Ideal S12x1x256 .f32)

theorem bias3 (hoff : ∀ a, k0_off3 i a + S1x1x256x768.size a ≤ S2x2x256x768.size a) (l : Fin 256) (col : Fin 768) :
    View.ld x7 (Rect.unit (s := S2x2x256x768) (k0_off3 i) S1x1x256x768.size hoff) (ix4 0 0 l col) = x7 (ix4 (tab i 0) 0 l col) := by
  pointwise
  congr 2 <;> (apply Fin.ext; simp [off3_eq])

theorem bias4 (hoff : ∀ a, k0_off4 i a + S1x1x256x768.size a ≤ S2x2x256x768.size a) (l : Fin 256) (col : Fin 768) :
    View.ld x7 (Rect.unit (s := S2x2x256x768) (k0_off4 i) S1x1x256x768.size hoff) (ix4 0 0 l col) = x7 (ix4 (tab i 0) 1 l col) := by
  pointwise
  congr 2 <;> (apply Fin.ext; simp [off4_eq])

theorem slow_1_5_1 (d : Fin 64) (q : Fin 128) :
    k0_pay73 (F := Ideal) (kernelRun.sl.r_1 arg5 arg6 x5 x6) (kernelRun.sl.r_53 arg2 arg3 arg4 arg7 x2 x3 x4 x7) (View.readAt (Elt Ideal) arg8.view (Rect.unit (s := S12x1x256) ![11, 0, 0] S1x1x256.size inb_S12x1x256_S1x1x256_11_0_0).toLoadRect (arg8.view.rep x8)) (ix2 d q)
    = Softmax.slow (logit (kernelRun.sl.r arg3 arg4 x3 x4) x2 x7 1 1 5 1 (by decide) (by decide) (by decide) q) (sinkAt x8 1 5 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  unfold kernelRun.sl.r_53
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay72, k0_pay73, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_4_1 (d : Fin 64) (q : Fin 128) :
    k0_pay71 (F := Ideal) (kernelRun.sl.r_1 arg5 arg6 x5 x6) (kernelRun.sl.r_52 arg2 arg3 arg4 x2 x3 x4) (View.readAt (Elt Ideal) arg7.view (Rect.unit (s := S2x2x256x768) ![1, 1, 0, 0] S1x1x256x768.size inb_S2x2x256x768_S1x1x256x768_1_1_0_0).toLoadRect (arg7.view.rep x7)) (View.readAt (Elt Ideal) arg8.view (Rect.unit (s := S12x1x256) ![10, 0, 0] S1x1x256.size inb_S12x1x256_S1x1x256_10_0_0).toLoadRect (arg8.view.rep x8)) (ix2 d q)
    = Softmax.slow (logit (kernelRun.sl.r arg3 arg4 x3 x4) x2 x7 1 1 4 1 (by decide) (by decide) (by decide) q) (sinkAt x8 1 4 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  unfold kernelRun.sl.r_52
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay70, k0_pay71, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_3_1 (d : Fin 64) (q : Fin 128) :
    k0_pay69 (F := Ideal) (kernelRun.sl.r_1 arg5 arg6 x5 x6) k0_pay76 (kernelRun.sl.r_51 arg3 arg4 x3 x4) (View.readAt (Elt Ideal) arg2.view (Rect.unit (s := S1x768x256) ![0, 576, 128] S1x64x128.size inb_S1x768x256_S1x64x128_0_576_128).toLoadRect (arg2.view.rep x2)) (View.readAt (Elt Ideal) arg7.view (Rect.unit (s := S2x2x256x768) ![1, 1, 0, 0] S1x1x256x768.size inb_S2x2x256x768_S1x1x256x768_1_1_0_0).toLoadRect (arg7.view.rep x7)) (View.readAt (Elt Ideal) arg8.view (Rect.unit (s := S12x1x256) ![9, 0, 0] S1x1x256.size inb_S12x1x256_S1x1x256_9_0_0).toLoadRect (arg8.view.rep x8)) (ix2 d q)
    = Softmax.slow (logit (kernelRun.sl.r arg3 arg4 x3 x4) x2 x7 1 1 3 1 (by decide) (by decide) (by decide) q) (sinkAt x8 1 3 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  unfold kernelRun.sl.r_51
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay68, k0_pay69, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_2_1 (d : Fin 64) (q : Fin 128) :
    k0_pay67 (F := Ideal) (kernelRun.sl.r arg3 arg4 x3 x4) (kernelRun.sl.r_1 arg5 arg6 x5 x6) k0_pay76 (View.readAt (Elt Ideal) arg2.view (Rect.unit (s := S1x768x256) ![0, 512, 128] S1x64x128.size inb_S1x768x256_S1x64x128_0_512_128).toLoadRect (arg2.view.rep x2)) (View.readAt (Elt Ideal) arg7.view (Rect.unit (s := S2x2x256x768) ![1, 1, 0, 0] S1x1x256x768.size inb_S2x2x256x768_S1x1x256x768_1_1_0_0).toLoadRect (arg7.view.rep x7)) (View.readAt (Elt Ideal) arg8.view (Rect.unit (s := S12x1x256) ![8, 0, 0] S1x1x256.size inb_S12x1x256_S1x1x256_8_0_0).toLoadRect (arg8.view.rep x8)) (ix2 d q)
    = Softmax.slow (logit (kernelRun.sl.r arg3 arg4 x3 x4) x2 x7 1 1 2 1 (by decide) (by decide) (by decide) q) (sinkAt x8 1 2 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay67, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_1_1 (d : Fin 64) (q : Fin 128) :
    k0_pay66 (F := Ideal) (kernelRun.sl.r_50 arg2 arg3 arg4 arg5 arg6 arg7 arg8 x2 x3 x4 x5 x6 x7 x8) (ix2 d q)
    = Softmax.slow (logit (kernelRun.sl.r arg3 arg4 x3 x4) x2 x7 1 1 1 1 (by decide) (by decide) (by decide) q) (sinkAt x8 1 1 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  unfold kernelRun.sl.r_50
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay65, k0_pay66, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_0_1 (d : Fin 64) (q : Fin 128) :
    k0_pay64 (F := Ideal) (kernelRun.sl.r_48 arg2 arg3 arg4 arg5 arg6 arg7 arg8 x2 x3 x4 x5 x6 x7 x8) (kernelRun.sl.r_49 arg2 arg3 arg4 arg5 arg6 arg7 arg8 x2 x3 x4 x5 x6 x7 x8) (ix2 d q)
    = Softmax.slow (logit (kernelRun.sl.r arg3 arg4 x3 x4) x2 x7 1 1 0 1 (by decide) (by decide) (by decide) q) (sinkAt x8 1 0 (by decide) (by decide) q)
        (valueRow (kernelRun.sl.r_1 arg5 arg6 x5 x6) d.val 1 1 (by omega) (by decide) (by decide)) (valueRow (kernelRun.sl.r_1 arg5 arg6 x5 x6) 64 1 1 (by decide) (by decide) (by decide)) := by
  unfold kernelRun.sl.r_49 kernelRun.sl.r_48
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay58, k0_pay59, k0_pay60, k0_pay61, k0_pay62, k0_pay63, k0_pay64, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_5_1 (d : Fin 64) (q : Fin 128) :
    k0_pay57 (F := Ideal) (kernelRun.sl.r_44 arg8 x8) (kernelRun.sl.r_45 arg2 arg3 arg4 arg7 arg8 x2 x3 x4 x7 x8) (kernelRun.sl.r_46 arg5 arg6 x5 x6) (kernelRun.sl.r_47 arg2 arg3 arg4 arg7 arg8 x2 x3 x4 x7 x8) (ix2 d q)
    = Softmax.slow (logit (kernelRun.sl.r arg3 arg4 x3 x4) x2 x7 1 0 5 1 (by decide) (by decide) (by decide) q) (sinkAt x8 0 5 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  unfold kernelRun.sl.r_47 kernelRun.sl.r_46 kernelRun.sl.r_45 kernelRun.sl.r_44
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay52, k0_pay53, k0_pay54, k0_pay55, k0_pay56, k0_pay57, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_4_1 (d : Fin 64) (q : Fin 128) :
    k0_pay51 (F := Ideal) (kernelRun.sl.r_1 arg5 arg6 x5 x6) (kernelRun.sl.r_41 arg2 arg3 arg4 arg7 x2 x3 x4 x7) (kernelRun.sl.r_42 arg8 x8) (kernelRun.sl.r_43 arg2 arg3 arg4 arg7 x2 x3 x4 x7) (ix2 d q)
    = Softmax.slow (logit (kernelRun.sl.r arg3 arg4 x3 x4) x2 x7 1 0 4 1 (by decide) (by decide) (by decide) q) (sinkAt x8 0 4 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  unfold kernelRun.sl.r_43 kernelRun.sl.r_42 kernelRun.sl.r_41
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay48, k0_pay49, k0_pay50, k0_pay51, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_3_1 (d : Fin 64) (q : Fin 128) :
    k0_pay47 (F := Ideal) (kernelRun.sl.r_1 arg5 arg6 x5 x6) (kernelRun.sl.r_39 arg2 arg3 arg4 arg7 x2 x3 x4 x7) (kernelRun.sl.r_40 arg8 x8) (ix2 d q)
    = Softmax.slow (logit (kernelRun.sl.r arg3 arg4 x3 x4) x2 x7 1 0 3 1 (by decide) (by decide) (by decide) q) (sinkAt x8 0 3 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  unfold kernelRun.sl.r_40 kernelRun.sl.r_39
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay46, k0_pay47, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_2_1 (d : Fin 64) (q : Fin 128) :
    k0_pay45 (F := Ideal) (kernelRun.sl.r_1 arg5 arg6 x5 x6) (kernelRun.sl.r_37 arg2 arg3 arg4 x2 x3 x4) (kernelRun.sl.r_38 arg7 x7) (View.readAt (Elt Ideal) arg8.view (Rect.unit (s := S12x1x256) ![2, 0, 0] S1x1x256.size inb_S12x1x256_S1x1x256_2_0_0).toLoadRect (arg8.view.rep x8)) (ix2 d q)
    = Softmax.slow (logit (kernelRun.sl.r arg3 arg4 x3 x4) x2 x7 1 0 2 1 (by decide) (by decide) (by decide) q) (sinkAt x8 0 2 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  unfold kernelRun.sl.r_38 kernelRun.sl.r_37
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay44, k0_pay45, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_1_1 (d : Fin 64) (q : Fin 128) :
    k0_pay43 (F := Ideal) (kernelRun.sl.r_1 arg5 arg6 x5 x6) (kernelRun.sl.r_35 arg3 arg4 x3 x4) (kernelRun.sl.r_36 arg2 x2) (View.readAt (Elt Ideal) arg7.view (Rect.unit (s := S2x2x256x768) ![1, 0, 0, 0] S1x1x256x768.size inb_S2x2x256x768_S1x1x256x768_1_0_0_0).toLoadRect (arg7.view.rep x7)) (View.readAt (Elt Ideal) arg8.view (Rect.unit (s := S12x1x256) ![1, 0, 0] S1x1x256.size inb_S12x1x256_S1x1x256_1_0_0).toLoadRect (arg8.view.rep x8)) (ix2 d q)
    = Softmax.slow (logit (kernelRun.sl.r arg3 arg4 x3 x4) x2 x7 1 0 1 1 (by decide) (by decide) (by decide) q) (sinkAt x8 0 1 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  unfold kernelRun.sl.r_36 kernelRun.sl.r_35
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay41, k0_pay42, k0_pay43, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_0_0_1 (d : Fin 64) (q : Fin 128) :
    k0_pay40 (F := Ideal) (kernelRun.sl.r arg3 arg4 x3 x4) (kernelRun.sl.r_1 arg5 arg6 x5 x6) k0_pay76 (View.readAt (Elt Ideal) arg2.view (Rect.unit (s := S1x768x256) ![0, 0, 128] S1x64x128.size inb_S1x768x256_S1x64x128_0_0_128).toLoadRect (arg2.view.rep x2)) (View.readAt (Elt Ideal) arg7.view (Rect.unit (s := S2x2x256x768) ![1, 0, 0, 0] S1x1x256x768.size inb_S2x2x256x768_S1x1x256x768_1_0_0_0).toLoadRect (arg7.view.rep x7)) (View.readAt (Elt Ideal) arg8.view (Rect.unit (s := S12x1x256) ![0, 0, 0] S1x1x256.size inb_S12x1x256_S1x1x256_0_0_0).toLoadRect (arg8.view.rep x8)) (ix2 d q)
    = Softmax.slow (logit (kernelRun.sl.r arg3 arg4 x3 x4) x2 x7 1 0 0 1 (by decide) (by decide) (by decide) q) (sinkAt x8 0 0 (by decide) (by decide) q)
        (valueRow (kernelRun.sl.r_1 arg5 arg6 x5 x6) d.val 0 1 (by omega) (by decide) (by decide)) (valueRow (kernelRun.sl.r_1 arg5 arg6 x5 x6) 64 0 1 (by decide) (by decide) (by decide)) := by
  generalize (kernelRun.sl.r arg3 arg4 x3 x4 : FVec Ideal S384x128 .bf16) = K
  generalize (kernelRun.sl.r_1 arg5 arg6 x5 x6 : FVec Ideal S160x384 .bf16) = W
  simp only [read_eq]
  pointwise [k0_pay40, k0_pay76]
  simp only [mul_zero, Finset.sum_const_zero, zero_add, add_zero, ofBits_neg_inf]
  unfold Softmax.slow logit valueRow sinkAt
  simp only [Nat.zero_add, Nat.mul_zero, Nat.mul_one, zero_add, Nat.reduceMul, Nat.reduceAdd]
  rfl

theorem slow_1_5_0 (hoff : ∀ a, k0_off4 i a + S1x1x256x768.size a ≤ S2x2x256x768.size a) (d : Fin 64) (q : Fin 128) :
    k0_pay39 (F := Ideal) (kernelRun.sl.r arg3 arg4 x3 x4) (kernelRun.sl.r_1 arg5 arg6 x5 x6) k0_pay76 (View.readAt (Elt Ideal) arg2.view (Rect.unit (s := S1x768x256) ![0, 704, 0] S1x64x128.size inb_S1x768x256_S1x64x128_0_704_0).toLoadRect (arg2.view.rep x2)) (View.readAt (Elt Ideal) arg7.view (Rect.unit (s := S2x2x256x768) (k0_off4 i) S1x1x256x768.size hoff).toLoadRect (arg7.view.rep x7)) (View.readAt (Elt Ideal) arg8.view (Rect.unit (s := S12x1x256) ![11, 0, 0] S1x1x256.size inb_S12x1x256_S1x1x256_11_0_0).toLoadRect (arg8.view.rep x8)) (ix2 d q)
    = Softmax.slow (logit (kernelRun.sl.r arg3 arg4 x3 x4) x2 x7 (tab i 0) 1 5 0 (by decide) (by decide) (by decide) q) (sinkAt x8 1 5 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay39, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_1_4_0 (hoff : ∀ a, k0_off4 i a + S1x1x256x768.size a ≤ S2x2x256x768.size a) (d : Fin 64) (q : Fin 128) :
    k0_pay38 (F := Ideal) (kernelRun.sl.r_34 i arg2 arg3 arg4 arg5 arg6 arg7 arg8 x2 x3 x4 x5 x6 x7 x8) (ix2 d q)
    = Softmax.slow (logit (kernelRun.sl.r arg3 arg4 x3 x4) x2 x7 (tab i 0) 1 4 0 (by decide) (by decide) (by decide) q) (sinkAt x8 1 4 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  unfold kernelRun.sl.r_34
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay37, k0_pay38, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_1_3_0 (hoff : ∀ a, k0_off4 i a + S1x1x256x768.size a ≤ S2x2x256x768.size a) (d : Fin 64) (q : Fin 128) :
    k0_pay36 (F := Ideal) (kernelRun.sl.r_32 i arg2 arg3 arg4 arg5 arg6 arg7 arg8 x2 x3 x4 x5 x6 x7 x8) (kernelRun.sl.r_33 i arg2 arg3 arg4 arg5 arg6 arg7 arg8 x2 x3 x4 x5 x6 x7 x8) kernelRun.sl.cst_133 (ix2 d q)
    = Softmax.slow (logit (kernelRun.sl.r arg3 arg4 x3 x4) x2 x7 (tab i 0) 1 3 0 (by decide) (by decide) (by decide) q) (sinkAt x8 1 3 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  unfold kernelRun.sl.r_33 kernelRun.sl.r_32 kernelRun.sl.cst_133
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay30, k0_pay31, k0_pay32, k0_pay33, k0_pay34, k0_pay35, k0_pay36, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_1_2_0 (hoff : ∀ a, k0_off4 i a + S1x1x256x768.size a ≤ S2x2x256x768.size a) (d : Fin 64) (q : Fin 128) :
    k0_pay29 (F := Ideal) (kernelRun.sl.r_28 arg8 x8) (kernelRun.sl.r_29 i arg2 arg3 arg4 arg7 arg8 x2 x3 x4 x7 x8) (kernelRun.sl.r_30 i arg2 arg3 arg4 arg5 arg6 arg7 arg8 x2 x3 x4 x5 x6 x7 x8) (kernelRun.sl.r_31 i arg2 arg3 arg4 arg5 arg6 arg7 arg8 x2 x3 x4 x5 x6 x7 x8) (ix2 d q)
    = Softmax.slow (logit (kernelRun.sl.r arg3 arg4 x3 x4) x2 x7 (tab i 0) 1 2 0 (by decide) (by decide) (by decide) q) (sinkAt x8 1 2 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  unfold kernelRun.sl.r_31 kernelRun.sl.r_30 kernelRun.sl.r_29 kernelRun.sl.r_28
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay24, k0_pay25, k0_pay26, k0_pay27, k0_pay28, k0_pay29, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_1_1_0 (hoff : ∀ a, k0_off4 i a + S1x1x256x768.size a ≤ S2x2x256x768.size a) (d : Fin 64) (q : Fin 128) :
    k0_pay23 (F := Ideal) (kernelRun.sl.r_24 arg8 x8) (kernelRun.sl.r_25 i arg2 arg3 arg4 arg7 arg8 x2 x3 x4 x7 x8) (kernelRun.sl.r_26 arg5 arg6 x5 x6) (kernelRun.sl.r_27 i arg2 arg3 arg4 arg7 arg8 x2 x3 x4 x7 x8) (ix2 d q)
    = Softmax.slow (logit (kernelRun.sl.r arg3 arg4 x3 x4) x2 x7 (tab i 0) 1 1 0 (by decide) (by decide) (by decide) q) (sinkAt x8 1 1 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  unfold kernelRun.sl.r_27 kernelRun.sl.r_26 kernelRun.sl.r_25 kernelRun.sl.r_24
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay18, k0_pay19, k0_pay20, k0_pay21, k0_pay22, k0_pay23, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_1_0_0 (hoff : ∀ a, k0_off4 i a + S1x1x256x768.size a ≤ S2x2x256x768.size a) (d : Fin 64) (q : Fin 128) :
    k0_pay17 (F := Ideal) (kernelRun.sl.r_1 arg5 arg6 x5 x6) (kernelRun.sl.r_21 i arg2 arg3 arg4 arg7 x2 x3 x4 x7) (kernelRun.sl.r_22 arg8 x8) (kernelRun.sl.r_23 i arg2 arg3 arg4 arg7 x2 x3 x4 x7) (ix2 d q)
    = Softmax.slow (logit (kernelRun.sl.r arg3 arg4 x3 x4) x2 x7 (tab i 0) 1 0 0 (by decide) (by decide) (by decide) q) (sinkAt x8 1 0 (by decide) (by decide) q)
        (valueRow (kernelRun.sl.r_1 arg5 arg6 x5 x6) d.val 1 0 (by omega) (by decide) (by decide)) (valueRow (kernelRun.sl.r_1 arg5 arg6 x5 x6) 64 1 0 (by decide) (by decide) (by decide)) := by
  unfold kernelRun.sl.r_23 kernelRun.sl.r_22 kernelRun.sl.r_21
  generalize (kernelRun.sl.r arg3 arg4 x3 x4 : FVec Ideal S384x128 .bf16) = K
  generalize (kernelRun.sl.r_1 arg5 arg6 x5 x6 : FVec Ideal S160x384 .bf16) = W
  simp only [read_eq]
  have hB := bias4 i x7 hoff
  obtain ⟨B, eB⟩ : ∃ B : FVec Ideal S1x1x256x768 .f32, B = View.ld x7 (Rect.unit (s := S2x2x256x768) (k0_off4 i) S1x1x256x768.size hoff) := ⟨_, rfl⟩
  rw [← eB] at hB ⊢
  pointwise [k0_pay14, k0_pay15, k0_pay16, k0_pay17, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_5_0 (hoff : ∀ a, k0_off3 i a + S1x1x256x768.size a ≤ S2x2x256x768.size a) (d : Fin 64) (q : Fin 128) :
    k0_pay13 (F := Ideal) (kernelRun.sl.r_1 arg5 arg6 x5 x6) (kernelRun.sl.r_19 i arg2 arg3 arg4 arg7 x2 x3 x4 x7) (kernelRun.sl.r_20 arg8 x8) (ix2 d q)
    = Softmax.slow (logit (kernelRun.sl.r arg3 arg4 x3 x4) x2 x7 (tab i 0) 0 5 0 (by decide) (by decide) (by decide) q) (sinkAt x8 0 5 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  unfold kernelRun.sl.r_20 kernelRun.sl.r_19
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay11, k0_pay12, k0_pay13, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_4_0 (hoff : ∀ a, k0_off3 i a + S1x1x256x768.size a ≤ S2x2x256x768.size a) (d : Fin 64) (q : Fin 128) :
    k0_pay10 (F := Ideal) (kernelRun.sl.r_1 arg5 arg6 x5 x6) (kernelRun.sl.r_18 i arg2 arg3 arg4 arg7 x2 x3 x4 x7) (View.readAt (Elt Ideal) arg8.view (Rect.unit (s := S12x1x256) ![4, 0, 0] S1x1x256.size inb_S12x1x256_S1x1x256_4_0_0).toLoadRect (arg8.view.rep x8)) (ix2 d q)
    = Softmax.slow (logit (kernelRun.sl.r arg3 arg4 x3 x4) x2 x7 (tab i 0) 0 4 0 (by decide) (by decide) (by decide) q) (sinkAt x8 0 4 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  unfold kernelRun.sl.r_18
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay10, k0_pay76, k0_pay9]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_3_0 (hoff : ∀ a, k0_off3 i a + S1x1x256x768.size a ≤ S2x2x256x768.size a) (d : Fin 64) (q : Fin 128) :
    k0_pay8 (F := Ideal) (kernelRun.sl.r_1 arg5 arg6 x5 x6) (kernelRun.sl.r_17 arg2 arg3 arg4 x2 x3 x4) (View.readAt (Elt Ideal) arg7.view (Rect.unit (s := S2x2x256x768) (k0_off3 i) S1x1x256x768.size hoff).toLoadRect (arg7.view.rep x7)) (View.readAt (Elt Ideal) arg8.view (Rect.unit (s := S12x1x256) ![3, 0, 0] S1x1x256.size inb_S12x1x256_S1x1x256_3_0_0).toLoadRect (arg8.view.rep x8)) (ix2 d q)
    = Softmax.slow (logit (kernelRun.sl.r arg3 arg4 x3 x4) x2 x7 (tab i 0) 0 3 0 (by decide) (by decide) (by decide) q) (sinkAt x8 0 3 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  unfold kernelRun.sl.r_17
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay7, k0_pay76, k0_pay8]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_2_0 (hoff : ∀ a, k0_off3 i a + S1x1x256x768.size a ≤ S2x2x256x768.size a) (d : Fin 64) (q : Fin 128) :
    k0_pay6 (F := Ideal) (kernelRun.sl.r_1 arg5 arg6 x5 x6) (kernelRun.sl.r_16 arg2 arg3 arg4 x2 x3 x4) (View.readAt (Elt Ideal) arg7.view (Rect.unit (s := S2x2x256x768) (k0_off3 i) S1x1x256x768.size hoff).toLoadRect (arg7.view.rep x7)) (View.readAt (Elt Ideal) arg8.view (Rect.unit (s := S12x1x256) ![2, 0, 0] S1x1x256.size inb_S12x1x256_S1x1x256_2_0_0).toLoadRect (arg8.view.rep x8)) (ix2 d q)
    = Softmax.slow (logit (kernelRun.sl.r arg3 arg4 x3 x4) x2 x7 (tab i 0) 0 2 0 (by decide) (by decide) (by decide) q) (sinkAt x8 0 2 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  unfold kernelRun.sl.r_16
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay5, k0_pay6, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_1_0 (hoff : ∀ a, k0_off3 i a + S1x1x256x768.size a ≤ S2x2x256x768.size a) (d : Fin 64) (q : Fin 128) :
    k0_pay4 (F := Ideal) (kernelRun.sl.r_1 arg5 arg6 x5 x6) k0_pay76 (kernelRun.sl.r_14 arg3 arg4 x3 x4) (kernelRun.sl.r_15 arg2 x2) (View.readAt (Elt Ideal) arg7.view (Rect.unit (s := S2x2x256x768) (k0_off3 i) S1x1x256x768.size hoff).toLoadRect (arg7.view.rep x7)) (View.readAt (Elt Ideal) arg8.view (Rect.unit (s := S12x1x256) ![1, 0, 0] S1x1x256.size inb_S12x1x256_S1x1x256_1_0_0).toLoadRect (arg8.view.rep x8)) (ix2 d q)
    = Softmax.slow (logit (kernelRun.sl.r arg3 arg4 x3 x4) x2 x7 (tab i 0) 0 1 0 (by decide) (by decide) (by decide) q) (sinkAt x8 0 1 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  unfold kernelRun.sl.r_15 kernelRun.sl.r_14
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay3, k0_pay4, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

theorem slow_0_0_0 (hoff : ∀ a, k0_off3 i a + S1x1x256x768.size a ≤ S2x2x256x768.size a) (d : Fin 64) (q : Fin 128) :
    k0_pay2 (F := Ideal) (kernelRun.sl.r arg3 arg4 x3 x4) (kernelRun.sl.r_1 arg5 arg6 x5 x6) k0_pay76 (View.readAt (Elt Ideal) arg2.view (Rect.unit (s := S1x768x256) ![0, 0, 0] S1x64x128.size inb_S1x768x256_S1x64x128_0_0_0).toLoadRect (arg2.view.rep x2)) (View.readAt (Elt Ideal) arg7.view (Rect.unit (s := S2x2x256x768) (k0_off3 i) S1x1x256x768.size hoff).toLoadRect (arg7.view.rep x7)) (View.readAt (Elt Ideal) arg8.view (Rect.unit (s := S12x1x256) ![0, 0, 0] S1x1x256.size inb_S12x1x256_S1x1x256_0_0_0).toLoadRect (arg8.view.rep x8)) (ix2 d q)
    = Softmax.slow (logit (kernelRun.sl.r arg3 arg4 x3 x4) x2 x7 (tab i 0) 0 0 0 (by decide) (by decide) (by decide) q) (sinkAt x8 0 0 (by decide) (by decide) q)
        (valueRow (kernelRun.sl.r_1 arg5 arg6 x5 x6) d.val 0 0 (by omega) (by decide) (by decide)) (valueRow (kernelRun.sl.r_1 arg5 arg6 x5 x6) 64 0 0 (by decide) (by decide) (by decide)) := by
  generalize (kernelRun.sl.r arg3 arg4 x3 x4 : FVec Ideal S384x128 .bf16) = K
  generalize (kernelRun.sl.r_1 arg5 arg6 x5 x6 : FVec Ideal S160x384 .bf16) = W
  simp only [read_eq]
  have hB := bias3 i x7 hoff
  obtain ⟨B, eB⟩ : ∃ B : FVec Ideal S1x1x256x768 .f32, B = View.ld x7 (Rect.unit (s := S2x2x256x768) (k0_off3 i) S1x1x256x768.size hoff) := ⟨_, rfl⟩
  rw [← eB] at hB ⊢
  pointwise [k0_pay2, k0_pay76]
  simp only [mul_zero, Finset.sum_const_zero, zero_add, add_zero, ofBits_neg_inf, hB]
  unfold Softmax.slow logit valueRow sinkAt
  simp only [Nat.zero_add, Nat.mul_zero, Nat.mul_one, zero_add, Nat.reduceMul, Nat.reduceAdd]
  rfl

end Cert.KernelIdeal.Hand
end
-- ==== Proof.Block.lean ====
/-
  The body's result block at an index: whichever way it was computed, one query's combination of the values.
-/
module

public import proofs.«01_k».proof.Proof.BlockSlow
public import Idealize.ShloMosaic.Lib.Pointwise
public import Idealize.ShloMosaic.Lib.Pipeline.ReadBack
public import Idealize.ShloMosaic.Lib.VecWindow
public import Idealize.ShloMosaic.Lib.Tactic.CleanTypes

@[expose] public section

set_option maxRecDepth 16384

noncomputable section

namespace Cert.KernelIdeal.Hand

open Cert.KernelIdeal Cert.KernelIdeal.Gen Idealize.ShloMosaic Idealize.ShloMosaic.TcCoe

/-- One entry of the result: head `6 g + h`'s channel `d` at query `q` of the tile's half `u`. -/
def cell (i : grid0.Coords) (K : FVec Ideal S384x128 .bf16) (W : FVec Ideal S160x384 .bf16) (x2 : FVec Ideal S1x768x256 .bf16)
    (x7 : FVec Ideal S2x2x256x768 .f32) (x8 : FVec Ideal S12x1x256 .f32) (g h u : ℕ) (hg : g < 2) (hh : h < 6) (hu : u < 2)
    (d : Fin 64) (q : Fin 128) : EReal :=
  Softmax.combine (logit K x2 x7 (tab i ⟨u, hu⟩) g h u hg hh hu q) (sinkAt x8 g h hg hh q) (valueRow W d.val g u (by omega) hg hu)

/-- The scratch the body fills before it transposes it. -/
def table (i : grid0.Coords) (K : FVec Ideal S384x128 .bf16) (W : FVec Ideal S160x384 .bf16) (x2 : FVec Ideal S1x768x256 .bf16)
    (x7 : FVec Ideal S2x2x256x768 .f32) (x8 : FVec Ideal S12x1x256 .f32) (y : S768x256.Idx) : EReal :=
  cell i K W x2 x7 x8 ((y 0).val / 384) ((y 0).val / 64 % 6) ((y 1).val / 128)
    (by have h : (y 0).val < 768 := (y 0).isLt; omega) (by omega) (by have h : (y 1).val < 256 := (y 1).isLt; omega)
    ⟨(y 0).val % 64, by omega⟩ ⟨(y 1).val % 128, by omega⟩

/-- What makes the two ways agree: no logit is infinite from above, the sinks are real, and the row under the values is of ones. -/
structure Good (K : FVec Ideal S384x128 .bf16) (W : FVec Ideal S160x384 .bf16) (x2 : FVec Ideal S1x768x256 .bf16)
    (x7 : FVec Ideal S2x2x256x768 .f32) (x8 : FVec Ideal S12x1x256 .f32) : Prop where
  logits : ∀ w g h u hg hh hu q l, logit K x2 x7 w g h u hg hh hu q l ≠ ⊤
  sinks : ∀ g h hg hh q, ∃ t : ℝ, sinkAt x8 g h hg hh q = (t : EReal)
  ones : ∀ g u hg hu l, valueRow W 64 g u (by decide) hg hu l = 1

section

variable {i : grid0.Coords} {K : FVec Ideal S384x128 .bf16} {W : FVec Ideal S160x384 .bf16} {x2 : FVec Ideal S1x768x256 .bf16}
    {x7 : FVec Ideal S2x2x256x768 .f32} {x8 : FVec Ideal S12x1x256 .f32}

theorem tab_one (hu : 1 < 2) : tab i ⟨1, hu⟩ = 1 := by
  unfold tab
  rw [if_neg]
  rintro ⟨_, h⟩
  exact absurd (congrArg Fin.val h) Nat.one_ne_zero

theorem cell_of_fast (H : Good K W x2 x7 x8) (g h u : ℕ) (hg : g < 2) (hh : h < 6) (hu : u < 2) (d : Fin 64) (q : Fin 128)
    {w : Fin 2} (hw : tab i ⟨u, hu⟩ = w) :
    Softmax.fast (logit K x2 x7 w g h u hg hh hu q) (sinkAt x8 g h hg hh q)
        (valueRow W d.val g u (by omega) hg hu) (valueRow W 64 g u (by decide) hg hu) = cell i K W x2 x7 x8 g h u hg hh hu d q := by
  obtain ⟨t, ht⟩ := H.sinks g h hg hh q
  unfold cell
  rw [ht, hw]
  exact Softmax.fast_eq _ (H.logits w g h u hg hh hu q) t _ _ (H.ones g u hg hu)

theorem cell_of_slow (H : Good K W x2 x7 x8) (g h u : ℕ) (hg : g < 2) (hh : h < 6) (hu : u < 2) (d : Fin 64) (q : Fin 128)
    {w : Fin 2} (hw : tab i ⟨u, hu⟩ = w) :
    Softmax.slow (logit K x2 x7 w g h u hg hh hu q) (sinkAt x8 g h hg hh q)
        (valueRow W d.val g u (by omega) hg hu) (valueRow W 64 g u (by decide) hg hu) = cell i K W x2 x7 x8 g h u hg hh hu d q := by
  obtain ⟨t, ht⟩ := H.sinks g h hg hh q
  unfold cell
  rw [ht, hw]
  exact Softmax.slow_eq _ (H.logits w g h u hg hh hu q) t _ _ (H.ones g u hg hu)

theorem cell_congr {g h u g' h' u' : ℕ} (hg : g < 2) (hh : h < 6) (hu : u < 2) (hg' : g' < 2) (hh' : h' < 6) (hu' : u' < 2)
    (d d' : Fin 64) (q q' : Fin 128) (e1 : g = g') (e2 : h = h') (e3 : u = u') (e4 : d.val = d'.val) (e5 : q.val = q'.val) :
    cell i K W x2 x7 x8 g h u hg hh hu d q = cell i K W x2 x7 x8 g' h' u' hg' hh' hu' d' q' := by
  subst e1 e2 e3
  obtain rfl := Fin.ext e4
  obtain rfl := Fin.ext e5
  rfl

/-- A store of one head's one half is that part of the table. -/
theorem piece_ok (g h u : ℕ) (hg : g < 2) (hh : h < 6) (hu : u < 2) {o c : ℕ} (ho : o = 64 * (6 * g + h)) (hc : c = 128 * u)
    (inb : ∀ a, (![o, c] : Fin 2 → ℕ) a + S64x128.size a ≤ S768x256.size a) (P : FVec Ideal S64x128 .f32)
    (hP : ∀ (d : Fin 64) (q : Fin 128), P (ix2 d q) = cell i K W x2 x7 x8 g h u hg hh hu d q) :
    ∀ x : S64x128.Idx, P x = table i K W x2 x7 x8 ((Rect.unit (s := S768x256) ![o, c] S64x128.size inb).emb x) := by
  intro x
  have hx : x = ix2 (⟨(x 0).val, (x 0).isLt⟩ : Fin 64) (⟨(x 1).val, (x 1).isLt⟩ : Fin 128) := by
    funext a; match a with
    | ⟨0, _⟩ => rfl
    | ⟨1, _⟩ => rfl
  have h0 : (x 0).val < 64 := (x 0).isLt
  have h1 : (x 1).val < 128 := (x 1).isLt
  have e0 : (((Rect.unit (s := S768x256) ![o, c] S64x128.size inb).emb x) 0).val = o + (x 0).val := by
    show o + 1 * (x 0).val = _
    omega
  have e1 : (((Rect.unit (s := S768x256) ![o, c] S64x128.size inb).emb x) 1).val = c + (x 1).val := by
    show c + 1 * (x 1).val = _
    omega
  refine (congrArg P hx).trans ((hP _ _).trans ?_)
  unfold table
  refine cell_congr _ _ _ _ _ _ _ _ _ _ ?_ ?_ ?_ ?_ ?_ <;> simp only [e0, e1] <;> omega

/-- A store onto stores that are parts of the table. -/
theorem piece_cons (g h u : ℕ) (hg : g < 2) (hh : h < 6) (hu : u < 2) {o c : ℕ} (ho : o = 64 * (6 * g + h)) (hc : c = 128 * u)
    {inb : ∀ a, (![o, c] : Fin 2 → ℕ) a + S64x128.size a ≤ S768x256.size a} {P : FVec Ideal S64x128 .f32}
    {L : List (View.Piece (Elt Ideal) S768x256 .f32)}
    (hP : ∀ (d : Fin 64) (q : Fin 128), P (ix2 d q) = cell i K W x2 x7 x8 g h u hg hh hu d q)
    (hL : View.PiecesOf (Val := Elt Ideal) (e := .f32) (table i K W x2 x7 x8) L) :
    View.PiecesOf (Val := Elt Ideal) (e := .f32) (table i K W x2 x7 x8)
      ((⟨Rect.unit (s := S768x256) ![o, c] S64x128.size inb, P⟩ : View.Piece (Elt Ideal) S768x256 .f32) :: L) :=
  ⟨piece_ok g h u hg hh hu ho hc inb P hP, hL⟩

end

theorem ld_whole (X : S768x256.Idx → Elt Ideal .f32) (inb : ∀ a, (![0, 0] : Fin 2 → ℕ) a + S768x256.size a ≤ S768x256.size a) :
    (View.ld X (Rect.unit (s := S768x256) ![0, 0] S768x256.size inb) : S768x256.Idx → Elt Ideal .f32) = X :=
  View.ld_unit_zero (S := S768x256) (by funext a; match a with | ⟨0, _⟩ => rfl | ⟨1, _⟩ => rfl) inb X

theorem slice_at {o : ℕ} (X : FVec Ideal S64x768 .f32) (h1 : S64x768.Slices ![0, o] S64x128) (h2 : S64x128.ShapeCasts S64x128) (ho : o + 128 ≤ 768) (d : Fin 64) (q : Fin 128) :
    shapeCast S64x128 (extractStridedSlice S64x128 ![0, o] X h1) h2 (ix2 d q) = X (ix2 d ⟨o + q.val, by omega⟩) := by
  pointwise

theorem table_inb3 (i : grid0.Coords) (a : Fin 4) : k0_off3 i a + S1x1x256x768.size a ≤ S2x2x256x768.size a := by
  rw [off3_eq]
  have h := (tab i 0).isLt
  match a with
  | ⟨0, _⟩ => show (tab i 0).val + 1 ≤ 2; omega
  | ⟨1, _⟩ => show 0 + 1 ≤ 2; omega
  | ⟨2, _⟩ => show 0 + 256 ≤ 256; omega
  | ⟨3, _⟩ => show 0 + 768 ≤ 768; omega

theorem table_inb4 (i : grid0.Coords) (a : Fin 4) : k0_off4 i a + S1x1x256x768.size a ≤ S2x2x256x768.size a := by
  rw [off4_eq]
  have h := (tab i 0).isLt
  match a with
  | ⟨0, _⟩ => show (tab i 0).val + 1 ≤ 2; omega
  | ⟨1, _⟩ => show 1 + 1 ≤ 2; omega
  | ⟨2, _⟩ => show 0 + 256 ≤ 256; omega
  | ⟨3, _⟩ => show 0 + 768 ≤ 768; omega

variable (i : grid0.Coords)
    (arg2 : Memref sig .tc .vmem S1x768x256 .bf16) (arg3 : Memref sig .tc .vmem S1x128x128 .bf16)
    (arg4 : Memref sig .tc .vmem S1x256x128 .bf16) (arg5 : Memref sig .tc .vmem S1x160x128 .bf16)
    (arg6 : Memref sig .tc .vmem S1x160x256 .bf16) (arg7 : Memref sig .tc .vmem S2x2x256x768 .f32)
    (arg8 : Memref sig .tc .vmem S12x1x256 .f32)
    (x2 : Vec Ideal S1x768x256 .bf16) (x3 : Vec Ideal S1x128x128 .bf16) (x4 : Vec Ideal S1x256x128 .bf16) (x5 : Vec Ideal S1x160x128 .bf16)
    (x6 : Vec Ideal S1x160x256 .bf16) (x7 : Vec Ideal S2x2x256x768 .f32) (x8 : Vec Ideal S12x1x256 .f32)

theorem pieces24 (H : Good (kernelRun.sl.r arg3 arg4 x3 x4) (kernelRun.sl.r_1 arg5 arg6 x5 x6) x2 x7 x8) :
    View.PiecesOf (Val := Elt Ideal) (e := .f32) (table i (kernelRun.sl.r arg3 arg4 x3 x4) (kernelRun.sl.r_1 arg5 arg6 x5 x6) x2 x7 x8) (kernelRun.sl.HS_24 (F := Ideal) i arg2 arg3 arg4 arg5 arg6 arg7 arg8 x2 x3 x4 x5 x6 x7 x8) := by
  unfold kernelRun.sl.HS_24
  refine piece_cons 1 5 1 (by decide) (by decide) (by decide) rfl rfl (fun d q => ?_) ?_
  · unfold k0_pay141
    exact (slice_at _ _ _ (by decide) d q).trans ((s305_at arg2 arg3 arg4 arg5 arg6 arg7 arg8 x2 x3 x4 x5 x6 x7 x8 d 5 (by decide) q).trans
      (cell_of_fast H 1 5 1 (by decide) (by decide) (by decide) d q (tab_one _)))
  refine piece_cons 1 4 1 (by decide) (by decide) (by decide) rfl rfl (fun d q => ?_) ?_
  · unfold k0_pay140
    exact (slice_at _ _ _ (by decide) d q).trans ((s305_at arg2 arg3 arg4 arg5 arg6 arg7 arg8 x2 x3 x4 x5 x6 x7 x8 d 4 (by decide) q).trans
      (cell_of_fast H 1 4 1 (by decide) (by decide) (by decide) d q (tab_one _)))
  refine piece_cons 1 3 1 (by decide) (by decide) (by decide) rfl rfl (fun d q => ?_) ?_
  · unfold k0_pay139
    exact (slice_at _ _ _ (by decide) d q).trans ((s305_at arg2 arg3 arg4 arg5 arg6 arg7 arg8 x2 x3 x4 x5 x6 x7 x8 d 3 (by decide) q).trans
      (cell_of_fast H 1 3 1 (by decide) (by decide) (by decide) d q (tab_one _)))
  refine piece_cons 1 2 1 (by decide) (by decide) (by decide) rfl rfl (fun d q => ?_) ?_
  · unfold k0_pay138
    exact (slice_at _ _ _ (by decide) d q).trans ((s305_at arg2 arg3 arg4 arg5 arg6 arg7 arg8 x2 x3 x4 x5 x6 x7 x8 d 2 (by decide) q).trans
      (cell_of_fast H 1 2 1 (by decide) (by decide) (by decide) d q (tab_one _)))
  refine piece_cons 1 1 1 (by decide) (by decide) (by decide) rfl rfl (fun d q => ?_) ?_
  · unfold kernelRun.sl.v310 k0_pay137
    exact (slice_at _ _ _ (by decide) d q).trans ((s305_at arg2 arg3 arg4 arg5 arg6 arg7 arg8 x2 x3 x4 x5 x6 x7 x8 d 1 (by decide) q).trans
      (cell_of_fast H 1 1 1 (by decide) (by decide) (by decide) d q (tab_one _)))
  refine piece_cons 1 0 1 (by decide) (by decide) (by decide) rfl rfl (fun d q => ?_) ?_
  · unfold kernelRun.sl.v309 kernelRun.sl.v306
    exact (slice_at _ _ _ (by decide) d q).trans ((s305_at arg2 arg3 arg4 arg5 arg6 arg7 arg8 x2 x3 x4 x5 x6 x7 x8 d 0 (by decide) q).trans
      (cell_of_fast H 1 0 1 (by decide) (by decide) (by decide) d q (tab_one _)))
  refine piece_cons 0 5 1 (by decide) (by decide) (by decide) rfl rfl (fun d q => ?_) ?_
  · unfold kernelRun.sl.v296 kernelRun.sl.v293
    exact (slice_at _ _ _ (by decide) d q).trans ((s272_at arg2 arg3 arg4 arg5 arg6 arg7 arg8 x2 x3 x4 x5 x6 x7 x8 d 5 (by decide) q).trans
      (cell_of_fast H 0 5 1 (by decide) (by decide) (by decide) d q (tab_one _)))
  refine piece_cons 0 4 1 (by decide) (by decide) (by decide) rfl rfl (fun d q => ?_) ?_
  · unfold kernelRun.sl.v292 kernelRun.sl.v289
    exact (slice_at _ _ _ (by decide) d q).trans ((s272_at arg2 arg3 arg4 arg5 arg6 arg7 arg8 x2 x3 x4 x5 x6 x7 x8 d 4 (by decide) q).trans
      (cell_of_fast H 0 4 1 (by decide) (by decide) (by decide) d q (tab_one _)))
  refine piece_cons 0 3 1 (by decide) (by decide) (by decide) rfl rfl (fun d q => ?_) ?_
  · unfold kernelRun.sl.v288 kernelRun.sl.v285
    exact (slice_at _ _ _ (by decide) d q).trans ((s272_at arg2 arg3 arg4 arg5 arg6 arg7 arg8 x2 x3 x4 x5 x6 x7 x8 d 3 (by decide) q).trans
      (cell_of_fast H 0 3 1 (by decide) (by decide) (by decide) d q (tab_one _)))
  refine piece_cons 0 2 1 (by decide) (by decide) (by decide) rfl rfl (fun d q => ?_) ?_
  · unfold kernelRun.sl.v284 kernelRun.sl.v281
    exact (slice_at _ _ _ (by decide) d q).trans ((s272_at arg2 arg3 arg4 arg5 arg6 arg7 arg8 x2 x3 x4 x5 x6 x7 x8 d 2 (by decide) q).trans
      (cell_of_fast H 0 2 1 (by decide) (by decide) (by decide) d q (tab_one _)))
  refine piece_cons 0 1 1 (by decide) (by decide) (by decide) rfl rfl (fun d q => ?_) ?_
  · unfold kernelRun.sl.v280 kernelRun.sl.v277
    exact (slice_at _ _ _ (by decide) d q).trans ((s272_at arg2 arg3 arg4 arg5 arg6 arg7 arg8 x2 x3 x4 x5 x6 x7 x8 d 1 (by decide) q).trans
      (cell_of_fast H 0 1 1 (by decide) (by decide) (by decide) d q (tab_one _)))
  refine piece_cons 0 0 1 (by decide) (by decide) (by decide) rfl rfl (fun d q => ?_) ?_
  · unfold kernelRun.sl.v276 kernelRun.sl.v273
    exact (slice_at _ _ _ (by decide) d q).trans ((s272_at arg2 arg3 arg4 arg5 arg6 arg7 arg8 x2 x3 x4 x5 x6 x7 x8 d 0 (by decide) q).trans
      (cell_of_fast H 0 0 1 (by decide) (by decide) (by decide) d q (tab_one _)))
  refine piece_cons 1 5 0 (by decide) (by decide) (by decide) rfl rfl (fun d q => ?_) ?_
  · unfold kernelRun.sl.v263 kernelRun.sl.v260
    exact (slice_at _ _ _ (by decide) d q).trans ((s239_at i arg2 arg3 arg4 arg5 arg6 arg7 arg8 x2 x3 x4 x5 x6 x7 x8 d 5 (by decide) q).trans
      (cell_of_fast H 1 5 0 (by decide) (by decide) (by decide) d q rfl))
  refine piece_cons 1 4 0 (by decide) (by decide) (by decide) rfl rfl (fun d q => ?_) ?_
  · unfold kernelRun.sl.v259 kernelRun.sl.v256
    exact (slice_at _ _ _ (by decide) d q).trans ((s239_at i arg2 arg3 arg4 arg5 arg6 arg7 arg8 x2 x3 x4 x5 x6 x7 x8 d 4 (by decide) q).trans
      (cell_of_fast H 1 4 0 (by decide) (by decide) (by decide) d q rfl))
  refine piece_cons 1 3 0 (by decide) (by decide) (by decide) rfl rfl (fun d q => ?_) ?_
  · unfold kernelRun.sl.v255 kernelRun.sl.v252
    exact (slice_at _ _ _ (by decide) d q).trans ((s239_at i arg2 arg3 arg4 arg5 arg6 arg7 arg8 x2 x3 x4 x5 x6 x7 x8 d 3 (by decide) q).trans
      (cell_of_fast H 1 3 0 (by decide) (by decide) (by decide) d q rfl))
  refine piece_cons 1 2 0 (by decide) (by decide) (by decide) rfl rfl (fun d q => ?_) ?_
  · unfold kernelRun.sl.v251 kernelRun.sl.v248
    exact (slice_at _ _ _ (by decide) d q).trans ((s239_at i arg2 arg3 arg4 arg5 arg6 arg7 arg8 x2 x3 x4 x5 x6 x7 x8 d 2 (by decide) q).trans
      (cell_of_fast H 1 2 0 (by decide) (by decide) (by decide) d q rfl))
  refine piece_cons 1 1 0 (by decide) (by decide) (by decide) rfl rfl (fun d q => ?_) ?_
  · unfold kernelRun.sl.v247 kernelRun.sl.v244
    exact (slice_at _ _ _ (by decide) d q).trans ((s239_at i arg2 arg3 arg4 arg5 arg6 arg7 arg8 x2 x3 x4 x5 x6 x7 x8 d 1 (by decide) q).trans
      (cell_of_fast H 1 1 0 (by decide) (by decide) (by decide) d q rfl))
  refine piece_cons 1 0 0 (by decide) (by decide) (by decide) rfl rfl (fun d q => ?_) ?_
  · unfold kernelRun.sl.v243 kernelRun.sl.v240
    exact (slice_at _ _ _ (by decide) d q).trans ((s239_at i arg2 arg3 arg4 arg5 arg6 arg7 arg8 x2 x3 x4 x5 x6 x7 x8 d 0 (by decide) q).trans
      (cell_of_fast H 1 0 0 (by decide) (by decide) (by decide) d q rfl))
  refine piece_cons 0 5 0 (by decide) (by decide) (by decide) rfl rfl (fun d q => ?_) ?_
  · unfold kernelRun.sl.v230 kernelRun.sl.v227
    exact (slice_at _ _ _ (by decide) d q).trans ((s206_at i arg2 arg3 arg4 arg5 arg6 arg7 arg8 x2 x3 x4 x5 x6 x7 x8 d 5 (by decide) q).trans
      (cell_of_fast H 0 5 0 (by decide) (by decide) (by decide) d q rfl))
  refine piece_cons 0 4 0 (by decide) (by decide) (by decide) rfl rfl (fun d q => ?_) ?_
  · unfold kernelRun.sl.v226 kernelRun.sl.v223
    exact (slice_at _ _ _ (by decide) d q).trans ((s206_at i arg2 arg3 arg4 arg5 arg6 arg7 arg8 x2 x3 x4 x5 x6 x7 x8 d 4 (by decide) q).trans
      (cell_of_fast H 0 4 0 (by decide) (by decide) (by decide) d q rfl))
  refine piece_cons 0 3 0 (by decide) (by decide) (by decide) rfl rfl (fun d q => ?_) ?_
  · unfold kernelRun.sl.v222 kernelRun.sl.v219
    exact (slice_at _ _ _ (by decide) d q).trans ((s206_at i arg2 arg3 arg4 arg5 arg6 arg7 arg8 x2 x3 x4 x5 x6 x7 x8 d 3 (by decide) q).trans
      (cell_of_fast H 0 3 0 (by decide) (by decide) (by decide) d q rfl))
  refine piece_cons 0 2 0 (by decide) (by decide) (by decide) rfl rfl (fun d q => ?_) ?_
  · unfold kernelRun.sl.v218 kernelRun.sl.v215
    exact (slice_at _ _ _ (by decide) d q).trans ((s206_at i arg2 arg3 arg4 arg5 arg6 arg7 arg8 x2 x3 x4 x5 x6 x7 x8 d 2 (by decide) q).trans
      (cell_of_fast H 0 2 0 (by decide) (by decide) (by decide) d q rfl))
  refine piece_cons 0 1 0 (by decide) (by decide) (by decide) rfl rfl (fun d q => ?_) ?_
  · unfold kernelRun.sl.v214 kernelRun.sl.v211
    exact (slice_at _ _ _ (by decide) d q).trans ((s206_at i arg2 arg3 arg4 arg5 arg6 arg7 arg8 x2 x3 x4 x5 x6 x7 x8 d 1 (by decide) q).trans
      (cell_of_fast H 0 1 0 (by decide) (by decide) (by decide) d q rfl))
  refine piece_cons 0 0 0 (by decide) (by decide) (by decide) rfl rfl (fun d q => ?_) ?_
  · unfold kernelRun.sl.v210 kernelRun.sl.v207
    exact (slice_at _ _ _ (by decide) d q).trans ((s206_at i arg2 arg3 arg4 arg5 arg6 arg7 arg8 x2 x3 x4 x5 x6 x7 x8 d 0 (by decide) q).trans
      (cell_of_fast H 0 0 0 (by decide) (by decide) (by decide) d q rfl))
  trivial

theorem pieces48 (H : Good (kernelRun.sl.r arg3 arg4 x3 x4) (kernelRun.sl.r_1 arg5 arg6 x5 x6) x2 x7 x8) :
    View.PiecesOf (Val := Elt Ideal) (e := .f32) (table i (kernelRun.sl.r arg3 arg4 x3 x4) (kernelRun.sl.r_1 arg5 arg6 x5 x6) x2 x7 x8) (kernelRun.sl.HS_48 (F := Ideal) i arg2 arg3 arg4 arg5 arg6 arg7 arg8 x2 x3 x4 x5 x6 x7 x8) := by
  unfold kernelRun.sl.HS_48
  refine piece_cons 1 5 1 (by decide) (by decide) (by decide) rfl rfl (fun d q => ?_) ?_
  · exact (slow_1_5_1 arg2 arg3 arg4 arg5 arg6 arg7 arg8 x2 x3 x4 x5 x6 x7 x8 d q).trans
      (cell_of_slow H 1 5 1 (by decide) (by decide) (by decide) d q (tab_one _))
  refine piece_cons 1 4 1 (by decide) (by decide) (by decide) rfl rfl (fun d q => ?_) ?_
  · exact (slow_1_4_1 arg2 arg3 arg4 arg5 arg6 arg7 arg8 x2 x3 x4 x5 x6 x7 x8 d q).trans
      (cell_of_slow H 1 4 1 (by decide) (by decide) (by decide) d q (tab_one _))
  refine piece_cons 1 3 1 (by decide) (by decide) (by decide) rfl rfl (fun d q => ?_) ?_
  · exact (slow_1_3_1 arg2 arg3 arg4 arg5 arg6 arg7 arg8 x2 x3 x4 x5 x6 x7 x8 d q).trans
      (cell_of_slow H 1 3 1 (by decide) (by decide) (by decide) d q (tab_one _))
  refine piece_cons 1 2 1 (by decide) (by decide) (by decide) rfl rfl (fun d q => ?_) ?_
  · exact (slow_1_2_1 arg2 arg3 arg4 arg5 arg6 arg7 arg8 x2 x3 x4 x5 x6 x7 x8 d q).trans
      (cell_of_slow H 1 2 1 (by decide) (by decide) (by decide) d q (tab_one _))
  refine piece_cons 1 1 1 (by decide) (by decide) (by decide) rfl rfl (fun d q => ?_) ?_
  · exact (slow_1_1_1 arg2 arg3 arg4 arg5 arg6 arg7 arg8 x2 x3 x4 x5 x6 x7 x8 d q).trans
      (cell_of_slow H 1 1 1 (by decide) (by decide) (by decide) d q (tab_one _))
  refine piece_cons 1 0 1 (by decide) (by decide) (by decide) rfl rfl (fun d q => ?_) ?_
  · exact (slow_1_0_1 arg2 arg3 arg4 arg5 arg6 arg7 arg8 x2 x3 x4 x5 x6 x7 x8 d q).trans
      (cell_of_slow H 1 0 1 (by decide) (by decide) (by decide) d q (tab_one _))
  refine piece_cons 0 5 1 (by decide) (by decide) (by decide) rfl rfl (fun d q => ?_) ?_
  · exact (slow_0_5_1 arg2 arg3 arg4 arg5 arg6 arg7 arg8 x2 x3 x4 x5 x6 x7 x8 d q).trans
      (cell_of_slow H 0 5 1 (by decide) (by decide) (by decide) d q (tab_one _))
  refine piece_cons 0 4 1 (by decide) (by decide) (by decide) rfl rfl (fun d q => ?_) ?_
  · exact (slow_0_4_1 arg2 arg3 arg4 arg5 arg6 arg7 arg8 x2 x3 x4 x5 x6 x7 x8 d q).trans
      (cell_of_slow H 0 4 1 (by decide) (by decide) (by decide) d q (tab_one _))
  refine piece_cons 0 3 1 (by decide) (by decide) (by decide) rfl rfl (fun d q => ?_) ?_
  · exact (slow_0_3_1 arg2 arg3 arg4 arg5 arg6 arg7 arg8 x2 x3 x4 x5 x6 x7 x8 d q).trans
      (cell_of_slow H 0 3 1 (by decide) (by decide) (by decide) d q (tab_one _))
  refine piece_cons 0 2 1 (by decide) (by decide) (by decide) rfl rfl (fun d q => ?_) ?_
  · exact (slow_0_2_1 arg2 arg3 arg4 arg5 arg6 arg7 arg8 x2 x3 x4 x5 x6 x7 x8 d q).trans
      (cell_of_slow H 0 2 1 (by decide) (by decide) (by decide) d q (tab_one _))
  refine piece_cons 0 1 1 (by decide) (by decide) (by decide) rfl rfl (fun d q => ?_) ?_
  · exact (slow_0_1_1 arg2 arg3 arg4 arg5 arg6 arg7 arg8 x2 x3 x4 x5 x6 x7 x8 d q).trans
      (cell_of_slow H 0 1 1 (by decide) (by decide) (by decide) d q (tab_one _))
  refine piece_cons 0 0 1 (by decide) (by decide) (by decide) rfl rfl (fun d q => ?_) ?_
  · exact (slow_0_0_1 arg2 arg3 arg4 arg5 arg6 arg7 arg8 x2 x3 x4 x5 x6 x7 x8 d q).trans
      (cell_of_slow H 0 0 1 (by decide) (by decide) (by decide) d q (tab_one _))
  refine piece_cons 1 5 0 (by decide) (by decide) (by decide) rfl rfl (fun d q => ?_) ?_
  · exact (slow_1_5_0 i arg2 arg3 arg4 arg5 arg6 arg7 arg8 x2 x3 x4 x5 x6 x7 x8 (table_inb4 i) d q).trans
      (cell_of_slow H 1 5 0 (by decide) (by decide) (by decide) d q rfl)
  refine piece_cons 1 4 0 (by decide) (by decide) (by decide) rfl rfl (fun d q => ?_) ?_
  · exact (slow_1_4_0 i arg2 arg3 arg4 arg5 arg6 arg7 arg8 x2 x3 x4 x5 x6 x7 x8 (table_inb4 i) d q).trans
      (cell_of_slow H 1 4 0 (by decide) (by decide) (by decide) d q rfl)
  refine piece_cons 1 3 0 (by decide) (by decide) (by decide) rfl rfl (fun d q => ?_) ?_
  · exact (slow_1_3_0 i arg2 arg3 arg4 arg5 arg6 arg7 arg8 x2 x3 x4 x5 x6 x7 x8 (table_inb4 i) d q).trans
      (cell_of_slow H 1 3 0 (by decide) (by decide) (by decide) d q rfl)
  refine piece_cons 1 2 0 (by decide) (by decide) (by decide) rfl rfl (fun d q => ?_) ?_
  · exact (slow_1_2_0 i arg2 arg3 arg4 arg5 arg6 arg7 arg8 x2 x3 x4 x5 x6 x7 x8 (table_inb4 i) d q).trans
      (cell_of_slow H 1 2 0 (by decide) (by decide) (by decide) d q rfl)
  refine piece_cons 1 1 0 (by decide) (by decide) (by decide) rfl rfl (fun d q => ?_) ?_
  · exact (slow_1_1_0 i arg2 arg3 arg4 arg5 arg6 arg7 arg8 x2 x3 x4 x5 x6 x7 x8 (table_inb4 i) d q).trans
      (cell_of_slow H 1 1 0 (by decide) (by decide) (by decide) d q rfl)
  refine piece_cons 1 0 0 (by decide) (by decide) (by decide) rfl rfl (fun d q => ?_) ?_
  · exact (slow_1_0_0 i arg2 arg3 arg4 arg5 arg6 arg7 arg8 x2 x3 x4 x5 x6 x7 x8 (table_inb4 i) d q).trans
      (cell_of_slow H 1 0 0 (by decide) (by decide) (by decide) d q rfl)
  refine piece_cons 0 5 0 (by decide) (by decide) (by decide) rfl rfl (fun d q => ?_) ?_
  · exact (slow_0_5_0 i arg2 arg3 arg4 arg5 arg6 arg7 arg8 x2 x3 x4 x5 x6 x7 x8 (table_inb3 i) d q).trans
      (cell_of_slow H 0 5 0 (by decide) (by decide) (by decide) d q rfl)
  refine piece_cons 0 4 0 (by decide) (by decide) (by decide) rfl rfl (fun d q => ?_) ?_
  · exact (slow_0_4_0 i arg2 arg3 arg4 arg5 arg6 arg7 arg8 x2 x3 x4 x5 x6 x7 x8 (table_inb3 i) d q).trans
      (cell_of_slow H 0 4 0 (by decide) (by decide) (by decide) d q rfl)
  refine piece_cons 0 3 0 (by decide) (by decide) (by decide) rfl rfl (fun d q => ?_) ?_
  · exact (slow_0_3_0 i arg2 arg3 arg4 arg5 arg6 arg7 arg8 x2 x3 x4 x5 x6 x7 x8 (table_inb3 i) d q).trans
      (cell_of_slow H 0 3 0 (by decide) (by decide) (by decide) d q rfl)
  refine piece_cons 0 2 0 (by decide) (by decide) (by decide) rfl rfl (fun d q => ?_) ?_
  · exact (slow_0_2_0 i arg2 arg3 arg4 arg5 arg6 arg7 arg8 x2 x3 x4 x5 x6 x7 x8 (table_inb3 i) d q).trans
      (cell_of_slow H 0 2 0 (by decide) (by decide) (by decide) d q rfl)
  refine piece_cons 0 1 0 (by decide) (by decide) (by decide) rfl rfl (fun d q => ?_) ?_
  · exact (slow_0_1_0 i arg2 arg3 arg4 arg5 arg6 arg7 arg8 x2 x3 x4 x5 x6 x7 x8 (table_inb3 i) d q).trans
      (cell_of_slow H 0 1 0 (by decide) (by decide) (by decide) d q rfl)
  refine piece_cons 0 0 0 (by decide) (by decide) (by decide) rfl rfl (fun d q => ?_) ?_
  · exact (slow_0_0_0 i arg2 arg3 arg4 arg5 arg6 arg7 arg8 x2 x3 x4 x5 x6 x7 x8 (table_inb3 i) d q).trans
      (cell_of_slow H 0 0 0 (by decide) (by decide) (by decide) d q rfl)
  exact pieces24 i arg2 arg3 arg4 arg5 arg6 arg7 arg8 x2 x3 x4 x5 x6 x7 x8 H

theorem cover24 (y : S768x256.Idx) : ∃ p ∈ kernelRun.sl.HS_24 (F := Ideal) i arg2 arg3 arg4 arg5 arg6 arg7 arg8 x2 x3 x4 x5 x6 x7 x8, y ∈ p.1.set :=
  View.cover_of_tiledL (s := S768x256) _ ![64, 128] (by sl_kernel_rfl) y

theorem load24 (H : Good (kernelRun.sl.r arg3 arg4 x3 x4) (kernelRun.sl.r_1 arg5 arg6 x5 x6) x2 x7 x8) :
    kernelRun.sl.v330 (F := Ideal) i arg2 arg3 arg4 arg5 arg6 arg7 arg8 x2 x3 x4 x5 x6 x7 x8 = table i (kernelRun.sl.r arg3 arg4 x3 x4) (kernelRun.sl.r_1 arg5 arg6 x5 x6) x2 x7 x8 := by
  unfold kernelRun.sl.v330
  rw [View.readCov_eq_canon_ld _ _ _ (cover24 i arg2 arg3 arg4 arg5 arg6 arg7 arg8 x2 x3 x4 x5 x6 x7 x8), ld_whole]
  funext y
  exact View.canon_apply_of_pieces _ _ (View.PiecesOf.mem (pieces24 i arg2 arg3 arg4 arg5 arg6 arg7 arg8 x2 x3 x4 x5 x6 x7 x8 H)) y (cover24 i arg2 arg3 arg4 arg5 arg6 arg7 arg8 x2 x3 x4 x5 x6 x7 x8 y)

theorem load48 (H : Good (kernelRun.sl.r arg3 arg4 x3 x4) (kernelRun.sl.r_1 arg5 arg6 x5 x6) x2 x7 x8) :
    kernelRun.sl.v (F := Ideal) i arg2 arg3 arg4 arg5 arg6 arg7 arg8 x2 x3 x4 x5 x6 x7 x8 = table i (kernelRun.sl.r arg3 arg4 x3 x4) (kernelRun.sl.r_1 arg5 arg6 x5 x6) x2 x7 x8 := by
  have hc : ∀ y, ∃ p ∈ kernelRun.sl.HS_48 (F := Ideal) i arg2 arg3 arg4 arg5 arg6 arg7 arg8 x2 x3 x4 x5 x6 x7 x8, y ∈ p.1.set := fun y => by
    obtain ⟨p, hp, hy⟩ := cover24 i arg2 arg3 arg4 arg5 arg6 arg7 arg8 x2 x3 x4 x5 x6 x7 x8 y
    refine ⟨p, ?_, hy⟩
    unfold kernelRun.sl.HS_48
    iterate 24 apply List.mem_cons_of_mem
    exact hp
  unfold kernelRun.sl.v
  rw [View.readCov_eq_canon_ld _ _ _ hc, ld_whole]
  funext y
  exact View.canon_apply_of_pieces _ _ (View.PiecesOf.mem (pieces48 i arg2 arg3 arg4 arg5 arg6 arg7 arg8 x2 x3 x4 x5 x6 x7 x8 H)) y (hc y)

theorem store1_at (v : FVec Ideal S768x256 .f32) (d : Fin 256) (q : Fin 768) : k0_pay1 (F := Ideal) v (ix3 0 d q) = v (ix2 q d) := by
  pointwise [k0_pay1]

theorem store142_at (v : FVec Ideal S768x256 .f32) (d : Fin 256) (q : Fin 768) : k0_pay142 (F := Ideal) v (ix3 0 d q) = v (ix2 q d) := by
  pointwise [k0_pay142]

theorem whole_store (w : S1x256x768.Idx → Elt Ideal .bf16) (L : List (View.Piece (Elt Ideal) S1x256x768 .bf16)) (y : S1x256x768.Idx) :
    View.canon ((⟨Rect.unit (s := S1x256x768) ![0, 0, 0] S1x256x768.size inb_S1x256x768_S1x256x768_0_0_0, w⟩ : View.Piece (Elt Ideal) S1x256x768 .bf16) :: L) y = w y :=
  congrFun (View.canon_cons_unit_zero (S := S1x256x768) (by funext a; match a with | ⟨0, _⟩ => rfl | ⟨1, _⟩ => rfl | ⟨2, _⟩ => rfl) inb_S1x256x768_S1x256x768_0_0_0 w L) y

theorem run_eq (c : Dev nD) (harg2 : arg2.IsWhole) (harg3 : arg3.IsWhole) (harg4 : arg4.IsWhole) (harg5 : arg5.IsWhole) (harg6 : arg6.IsWhole)
    (harg7 : arg7.IsWhole) (harg8 : arg8.IsWhole) (arg9 : Memref sig .tc .vmem S1x256x768 .bf16) (harg9 : arg9.IsWhole) :
    (kernelRun (F := Ideal) c i arg2 harg2 arg3 harg3 arg4 harg4 arg5 harg5 arg6 harg6 arg7 harg7 arg8 harg8 arg9 harg9 x2 x3 x4 x5 x6 x7 x8).2.1
      = ⟨Rect.unit (s := S1x256x768) ![0, 0, 0] S1x256x768.size inb_S1x256x768_S1x256x768_0_0_0, k0_pay1 (kernelRun.sl.v i arg2 arg3 arg4 arg5 arg6 arg7 arg8 x2 x3 x4 x5 x6 x7 x8)⟩ :: kernelRun.sl.H9_1 i arg2 arg3 arg4 arg5 arg6 arg7 arg8 x2 x3 x4 x5 x6 x7 x8 := by
  sl_kernel_rfl

theorem run_eq' (c : Dev nD) (harg2 : arg2.IsWhole) (harg3 : arg3.IsWhole) (harg4 : arg4.IsWhole) (harg5 : arg5.IsWhole) (harg6 : arg6.IsWhole)
    (harg7 : arg7.IsWhole) (harg8 : arg8.IsWhole) (arg9 : Memref sig .tc .vmem S1x256x768 .bf16) (harg9 : arg9.IsWhole) :
    (kernelRun (F := Ideal) c i arg2 harg2 arg3 harg3 arg4 harg4 arg5 harg5 arg6 harg6 arg7 harg7 arg8 harg8 arg9 harg9 x2 x3 x4 x5 x6 x7 x8).2.2.1
      = [⟨Rect.unit (s := S1x256x768) ![0, 0, 0] S1x256x768.size inb_S1x256x768_S1x256x768_0_0_0, k0_pay142 (kernelRun.sl.v330 i arg2 arg3 arg4 arg5 arg6 arg7 arg8 x2 x3 x4 x5 x6 x7 x8)⟩] := by
  sl_kernel_rfl

/-- The body's result at an index. -/
theorem out_at (c : Dev nD) (harg2 : arg2.IsWhole) (harg3 : arg3.IsWhole) (harg4 : arg4.IsWhole) (harg5 : arg5.IsWhole) (harg6 : arg6.IsWhole)
    (harg7 : arg7.IsWhole) (harg8 : arg8.IsWhole) (arg9 : Memref sig .tc .vmem S1x256x768 .bf16) (harg9 : arg9.IsWhole)
    (H : Good (kernelRun.sl.r arg3 arg4 x3 x4) (kernelRun.sl.r_1 arg5 arg6 x5 x6) x2 x7 x8) (r : Fin 256) (col : Fin 768) :
    out (F := Ideal) c i arg2 harg2 arg3 harg3 arg4 harg4 arg5 harg5 arg6 harg6 arg7 harg7 arg8 harg8 arg9 harg9 x2 x3 x4 x5 x6 x7 x8 (ix3 0 r col)
      = table i (kernelRun.sl.r arg3 arg4 x3 x4) (kernelRun.sl.r_1 arg5 arg6 x5 x6) x2 x7 x8 (ix2 col r) := by
  unfold out
  have h1 := run_eq i arg2 arg3 arg4 arg5 arg6 arg7 arg8 x2 x3 x4 x5 x6 x7 x8 c harg2 harg3 harg4 harg5 harg6 harg7 harg8 arg9 harg9
  have h2 := run_eq' i arg2 arg3 arg4 arg5 arg6 arg7 arg8 x2 x3 x4 x5 x6 x7 x8 c harg2 harg3 harg4 harg5 harg6 harg7 harg8 arg9 harg9
  generalize kernelRun (F := Ideal) c i arg2 harg2 arg3 harg3 arg4 harg4 arg5 harg5 arg6 harg6 arg7 harg7 arg8 harg8 arg9 harg9 x2 x3 x4 x5 x6 x7 x8 = R at h1 h2 ⊢
  dsimp only
  by_cases h : R.1 = 1#1
  · rw [if_pos h, View.read_writes_junk_eq_canon, h1]
    refine (whole_store (k0_pay1 (kernelRun.sl.v i arg2 arg3 arg4 arg5 arg6 arg7 arg8 x2 x3 x4 x5 x6 x7 x8)) (kernelRun.sl.H9_1 i arg2 arg3 arg4 arg5 arg6 arg7 arg8 x2 x3 x4 x5 x6 x7 x8) (ix3 0 r col)).trans ?_
    rw [store1_at, load48 i arg2 arg3 arg4 arg5 arg6 arg7 arg8 x2 x3 x4 x5 x6 x7 x8 H]
  · rw [if_neg h, View.read_writes_junk_eq_canon, h2]
    refine (whole_store (k0_pay142 (kernelRun.sl.v330 i arg2 arg3 arg4 arg5 arg6 arg7 arg8 x2 x3 x4 x5 x6 x7 x8)) [] (ix3 0 r col)).trans ?_
    rw [store142_at, load24 i arg2 arg3 arg4 arg5 arg6 arg7 arg8 x2 x3 x4 x5 x6 x7 x8 H]

end Cert.KernelIdeal.Hand

end
-- ==== Proof.Words.lean ====
/-
  The words the programs compute the distances and the mask from, as numbers.
-/
module

public import Idealize.ShloMosaic.PureOps
public import Idealize.ShloMosaic.Lib.Tactic.WordOmega

@[expose] public section

namespace Cert.Words

open Idealize.ShloMosaic

theorem ofNat_toNat (n : ℕ) (h : n < 65536) : (BitVec.ofNat 32 n).toNat = n := by
  rw [BitVec.toNat_ofNat]
  omega

/-- The difference of a query's and a key's places, as a word, is that number. -/
theorem dist_word (r : Fin 128) (l : Fin 256) :
    (IntOp.subi (IntOp.addi (BitVec.ofNat 32 r.val) 128#32) (BitVec.ofNat 32 l.val)).toInt = (r.val : ℤ) + 128 - l.val := by
  have h1 := ofNat_toNat r.val (by omega)
  have h2 := ofNat_toNat l.val (by omega)
  show (BitVec.ofNat 32 r.val + 128#32 - BitVec.ofNat 32 l.val).toInt = _
  rw [BitVec.toInt_eq_toNat_cond, BitVec.toNat_sub, BitVec.toNat_add, h1, h2]
  have := r.isLt
  have := l.isLt
  simp only [BitVec.toNat_ofNat]
  split <;> omega

theorem sge_zero (w : BitVec 32) : (IntOp.cmpi .sge w 0#32 : BitVec 1) = if 0 ≤ w.toInt then 1#1 else 0#1 := by
  show (BitVec.ofBool ((0#32).sle w)) = _
  by_cases h : 0 ≤ w.toInt
  · rw [if_pos h]
    have : (0#32).sle w = true := by simpa [BitVec.sle_iff_toInt_le] using h
    rw [this]; rfl
  · rw [if_neg h]
    have : (0#32).sle w = false := by simpa [BitVec.sle_eq_decide] using h
    rw [this]; rfl

theorem slt_tile (w : BitVec 32) : (IntOp.cmpi .slt w 128#32 : BitVec 1) = if w.toInt < 128 then 1#1 else 0#1 := by
  show (BitVec.ofBool (w.slt 128#32)) = _
  by_cases h : w.toInt < 128
  · rw [if_pos h]
    have : w.slt 128#32 = true := by simpa [BitVec.slt_iff_toInt_lt] using h
    rw [this]; rfl
  · rw [if_neg h]
    have : w.slt 128#32 = false := by simpa [BitVec.slt_eq_decide] using h
    rw [this]; rfl

theorem andi_ite (p q : Prop) [Decidable p] [Decidable q] :
    (IntOp.andi (if p then 1#1 else 0#1) (if q then 1#1 else 0#1) : BitVec 1) = if p ∧ q then 1#1 else 0#1 := by
  by_cases h : p <;> by_cases h' : q <;> simp [h, h', IntOp.andi]

theorem ori_ite (p q : Prop) [Decidable p] [Decidable q] :
    (IntOp.ori (if p then 1#1 else 0#1) (if q then 1#1 else 0#1) : BitVec 1) = if p ∨ q then 1#1 else 0#1 := by
  by_cases h : p <;> by_cases h' : q <;> simp [h, h', IntOp.ori]

theorem select_ite {α : Type} (p : Prop) [Decidable p] (a b : α) :
    Scalar.select (if p then 1#1 else 0#1) a b = if p then a else b := by
  by_cases h : p <;> simp [h, Scalar.select]

theorem window_word (r : Fin 128) (l : Fin 256) :
    (IntOp.andi (IntOp.cmpi .sge (IntOp.subi (IntOp.addi (BitVec.ofNat 32 r.val) 128#32) (BitVec.ofNat 32 l.val)) 0#32)
      (IntOp.cmpi .slt (IntOp.subi (IntOp.addi (BitVec.ofNat 32 r.val) 128#32) (BitVec.ofNat 32 l.val)) 128#32) : BitVec 1)
      = if l.val ≤ r.val + 128 ∧ r.val < l.val then 1#1 else 0#1 := by
  rw [sge_zero, slt_tile, andi_ite, dist_word]
  refine if_congr ?_ rfl rfl
  omega

theorem start_word (n : Fin 128) (l : Fin 256) :
    (IntOp.cmpi .sge (IntOp.addi (IntOp.subi (IntOp.muli (BitVec.ofNat 32 n.val) 128#32) 128#32) (BitVec.ofNat 32 l.val)) 0#32 : BitVec 1)
      = if 128 ≤ 128 * n.val + l.val then 1#1 else 0#1 := by
  rw [sge_zero]
  refine if_congr ?_ rfl rfl
  have h1 := ofNat_toNat n.val (by omega)
  have h2 := ofNat_toNat l.val (by omega)
  have : (IntOp.addi (IntOp.subi (IntOp.muli (BitVec.ofNat 32 n.val) 128#32) 128#32) (BitVec.ofNat 32 l.val)).toInt = 128 * (n.val : ℤ) + l.val - 128 := by
    show (BitVec.ofNat 32 n.val * 128#32 - 128#32 + BitVec.ofNat 32 l.val).toInt = _
    rw [BitVec.toInt_eq_toNat_cond, BitVec.toNat_add, BitVec.toNat_sub, BitVec.toNat_mul, h1, h2]
    have := n.isLt
    have := l.isLt
    simp only [BitVec.toNat_ofNat]
    split <;> omega
  rw [this]
  omega

/-- The kernel's table masks a key before the sequence's first for its own first block alone. -/
theorem first_word (i : Fin 2) (l : Fin 256) :
    (IntOp.ori (IntOp.cmpi .eq (BitVec.ofNat 32 i.val) 1#32) (IntOp.cmpi .sge (BitVec.ofNat 32 l.val) 128#32) : BitVec 1)
      = if i.val = 1 ∨ 128 ≤ l.val then 1#1 else 0#1 := by
  revert i l
  decide +kernel

end Cert.Words

end
-- ==== Proof.Entry.lean ====
/-
  What the host hands the kernel, at an index: the scaled queries, the values with their rows of ones, the keys, the
  table of biases and the sinks.
-/
module

public import proofs.«01_k».proof.Proof.Gen.KernelIdeal.Frame
public import proofs.«01_k».proof.Proof.Words
public import proofs.«01_k».proof.Proof.Softmax
public import Idealize.ShloMosaic.Lib.Pointwise
public import Idealize.ShloMosaic.Lib.StableHlo.ReadAt
public import Idealize.ShloMosaic.Lib.Tactic.CleanTypes

@[expose] public section

set_option maxRecDepth 16384

noncomputable section

namespace Cert.KernelIdeal.Hand

open Cert.Words Cert.KernelIdeal Cert.KernelIdeal.Gen Idealize.ShloMosaic Idealize.ShloMosaic.TcCoe

variable (m : (ℓ : Loc nD τ sig) → Buf (Elt Ideal) ℓ) (c : Dev nD)

theorem ofBits_eighth : Ideal.ofBits .f32 1040187392#32 = ((1 / 8 : ℝ) : EReal) := by
  simp [Ideal.ofBits, Ideal.ieee, -EReal.coe_mul]
  norm_num

theorem ofBits_two : Ideal.ofBits .f32 1073741824#32 = ((2 : ℝ) : EReal) := by
  simp [Ideal.ofBits, Ideal.ieee, -EReal.coe_mul]
  norm_num

theorem log2e_div : Ideal.div 1 (Ideal.log ((2 : ℝ) : EReal)) = ((Softmax.log2e : ℝ) : EReal) := by
  have h2 : Real.log 2 ≠ 0 := (Real.log_pos one_lt_two).ne'
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [this, Ideal.div_coe h2, one_mul, Softmax.log2e, one_div]

theorem queries_at (b : Fin 2) (col : Fin 768) (n : Fin 16384) :
    (V m c main_v6 (ix3 b col n) : EReal) = (show EReal from m ((c.tc : Thread nD τ).loc main_arg0) (ix3 b n col)) * ((1 / 8 * Softmax.log2e : ℝ) : EReal) := by
  unfold V
  after_reads_at
  rw [ofBits_eighth, ofBits_two, log2e_div, ← EReal.coe_mul]

theorem keys_at (b : Fin 2) (n : Fin 16384) (col : Fin 128) :
    (V m c main_v13 (ix3 b n col) : EReal) = m ((c.tc : Thread nD τ).loc main_arg1) (ix3 b n col) := by
  unfold V
  after_reads_at

theorem values_lo (b : Fin 2) (r : Fin 160) (d : Fin 64) (hr : r.val = d.val) (n : Fin 16384) :
    (V m c main_v12 (ix3 b r n) : EReal) = m ((c.tc : Thread nD τ).loc main_arg2) (ix3 b n ⟨d.val, by omega⟩) := by
  unfold V
  after_reads_at
  rw [dif_pos (by omega)]
  after_reads_at
  have e : (⟨r.val, by omega⟩ : Fin 128) = ⟨d.val, by omega⟩ := Fin.ext hr
  exact congrArg (fun y => m ((c.tc : Thread nD τ).loc main_arg2) (ix3 b n y)) e

theorem values_hi (b : Fin 2) (r : Fin 160) (d : Fin 64) (hr : r.val = 80 + d.val) (n : Fin 16384) :
    (V m c main_v12 (ix3 b r n) : EReal) = m ((c.tc : Thread nD τ).loc main_arg2) (ix3 b n ⟨64 + d.val, by omega⟩) := by
  unfold V
  after_reads_at
  rw [dif_neg (by omega), dif_neg (by omega), dif_pos (by omega)]
  after_reads_at
  have e : (⟨64 + (r.val - 64 - 16), by omega⟩ : Fin 128) = ⟨64 + d.val, by omega⟩ := Fin.ext (by dsimp only; omega)
  exact congrArg (fun y => m ((c.tc : Thread nD τ).loc main_arg2) (ix3 b n y)) e

theorem values_one (b : Fin 2) (r : Fin 160) (hr : r.val = 64 ∨ r.val = 144) (n : Fin 16384) :
    (show EReal from V m c main_v12 (ix3 b r n)) = 1 := by
  show V m c main_v12 (ix3 b r n) = (1 : EReal)
  unfold V
  after_reads_at
  rcases hr with hr | hr
  · rw [dif_neg (by omega), dif_pos (by omega)]
    after_reads_at
  · rw [dif_neg (by omega), dif_neg (by omega), dif_neg (by omega)]
    after_reads_at

theorem bias_at (i g : Fin 2) (l : Fin 256) (h : Fin 6) (q : Fin 128) :
    (V m c main_v43 (ix4 i g l ⟨128 * h.val + q.val, by omega⟩) : EReal)
      = if (l.val ≤ q.val + 128 ∧ q.val < l.val) ∧ (i.val = 1 ∨ 128 ≤ l.val) then
          -(Ideal.ofBits .f32 (lit0 ⟨6 * g.val + h.val, by show _ < 12; omega⟩) * ((Softmax.log2e : ℝ) : EReal)) * (((q.val : ℝ) + 128 - l.val : ℝ) : EReal)
        else ⊥ := by
  have hm : S12.rowMajor (ix1 (⟨g.val * 6 + h.val, by omega⟩ : Fin 12)) = ⟨6 * g.val + h.val, by show _ < 12; omega⟩ := by
    show _ = (⟨6 * g.val + h.val, (by omega : 6 * g.val + h.val < 12)⟩ : Fin 12)
    apply Fin.ext
    rw [Shape.rowMajor_val_one]
    show g.val * 6 + h.val = 6 * g.val + h.val
    omega
  unfold V
  after_reads_at
  rw [window_word, first_word, andi_ite, select_ite, ofBits_two, log2e_div]
  refine if_congr Iff.rfl ?_ ?_
  · have hs : (FloatOps.sitofp .f32 (IntOp.subi (IntOp.addi (BitVec.ofNat 32 q.val) 128#32) (BitVec.ofNat 32 l.val)) : Ideal .f32)
        = (((q.val : ℝ) + 128 - l.val : ℝ) : EReal) := by
      show ((((IntOp.subi (IntOp.addi (BitVec.ofNat 32 q.val) 128#32) (BitVec.ofNat 32 l.val)).toInt : ℤ) : ℝ) : EReal) = _
      rw [dist_word]
      push_cast
      rfl
    rw [hs, hm]
    rfl
  · show Ideal.ofBits .f32 4286578688#32 = ⊥
    simp [Ideal.ofBits, Ideal.ieee]

theorem sinks_at (h : Fin 12) (q : Fin 256) :
    (V m c main_v45 (ix3 h 0 q) : EReal) = m ((c.tc : Thread nD τ).loc main_arg3) (ix1 h) := by
  unfold V
  after_reads_at

end Cert.KernelIdeal.Hand
end
-- ==== Proof.Windows.lean ====
/-
  The windows' blocks at an index: what a grid point's queries, keys, values, bias and sinks are in the arguments.
-/
module

public import proofs.«01_k».proof.Proof.Block
public import proofs.«01_k».proof.Proof.Entry
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe

/-- The block of 128 keys before the tile of 256 that starts at `256 j`; of the first tile, its own first keys. -/
def before (j : ℕ) : ℕ := if j = 0 then 0 else 2 * j - 1

theorem idx : ∀ t, win0_0.index t = ![(grid0.coords t 0).val, 0, (grid0.coords t 1).val]
    ∧ win0_1.index t = ![(grid0.coords t 0).val, before (grid0.coords t 1).val, 0]
    ∧ win0_2.index t = ![(grid0.coords t 0).val, (grid0.coords t 1).val, 0]
    ∧ win0_3.index t = ![(grid0.coords t 0).val, 0, before (grid0.coords t 1).val]
    ∧ win0_4.index t = ![(grid0.coords t 0).val, 0, (grid0.coords t 1).val]
    ∧ win0_5.index t = ![0, 0, 0, 0]
    ∧ win0_6.index t = ![0, 0, 0]
    ∧ win0_7.index t = ![(grid0.coords t 0).val, (grid0.coords t 1).val, 0] := by
  decide +kernel

section

variable (arg3 : Memref sig .tc .vmem S1x128x128 .bf16) (arg4 : Memref sig .tc .vmem S1x256x128 .bf16)
  (arg5 : Memref sig .tc .vmem S1x160x128 .bf16) (arg6 : Memref sig .tc .vmem S1x160x256 .bf16)
  (x3 : Vec Ideal S1x128x128 .bf16) (x4 : Vec Ideal S1x256x128 .bf16) (x5 : Vec Ideal S1x160x128 .bf16) (x6 : Vec Ideal S1x160x256 .bf16)

theorem key_at (a : Fin 384) (b : Fin 128) : kernelRun.sl.r (F := Ideal) arg3 arg4 x3 x4 (ix2 a b)
    = if h : a.val < 128 then x3 (ix3 0 ⟨a.val, h⟩ b) else x4 (ix3 0 ⟨a.val - 128, by omega⟩ b) := by
  unfold kernelRun.sl.r
  simp only [read_eq]
  pointwise [k0_pay74]

theorem value_at (a : Fin 160) (b : Fin 384) : kernelRun.sl.r_1 (F := Ideal) arg5 arg6 x5 x6 (ix2 a b)
    = if h : b.val < 128 then x5 (ix3 0 a ⟨b.val, h⟩) else x6 (ix3 0 a ⟨b.val - 128, by omega⟩) := by
  unfold kernelRun.sl.r_1
  simp only [read_eq]
  pointwise [k0_pay75]

end

variable (m : (ℓ : Loc nD τ sig) → Buf (Elt Ideal) ℓ) (c : Dev nD) (t : Fin cfg0.N)

/-- The batch and the tile of a grid point. -/
def batch : Fin 2 := ⟨(grid0.coords t 0).val, (grid0.coords t 0).isLt⟩
def tile : Fin 64 := ⟨(grid0.coords t 1).val, (grid0.coords t 1).isLt⟩

theorem before_lt (j : Fin 64) : before j.val ≤ 126 := by
  unfold before
  split <;> omega

/-- The four arguments. -/
abbrev argQ : FVec Ideal S2x16384x768 .f32 := m ((c.tc : Thread nD τ).loc main_arg0)
abbrev argK : FVec Ideal S2x16384x128 .f32 := m ((c.tc : Thread nD τ).loc main_arg1)
abbrev argV : FVec Ideal S2x16384x128 .f32 := m ((c.tc : Thread nD τ).loc main_arg2)
abbrev argT : FVec Ideal S12 .f32 := m ((c.tc : Thread nD τ).loc main_arg3)

theorem iblk0 (a : Fin 768) (b : Fin 256) : (show EReal from iblk m c 0 t (ix3 0 a b))
    = V m c main_v6 (ix3 (batch t) a (⟨256 * (tile t).val + b.val, by omega⟩ : Fin 16384)) := by
  unfold batch tile
  blk_ext [iblk, idx t]

theorem iblk1 (a : Fin 128) (b : Fin 128) : (show EReal from iblk m c 1 t (ix3 0 a b))
    = V m c main_v13 (ix3 (batch t) (⟨128 * before (tile t).val + a.val, by have := before_lt (tile t); omega⟩ : Fin 16384) b) := by
  unfold batch tile
  blk_ext [iblk, idx t]

theorem iblk2 (a : Fin 256) (b : Fin 128) : (show EReal from iblk m c 2 t (ix3 0 a b))
    = V m c main_v13 (ix3 (batch t) (⟨256 * (tile t).val + a.val, by omega⟩ : Fin 16384) b) := by
  unfold batch tile
  blk_ext [iblk, idx t]

theorem iblk3 (a : Fin 160) (b : Fin 128) : (show EReal from iblk m c 3 t (ix3 0 a b))
    = V m c main_v12 (ix3 (batch t) a (⟨128 * before (tile t).val + b.val, by have := before_lt (tile t); omega⟩ : Fin 16384)) := by
  unfold batch tile
  blk_ext [iblk, idx t]

theorem iblk4 (a : Fin 160) (b : Fin 256) : (show EReal from iblk m c 4 t (ix3 0 a b))
    = V m c main_v12 (ix3 (batch t) a (⟨256 * (tile t).val + b.val, by omega⟩ : Fin 16384)) := by
  unfold batch tile
  blk_ext [iblk, idx t]

theorem iblk5 (i g : Fin 2) (l : Fin 256) (y : Fin 768) : (show EReal from iblk m c 5 t (ix4 i g l y)) = V m c main_v43 (ix4 i g l y) := by
  blk_ext [iblk, idx t]

theorem iblk6 (h : Fin 12) (q : Fin 256) : (show EReal from iblk m c 6 t (ix3 h 0 q)) = V m c main_v45 (ix3 h 0 q) := by
  blk_ext [iblk, idx t]

/-- The keys of a grid point: the block before its tile, then the tile. -/
def Kof : FVec Ideal S384x128 .bf16 := kernelRun.sl.r (F := Ideal) (st0_1 t) (st0_2 t) (iblk m c 1 t) (iblk m c 2 t)
/-- The values of a grid point, channels down. -/
def Wof : FVec Ideal S160x384 .bf16 := kernelRun.sl.r_1 (F := Ideal) (st0_3 t) (st0_4 t) (iblk m c 3 t) (iblk m c 4 t)

theorem K_some (a : Fin 384) (b : Fin 128) : ∃ n : Fin 16384, (Kof m c t (ix2 a b) : EReal) = argK m c (ix3 (batch t) n b) := by
  unfold Kof
  rw [key_at]
  split
  next h => exact ⟨_, (iblk1 m c t ⟨a.val, h⟩ b).trans (keys_at m c _ _ _)⟩
  next h => exact ⟨_, (iblk2 m c t ⟨a.val - 128, by omega⟩ b).trans (keys_at m c _ _ _)⟩

theorem K_at (a : Fin 384) (b : Fin 128) (n : Fin 16384) (hn : n.val + 128 = 256 * (tile t).val + a.val) :
    (Kof m c t (ix2 a b) : EReal) = argK m c (ix3 (batch t) n b) := by
  unfold Kof
  rw [key_at]
  split
  next h =>
    refine (iblk1 m c t ⟨a.val, h⟩ b).trans ((keys_at m c _ _ _).trans ?_)
    refine congrArg (fun y => argK m c (ix3 (batch t) y b)) (Fin.ext ?_)
    show 128 * before (tile t).val + a.val = n.val
    unfold before
    split <;> omega
  next h =>
    refine (iblk2 m c t ⟨a.val - 128, by omega⟩ b).trans ((keys_at m c _ _ _).trans ?_)
    refine congrArg (fun y => argK m c (ix3 (batch t) y b)) (Fin.ext ?_)
    show 256 * (tile t).val + (a.val - 128) = n.val
    omega

/-- Row `80 g + d` of the host's values is channel `64 g + d` of the argument. -/
theorem values_at (b g : Fin 2) (d : Fin 64) (n : Fin 16384) :
    (show EReal from V m c main_v12 (ix3 b ⟨80 * g.val + d.val, by omega⟩ n)) = argV m c (ix3 b n ⟨64 * g.val + d.val, by omega⟩) := by
  match g with
  | 0 => exact (values_lo m c b _ d (by dsimp only; simp) n).trans (congrArg (fun y => argV m c (ix3 b n y)) (Fin.ext (by dsimp only; simp)))
  | 1 => exact (values_hi m c b _ d (by dsimp only; simp) n).trans (congrArg (fun y => argV m c (ix3 b n y)) (Fin.ext (by dsimp only; simp)))

theorem W_at (g : Fin 2) (d : Fin 64) (a : Fin 384) (n : Fin 16384) (hn : n.val + 128 = 256 * (tile t).val + a.val) :
    (Wof m c t (ix2 ⟨80 * g.val + d.val, by omega⟩ a) : EReal) = argV m c (ix3 (batch t) n ⟨64 * g.val + d.val, by omega⟩) := by
  unfold Wof
  rw [value_at]
  split
  next h =>
    refine (iblk3 m c t _ ⟨a.val, h⟩).trans ((values_at m c _ g d _).trans ?_)
    refine congrArg (fun y => argV m c (ix3 (batch t) y _)) (Fin.ext ?_)
    show 128 * before (tile t).val + a.val = n.val
    unfold before
    split <;> omega
  next h =>
    refine (iblk4 m c t _ ⟨a.val - 128, by omega⟩).trans ((values_at m c _ g d _).trans ?_)
    refine congrArg (fun y => argV m c (ix3 (batch t) y _)) (Fin.ext ?_)
    show 256 * (tile t).val + (a.val - 128) = n.val
    omega

theorem W_one (r : Fin 160) (hr : r.val = 64 ∨ r.val = 144) (a : Fin 384) : (Wof m c t (ix2 r a) : EReal) = 1 := by
  unfold Wof
  rw [value_at]
  split
  next h => exact (iblk3 m c t _ ⟨a.val, h⟩).trans (values_one m c _ _ hr _)
  next h => exact (iblk4 m c t _ ⟨a.val - 128, by omega⟩).trans (values_one m c _ _ hr _)

end Cert.KernelIdeal.Hand

end
-- ==== Proof.Reference.lean ====
/-
  The reference read at an index: its masked logits, the softmax with the sink, and the attention's rows.
-/
module

public import proofs.«01_k».proof.Proof.Gen.ReferenceIdeal.Run
public import proofs.«01_k».proof.Proof.Softmax
public import proofs.«01_k».proof.Proof.Words
public import Idealize.ShloMosaic.Lib.Pointwise
public import Idealize.ShloMosaic.Lib.Tactic.CleanTypes

@[expose] public section

set_option maxRecDepth 16384

noncomputable section

namespace Cert.ReferenceIdeal.Hand

open Cert.Words Cert.ReferenceIdeal Cert.ReferenceIdeal.Gen Idealize.ShloMosaic Idealize.ShloMosaic.TcCoe

/-- A block's keys (or values): the block before it, zeros before the first, and its own. -/
def band (x : FVec Ideal S2x16384x128 .f32) : FVec Ideal S2x128x256x2x64 .f32 :=
  concatenate S2x128x256x2x64 2 [⟨S2x128x128x2x64, (extractStridedSlice S2x128x128x2x64 ![0, 0, 0, 0, 0] (pad S2x129x128x2x64 ![0, 1, 0, 0, 0] ![0, 0, 0, 0, 0] ![0, 0, 0, 0, 0] (shapeCast _ x shapeCasts_S2x16384x128_S2x128x128x2x64) (sitofp .f32 (constantI S_ 32 0#32)) pads_S2x128x128x2x64_S2x129x128x2x64_000_100_000_000_000 h_S_) slices_S2x129x128x2x64_S2x128x128x2x64_0_0_0_0_0)⟩, ⟨S2x128x128x2x64, (shapeCast _ x shapeCasts_S2x16384x128_S2x128x128x2x64)⟩] concatenates_S2x128x128x2x64_S2x128x128x2x64_S2x128x256x2x64_d2

/-- How far a query of a block lies after a key of its band. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a query sees. -/
def mask : IVec S128x128x256 1 :=
  andi (broadcastInDim S128x128x256 ![0, 1, 2] bcast_S1x128x256_S128x128x256_0_1_2 (broadcastInDim S1x128x256 ![1, 2] bcast_S128x256_S1x128x256_1_2 (andi (cmpi .sge dist (broadcastInDim S128x256 ![] bcast_S_S128x256 (constantI S_ 32 0#32))) (cmpi .slt dist (broadcastInDim S128x256 ![] bcast_S_S128x256 (constantI S_ 32 128#32)))))) (broadcastInDim S128x128x256 ![0, 1, 2] bcast_S128x1x256_S128x128x256_0_1_2 (broadcastInDim S128x1x256 ![0, 2] bcast_S128x256_S128x1x256_0_2 (cmpi .sge (addi (broadcastInDim S128x256 ![0, 1] bcast_S128x1_S128x256_0_1 (subi (muli (broadcastInDim S128x1 ![0] bcast_S128_S128x1_0 (iotaInDim S128 32 0)) (broadcastInDim S128x1 ![] bcast_S_S128x1 (constantI S_ 32 128#32))) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))))

/-- The slopes of the heads. -/
def slopes : FVec Ideal S12 .f32 := fun i => FloatOps.ofBits .f32 (lit0 (S12.rowMajor i))

/-- The masked logits. -/
def logits (q : FVec Ideal S2x16384x768 .f32) (k : FVec Ideal S2x16384x128 .f32) : FVec Ideal S2x2x6x128x128x256 .f32 :=
  select (broadcastInDim S2x2x6x128x128x256 ![3, 4, 5] bcast_S128x128x256_S2x2x6x128x128x256_3_4_5 mask) (subf (mulf (transpose S2x2x6x128x128x256 [0, 1, 5, 2, 4, 3] (Host.dotGeneral dot_S2x128x256x2x64_S2x128x128x2x6x64_S2x2x128x256x128x6_4_5_2_24_031_031 none (band k) (shapeCast _ q shapeCasts_S2x16384x768_S2x128x128x2x6x64)) transposes_S2x2x128x256x128x6_S2x2x6x128x128x256_0_1_5_2_4_3) (broadcastInDim S2x2x6x128x128x256 ![] bcast_S_S2x2x6x128x128x256 (constant S_ .f32 0x3E000000#32))) (broadcastInDim S2x2x6x128x128x256 ![0, 1, 2, 3, 4, 5] bcast_S1x2x6x1x128x256_S2x2x6x128x128x256_0_1_2_3_4_5 (mulf (broadcastInDim S1x2x6x1x128x256 ![0, 1, 2, 3, 4, 5] bcast_S1x2x6x1x1x1_S1x2x6x1x128x256_0_1_2_3_4_5 (broadcastInDim S1x2x6x1x1x1 ![1, 2] bcast_S2x6_S1x2x6x1x1x1_1_2 (shapeCast _ slopes shapeCasts_S12_S2x6))) (broadcastInDim S1x2x6x1x128x256 ![0, 1, 2, 3, 4, 5] bcast_S1x1x1x1x128x256_S1x2x6x1x128x256_0_1_2_3_4_5 (broadcastInDim S1x1x1x1x128x256 ![4, 5] bcast_S128x256_S1x1x1x1x128x256_4_5 (sitofp .f32 dist)))))) (broadcastInDim S2x2x6x128x128x256 ![] bcast_S_S2x2x6x128x128x256 (id (constant S_ .f32 0xFF800000#32)))

/-- The sinks by group and head. -/
def sink6 (t : FVec Ideal S12 .f32) : FVec Ideal S1x2x6x1x1x1 .f32 :=
  broadcastInDim S1x2x6x1x1x1 ![1, 2] bcast_S2x6_S1x2x6x1x1x1_1_2 (shapeCast _ t shapeCasts_S12_S2x6)

/-- The maximum of a query's logits and its sink, from the logits' own. -/
def maxOf (R : FVec Ideal S2x2x6x128x128 .f32) (T : FVec Ideal S1x2x6x1x1x1 .f32) : FVec Ideal S2x2x6x128x128x1 .f32 :=
  maximumf (broadcastInDim S2x2x6x128x128x1 ![0, 1, 2, 3, 4] bcast_S2x2x6x128x128_S2x2x6x128x128x1_0_1_2_3_4 R) (broadcastInDim S2x2x6x128x128x1 ![0, 1, 2, 3, 4, 5] bcast_S1x2x6x1x1x1_S2x2x6x128x128x1_0_1_2_3_4_5 T)

/-- The maximum of a query's logits and its sink. -/
def maxes (L : FVec Ideal S2x2x6x128x128x256 .f32) (T : FVec Ideal S1x2x6x1x1x1 .f32) : FVec Ideal S2x2x6x128x128x1 .f32 :=
  maxOf (Host.reduce FloatOps.maximumf L (constant S_ .f32 0xFF800000#32) reducesTo_S2x2x6x128x128x256_S2x2x6x128x128_d5 h_S_) T

/-- The exponentials. -/
def exps (L : FVec Ideal S2x2x6x128x128x256 .f32) (M : FVec Ideal S2x2x6x128x128x1 .f32) : FVec Ideal S2x2x6x128x128x256 .f32 :=
  Host.exp (subf L (broadcastInDim S2x2x6x128x128x256 ![0, 1, 2, 3, 4, 5] bcast_S2x2x6x128x128x1_S2x2x6x128x128x256_0_1_2_3_4_5 M))

/-- The softmax's denominators. -/
def denoms (E : FVec Ideal S2x2x6x128x128x256 .f32) (T : FVec Ideal S1x2x6x1x1x1 .f32) (M : FVec Ideal S2x2x6x128x128x1 .f32) :
    FVec Ideal S2x2x6x128x128x1 .f32 :=
  addf (broadcastInDim S2x2x6x128x128x1 ![0, 1, 2, 3, 4] bcast_S2x2x6x128x128_S2x2x6x128x128x1_0_1_2_3_4 (Host.reduceAdd E (constant S_ .f32 0x00000000#32) reducesTo_S2x2x6x128x128x256_S2x2x6x128x128_d5 h_S_)) (Host.exp (subf (broadcastInDim S2x2x6x128x128x1 ![0, 1, 2, 3, 4, 5] bcast_S1x2x6x1x1x1_S2x2x6x128x128x1_0_1_2_3_4_5 T) M))

/-- The rows of the attention. -/
def rows (V : FVec Ideal S2x128x256x2x64 .f32) (E : FVec Ideal S2x2x6x128x128x256 .f32) (D : FVec Ideal S2x2x6x128x128x1 .f32) :
    FVec Ideal S2x16384x768 .bf16 :=
  truncf .bf16 (shapeCast _ (transpose S2x128x128x2x6x64 [0, 1, 5, 2, 4, 3] (Host.dotGeneral dot_S2x128x256x2x64_S2x2x6x128x128x256_S2x128x2x64x6x128_2_5_4_24_013_031 none V (Host.divf E (broadcastInDim S2x2x6x128x128x256 ![0, 1, 2, 3, 4, 5] bcast_S2x2x6x128x128x1_S2x2x6x128x128x256_0_1_2_3_4_5 D))) transposes_S2x128x2x64x6x128_S2x128x128x2x6x64_0_1_5_2_4_3) shapeCasts_S2x128x128x2x6x64_S2x16384x768) bitsLt_bf16_f32

/-- The whole of it. -/
def attention (q : FVec Ideal S2x16384x768 .f32) (k v : FVec Ideal S2x16384x128 .f32) (t : FVec Ideal S12 .f32) : FVec Ideal S2x16384x768 .bf16 :=
  rows (band v) (exps (logits q k) (maxes (logits q k) (sink6 t)))
    (denoms (exps (logits q k) (maxes (logits q k) (sink6 t))) (sink6 t) (maxes (logits q k) (sink6 t)))

theorem result_eq (m : (ℓ : Loc nD τ sig) → Buf (Elt Ideal) ℓ) (c : Dev nD) :
    Value.res_main_v74 (F := Ideal) m c
      = attention (m ((c.tc : Thread nD τ).loc main_arg0)) (m ((c.tc : Thread nD τ).loc main_arg1))
          (m ((c.tc : Thread nD τ).loc main_arg2)) (m ((c.tc : Thread nD τ).loc main_arg3)) := rfl

theorem rows_apply (V : FVec Ideal S2x128x256x2x64 .f32) (E : FVec Ideal S2x2x6x128x128x256 .f32) (D : FVec Ideal S2x2x6x128x128x1 .f32)
    (b : Fin 2) (n : Fin 16384) (col : Fin 768) : rows V E D (ix3 b n col)
      = ∑ x : Fin 256, V (ix5 b ⟨n.val / 128, by omega⟩ x ⟨col.val / 384, by omega⟩ ⟨col.val % 64, by omega⟩)
          * Ideal.div (E (ix6 b ⟨col.val / 384, by omega⟩ ⟨col.val / 64 % 6, by omega⟩ ⟨n.val / 128, by omega⟩ ⟨n.val % 128, by omega⟩ x))
              (D (ix6 b ⟨col.val / 384, by omega⟩ ⟨col.val / 64 % 6, by omega⟩ ⟨n.val / 128, by omega⟩ ⟨n.val % 128, by omega⟩ 0)) := by
  pointwise [rows]

/-- The keys of a query, listed, are the places that reduce to it. -/
theorem fiber (h : S2x2x6x128x128x256.ReducesTo [5] S2x2x6x128x128) (b g : Fin 2) (i : Fin 6) (n q : Fin 128) (x : S2x2x6x128x128x256.Idx) :
    h.drop x = ix5 b g i n q ↔ ∃ l : Fin 256, (ix6 b g i n q l : S2x2x6x128x128x256.Idx) = x := by
  constructor
  · intro e
    refine ⟨x 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨l, rfl⟩
    funext a; apply Fin.ext
    match a with
    | ⟨0, _⟩ => rfl
    | ⟨1, _⟩ => rfl
    | ⟨2, _⟩ => rfl
    | ⟨3, _⟩ => rfl
    | ⟨4, _⟩ => rfl

theorem sum_apply (h : S2x2x6x128x128x256.ReducesTo [5] S2x2x6x128x128) (E : FVec Ideal S2x2x6x128x128x256 .f32) (a : EReal)
    (b g : Fin 2) (i : Fin 6) (n q : Fin 128) :
    Ideal.hostReduceAdd h E a (ix5 b g i n q) = a + ∑ l : Fin 256, E (ix6 b g i n q l) := by
  unfold Ideal.hostReduceAdd
  rw [Finset.sum_filter_eq_sum_of_fiber _ (fun l : Fin 256 => (ix6 b g i n q l : S2x2x6x128x128x256.Idx)) (fun _ _ e => congrFun e 5) (fiber h b g i n q)]

theorem denoms_apply (E : FVec Ideal S2x2x6x128x128x256 .f32) (T : FVec Ideal S1x2x6x1x1x1 .f32) (M : FVec Ideal S2x2x6x128x128x1 .f32)
    (b g : Fin 2) (i : Fin 6) (n q : Fin 128) : denoms E T M (ix6 b g i n q 0)
      = (∑ l : Fin 256, E (ix6 b g i n q l)) + Ideal.exp (T (ix6 0 g i 0 0 0) - M (ix6 b g i n q 0)) := by
  pointwise [denoms]
  rw [sum_apply, zero_add]

/-- A maximum of numbers none of which is infinite from above is not either. -/
theorem reduce_max_ne_top {s t u : Shape} {axes : List (Fin s.rank)} (x : s.Idx → EReal) (init : u.Idx → EReal) (h : s.ReducesTo axes t) (hu : 0 < u.numel)
    (hi : ∀ y, init y ≠ ⊤) (hx : ∀ y, x y ≠ ⊤) (j : t.Idx) :
    (Host.reduce (FloatOps.maximumf (F := Ideal) (φ := .f32)) x init h hu j : EReal) ≠ ⊤ := by
  rw [Host.reduce_eq_foldl]
  generalize ((List.finRange s.numel).map s.rowMajor.symm).filter (fun i => h.drop i = j) = l
  have key : ∀ (l : List s.Idx) (a : EReal), a ≠ ⊤ → l.foldl (fun r i => (max r (x i) : EReal)) a ≠ ⊤ := fun l => by
    induction l with
    | nil => exact fun a ha => ha
    | cons i l ih => exact fun a ha => ih _ (max_lt ha.lt_top (hx i).lt_top).ne
  exact key l _ (hi _)

theorem maxOf_apply (R : FVec Ideal S2x2x6x128x128 .f32) (T : FVec Ideal S1x2x6x1x1x1 .f32) (b g : Fin 2) (i : Fin 6) (n q : Fin 128) :
    maxOf R T (ix6 b g i n q 0) = (max (R (ix5 b g i n q)) (T (ix6 0 g i 0 0 0)) : EReal) := by
  pointwise [maxOf]

theorem init_ne_top (y : S_.Idx) : ((constant (F := Ideal) S_ .f32 0xFF800000#32) y : EReal) ≠ ⊤ := by
  show Ideal.ofBits .f32 0xFF800000#32 ≠ ⊤
  simp [Ideal.ofBits, Ideal.ieee]

/-- A maximum of logits none of which is infinite from above, with a real sink, is a real number. -/
theorem maxes_real (L : FVec Ideal S2x2x6x128x128x256 .f32) (hL : ∀ x, L x ≠ (⊤ : EReal)) (T : FVec Ideal S1x2x6x1x1x1 .f32)
    (b g : Fin 2) (i : Fin 6) (n q : Fin 128) (t : ℝ) (ht : T (ix6 0 g i 0 0 0) = (t : EReal)) :
    ∃ a : ℝ, maxes L T (ix6 b g i n q 0) = (a : EReal) := by
  obtain ⟨a, ha⟩ := Softmax.exists_max (reduce_max_ne_top L (constant (F := Ideal) S_ .f32 0xFF800000#32)
    reducesTo_S2x2x6x128x128x256_S2x2x6x128x128_d5 h_S_ init_ne_top hL (ix5 b g i n q)) t
  refine ⟨a, ?_⟩
  unfold maxes
  rw [maxOf_apply, ht]
  exact ha

theorem exps_apply (L : FVec Ideal S2x2x6x128x128x256 .f32) (M : FVec Ideal S2x2x6x128x128x1 .f32)
    (b g : Fin 2) (i : Fin 6) (n q : Fin 128) (l : Fin 256) :
    exps L M (ix6 b g i n q l) = Ideal.exp (L (ix6 b g i n q l) - M (ix6 b g i n q 0)) := by
  pointwise [exps]

theorem band_apply (x : FVec Ideal S2x16384x128 .f32)
    (b g : Fin 2) (d : Fin 64) (n : Fin 128) (l : Fin 256) : band x (ix5 b n l g d)
      = if h : 128 ≤ 128 * n.val + l.val then x (ix3 b ⟨128 * n.val + l.val - 128, by omega⟩ ⟨64 * g.val + d.val, by omega⟩) else (0 : EReal) := by
  pointwise [band]
  have hz : (FloatOps.sitofp .f32 (0#32) : Ideal .f32) = (0 : EReal) := by
    show (((0#32).toInt : ℝ) : EReal) = 0
    simp
  split
  · split
    · rw [dif_pos (by omega)]
      congr 2 <;> (apply Fin.ext; dsimp only; omega)
    · rw [dif_neg (by omega)]
      exact hz
  · rw [dif_pos (by omega)]
    congr 2 <;> (apply Fin.ext; dsimp only; omega)

theorem ofBits_eighth : Ideal.ofBits .f32 1040187392#32 = ((1 / 8 : ℝ) : EReal) := by
  simp [Ideal.ofBits, Ideal.ieee, -EReal.coe_mul]
  norm_num

theorem ofBits_neg_inf : Ideal.ofBits .f32 4286578688#32 = ⊥ := by
  simp [Ideal.ofBits, Ideal.ieee]

theorem logits_apply (q : FVec Ideal S2x16384x768 .f32) (k : FVec Ideal S2x16384x128 .f32)
    (b g : Fin 2) (i : Fin 6) (n r : Fin 128) (l : Fin 256) : logits q k (ix6 b g i n r l)
      = if l.val ≤ r.val + 128 ∧ r.val < l.val ∧ 128 ≤ 128 * n.val + l.val then
          (∑ x : Fin 64, band k (ix5 b n l g x) * q (ix3 b ⟨128 * n.val + r.val, by omega⟩ ⟨384 * g.val + 64 * i.val + x.val, by omega⟩)) * ((1 / 8 : ℝ) : EReal)
            - Ideal.ofBits .f32 (lit0 ⟨6 * g.val + i.val, by show _ < 12; omega⟩) * (((r.val : ℝ) + 128 - l.val : ℝ) : EReal)
        else (⊥ : EReal) := by
  pointwise [logits, mask, dist, slopes]
  rw [window_word, start_word, ofBits_eighth]
  have hs : (FloatOps.sitofp .f32 (IntOp.subi (IntOp.addi (BitVec.ofNat 32 r.val) 128#32) (BitVec.ofNat 32 l.val)) : Ideal .f32)
      = (((r.val : ℝ) + 128 - l.val : ℝ) : EReal) := by
    show ((((IntOp.subi (IntOp.addi (BitVec.ofNat 32 r.val) 128#32) (BitVec.ofNat 32 l.val)).toInt : ℤ) : ℝ) : EReal) = _
    rw [dist_word]
    push_cast
    rfl
  rw [hs]
  have hl : lit0 (S12.rowMajor (ix1 ⟨g.val * 6 + i.val, by show _ < 12; omega⟩)) = lit0 ⟨6 * g.val + i.val, by show _ < 12; omega⟩ := by
    congr 1
    apply Fin.ext
    show _ = 6 * g.val + i.val
    refine (Shape.rowMajor_val_one _).trans ?_
    show g.val * 6 + i.val = _
    omega
  have e11 : ∀ a b : EReal, Scalar.select (IntOp.andi 1#1 1#1) a b = a := fun _ _ => rfl
  have e10 : ∀ a b : EReal, Scalar.select (IntOp.andi 1#1 0#1) a b = b := fun _ _ => rfl
  have e01 : ∀ a b : EReal, Scalar.select (IntOp.andi 0#1 1#1) a b = b := fun _ _ => rfl
  have e00 : ∀ a b : EReal, Scalar.select (IntOp.andi 0#1 0#1) a b = b := fun _ _ => rfl
  by_cases h1 : l.val ≤ r.val + 128 ∧ r.val < l.val
  · by_cases h2 : 128 ≤ 128 * n.val + l.val
    · rw [if_pos (⟨h1.1, h1.2, h2⟩ : l.val ≤ r.val + 128 ∧ r.val < l.val ∧ 128 ≤ 128 * n.val + l.val), if_pos h1, if_pos h2, e11]
      show _ * _ - Ideal.ofBits .f32 (lit0 (S12.rowMajor (ix1 ⟨g.val * 6 + i.val, _⟩))) * _ = _
      rw [hl]
      simp only [Nat.mul_comm]
    · rw [if_neg (fun h => h2 h.2.2 : ¬ (l.val ≤ r.val + 128 ∧ r.val < l.val ∧ 128 ≤ 128 * n.val + l.val)), if_pos h1, if_neg h2, e10]
      exact ofBits_neg_inf
  · rw [if_neg (fun h => h1 ⟨h.1, h.2.1⟩ : ¬ (l.val ≤ r.val + 128 ∧ r.val < l.val ∧ 128 ≤ 128 * n.val + l.val)), if_neg h1]
    by_cases h2 : 128 ≤ 128 * n.val + l.val
    · rw [if_pos h2, e01]
      exact ofBits_neg_inf
    · rw [if_neg h2, e00]
      exact ofBits_neg_inf

theorem sink6_apply (t : FVec Ideal S12 .f32) (g : Fin 2) (i : Fin 6) :
    sink6 t (ix6 0 g i 0 0 0) = t (ix1 ⟨6 * g.val + i.val, by omega⟩) := by
  pointwise [sink6]
  congr 2
  apply Fin.ext
  dsimp only
  omega

/-- A product of sums of real numbers is a real number. -/
theorem dot_real {n : ℕ} (f h : Fin n → EReal) (hf : ∀ x, ∃ r : ℝ, f x = (r : EReal)) (hh : ∀ x, ∃ r : ℝ, h x = (r : EReal)) :
    ∃ r : ℝ, (∑ x, f x * h x) = (r : EReal) := by
  choose a ha using hf
  choose b hb using hh
  exact ⟨_, (Finset.sum_congr rfl fun x _ => by rw [ha, hb, ← EReal.coe_mul]).trans (Softmax.coe_sum _)⟩

theorem slope_real (j : Fin 12) : ∃ r : ℝ, Ideal.ofBits .f32 (lit0 j) = (r : EReal) := by
  fin_cases j <;> exact ⟨_, rfl⟩

theorem band_real (k : FVec Ideal S2x16384x128 .f32) (hk : ∀ y, ∃ r : ℝ, k y = (r : EReal)) (b g : Fin 2) (d : Fin 64) (n : Fin 128) (l : Fin 256) :
    ∃ r : ℝ, band k (ix5 b n l g d) = (r : EReal) := by
  rw [band_apply]
  split
  · exact hk _
  · exact ⟨0, rfl⟩

theorem logits_ne_top (q : FVec Ideal S2x16384x768 .f32) (k : FVec Ideal S2x16384x128 .f32)
    (hq : ∀ y, ∃ r : ℝ, q y = (r : EReal)) (hk : ∀ y, ∃ r : ℝ, k y = (r : EReal)) (y : S2x2x6x128x128x256.Idx) : logits q k y ≠ (⊤ : EReal) := by
  obtain ⟨b, g, i, n, r, l, rfl⟩ : ∃ (b g : Fin 2) (i : Fin 6) (n r : Fin 128) (l : Fin 256), y = ix6 b g i n r l :=
    ⟨y 0, y 1, y 2, y 3, y 4, y 5, by funext a; match a with | ⟨0, _⟩ => rfl | ⟨1, _⟩ => rfl | ⟨2, _⟩ => rfl | ⟨3, _⟩ => rfl | ⟨4, _⟩ => rfl | ⟨5, _⟩ => rfl⟩
  rw [logits_apply]
  split
  · obtain ⟨s, hs⟩ := slope_real ⟨6 * g.val + i.val, by show _ < 12; omega⟩
    obtain ⟨x, hx⟩ := dot_real _ _ (fun x => band_real k hk b g x n l) (fun x => hq (ix3 b ⟨128 * n.val + r.val, by omega⟩ ⟨384 * g.val + 64 * i.val + x.val, by omega⟩))
    rw [hs, hx, ← EReal.coe_mul, ← EReal.coe_mul, ← EReal.coe_sub]
    exact EReal.coe_ne_top _
  · exact bot_ne_top

/-- The reference's attention at an index. -/
theorem attention_apply (q : FVec Ideal S2x16384x768 .f32) (k v : FVec Ideal S2x16384x128 .f32) (t : FVec Ideal S12 .f32)
    (hq : ∀ y, ∃ r : ℝ, q y = (r : EReal)) (hk : ∀ y, ∃ r : ℝ, k y = (r : EReal)) (ht : ∀ y, ∃ r : ℝ, t y = (r : EReal))
    (b : Fin 2) (N : Fin 16384) (col : Fin 768) : attention q k v t (ix3 b N col)
      = Softmax.combine (fun l : Fin 256 => (Softmax.log2e : EReal) * logits q k (ix6 b ⟨col.val / 384, by omega⟩ ⟨col.val / 64 % 6, by omega⟩ ⟨N.val / 128, by omega⟩ ⟨N.val % 128, by omega⟩ l))
          ((Softmax.log2e : EReal) * t (ix1 ⟨6 * (col.val / 384) + col.val / 64 % 6, by omega⟩))
          (fun l => band v (ix5 b ⟨N.val / 128, by omega⟩ l ⟨col.val / 384, by omega⟩ ⟨col.val % 64, by omega⟩)) := by
  obtain ⟨s, hs⟩ := ht (ix1 ⟨6 * (col.val / 384) + col.val / 64 % 6, by omega⟩)
  have hT : sink6 t (ix6 0 ⟨col.val / 384, by omega⟩ ⟨col.val / 64 % 6, by omega⟩ 0 0 0) = (s : EReal) := (sink6_apply t _ _).trans hs
  obtain ⟨a, ha⟩ := maxes_real (logits q k) (logits_ne_top q k hq hk) (sink6 t) b ⟨col.val / 384, by omega⟩ ⟨col.val / 64 % 6, by omega⟩
    ⟨N.val / 128, by omega⟩ ⟨N.val % 128, by omega⟩ s hT
  unfold attention
  rw [rows_apply, denoms_apply]
  simp only [exps_apply, ha, hT]
  rw [hs, ← EReal.coe_mul]
  exact Softmax.shifted_eq _ (fun l => logits_ne_top q k hq hk _) s _ a

end Cert.ReferenceIdeal.Hand
end
-- ==== Proof.Equation.lean ====
/-
  The kernel's result is the reference's attention.
-/
module

public import proofs.«01_k».proof.Proof.Windows
public import proofs.«01_k».proof.Proof.Reference
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen Idealize.ShloMosaic Idealize.ShloMosaic.TcCoe
open Cert.ReferenceIdeal.Hand (attention logits band dot_real slope_real)

/-- The scale in the queries and in the slopes is the scale of the logit. -/
theorem scaled {n : ℕ} (K Q : Fin n → EReal) (hK : ∀ x, ∃ r : ℝ, K x = (r : EReal)) (hQ : ∀ x, ∃ r : ℝ, Q x = (r : EReal))
    {S : EReal} (hS : ∃ s : ℝ, S = (s : EReal)) (c d : ℝ) :
    (∑ x, K x * (Q x * ((1 / 8 * c : ℝ) : EReal))) + -(S * (c : EReal)) * (d : EReal)
      = (c : EReal) * ((∑ x, K x * Q x) * ((1 / 8 : ℝ) : EReal) - S * (d : EReal)) := by
  choose k hk using hK
  choose q hq using hQ
  obtain ⟨s, rfl⟩ := hS
  have h1 : (∑ x, K x * (Q x * ((1 / 8 * c : ℝ) : EReal))) = (((∑ x, k x * q x) * (1 / 8 * c) : ℝ) : EReal) := by
    refine (Finset.sum_congr rfl fun x _ => ?_).trans ((Softmax.coe_sum fun x => k x * q x * (1 / 8 * c)).trans ?_)
    · rw [hk, hq, ← EReal.coe_mul, ← EReal.coe_mul, mul_assoc]
    · rw [Finset.sum_mul]
  have h2 : (∑ x, K x * Q x) = ((∑ x, k x * q x : ℝ) : EReal) := by
    refine (Finset.sum_congr rfl fun x _ => ?_).trans (Softmax.coe_sum fun x => k x * q x)
    rw [hk, hq, ← EReal.coe_mul]
  rw [h1, h2, ← EReal.coe_mul, ← EReal.coe_neg, ← EReal.coe_mul, ← EReal.coe_add, ← EReal.coe_mul, ← EReal.coe_mul, ← EReal.coe_sub, ← EReal.coe_mul]
  congr 1
  ring

theorem lit0_eq (j : Fin 12) : Cert.KernelIdeal.lit0 j = Cert.ReferenceIdeal.lit0 j := by
  fin_cases j <;> rfl

variable (m : (ℓ : Loc nD τ sig) → Buf (Elt Ideal) ℓ) (c : Dev nD) (t : Fin cfg0.N)

/-- The queries at a grid point carry the scale. -/
theorem query_at (a : Fin 768) (b : Fin 256) : (show EReal from iblk m c 0 t (ix3 0 a b))
    = argQ m c (ix3 (batch t) ⟨256 * (tile t).val + b.val, by omega⟩ a) * ((1 / 8 * Softmax.log2e : ℝ) : EReal) :=
  (iblk0 m c t a b).trans (queries_at m c _ _ _)

theorem bias (i g : Fin 2) (l : Fin 256) (h : Fin 6) (q : Fin 128) : (show EReal from iblk m c 5 t (ix4 i g l ⟨128 * h.val + q.val, by omega⟩))
      = if (l.val ≤ q.val + 128 ∧ q.val < l.val) ∧ (i.val = 1 ∨ 128 ≤ l.val) then
          -(Ideal.ofBits .f32 (Cert.ReferenceIdeal.lit0 ⟨6 * g.val + h.val, by show _ < 12; omega⟩) * ((Softmax.log2e : ℝ) : EReal)) * (((q.val : ℝ) + 128 - l.val : ℝ) : EReal)
        else ⊥ := by
  refine (iblk5 m c t i g l _).trans ((bias_at m c i g l h q).trans ?_)
  rw [lit0_eq]

/-- The logit of the tile's half `u` in base two, in the arguments. -/
theorem logit_eq (w : Fin 2) (g h u : ℕ) (hg : g < 2) (hh : h < 6) (hu : u < 2) (q : Fin 128) (l : Fin 256) :
    logit (Kof m c t) (iblk m c 0 t) (iblk m c 5 t) w g h u hg hh hu q l
      = (∑ x : Fin 64, (Kof m c t (ix2 ⟨128 * u + l.val, by omega⟩ ⟨64 * g + x.val, by omega⟩) : EReal)
          * (argQ m c (ix3 (batch t) ⟨256 * (tile t).val + (128 * u + q.val), by omega⟩ ⟨384 * g + 64 * h + x.val, by omega⟩) * ((1 / 8 * Softmax.log2e : ℝ) : EReal)))
        + if (l.val ≤ q.val + 128 ∧ q.val < l.val) ∧ (w.val = 1 ∨ 128 ≤ l.val) then
          -(Ideal.ofBits .f32 (Cert.ReferenceIdeal.lit0 ⟨6 * g + h, by show _ < 12; omega⟩) * ((Softmax.log2e : ℝ) : EReal)) * (((q.val : ℝ) + 128 - l.val : ℝ) : EReal)
        else ⊥ := by
  unfold logit
  refine congrArg₂ (fun a b : EReal => a + b) (Finset.sum_congr rfl fun x _ => ?_) (bias m c t w ⟨g, hg⟩ l ⟨h, hh⟩ q)
  exact congrArg (fun y : EReal => _ * y) (query_at m c t _ _)

section

variable (hQ : ∀ y, ∃ r : ℝ, argQ m c y = (r : EReal)) (hK : ∀ y, ∃ r : ℝ, argK m c y = (r : EReal)) (hT : ∀ y, ∃ r : ℝ, argT m c y = (r : EReal))

include hK in
theorem K_real (a : Fin 384) (b : Fin 128) : ∃ r : ℝ, (Kof m c t (ix2 a b) : EReal) = (r : EReal) := by
  obtain ⟨n, hn⟩ := K_some m c t a b
  obtain ⟨r, hr⟩ := hK (ix3 (batch t) n b)
  exact ⟨r, hn.trans hr⟩

include hQ in
theorem Q_real (y : S2x16384x768.Idx) (a : ℝ) : ∃ r : ℝ, (argQ m c y * (a : EReal) : EReal) = (r : EReal) := by
  obtain ⟨r, hr⟩ := hQ y
  exact ⟨r * a, by rw [hr, EReal.coe_mul]⟩

theorem sink_eq (g h : ℕ) (hg : g < 2) (hh : h < 6) (q : Fin 128) :
    sinkAt (iblk m c 6 t) g h hg hh q = (Softmax.log2e : EReal) * argT m c (ix1 ⟨6 * g + h, by omega⟩) := by
  unfold sinkAt
  refine (congrArg₂ (fun a b : EReal => a * b) ((iblk6 m c t _ _).trans (sinks_at m c _ _)) rfl).trans (mul_comm _ _)

include hQ hK in
theorem logit_ne_top (w : Fin 2) (g h u : ℕ) (hg : g < 2) (hh : h < 6) (hu : u < 2) (q : Fin 128) (l : Fin 256) :
    logit (Kof m c t) (iblk m c 0 t) (iblk m c 5 t) w g h u hg hh hu q l ≠ ⊤ := by
  rw [logit_eq]
  obtain ⟨x, hx⟩ := dot_real _ _ (fun x : Fin 64 => K_real m c t hK ⟨128 * u + l.val, by omega⟩ ⟨64 * g + x.val, by omega⟩)
    (fun x : Fin 64 => Q_real m c hQ (ix3 (batch t) ⟨256 * (tile t).val + (128 * u + q.val), by omega⟩ ⟨384 * g + 64 * h + x.val, by omega⟩) (1 / 8 * Softmax.log2e))
  rw [hx]
  obtain ⟨s, hs⟩ := slope_real ⟨6 * g + h, by show _ < 12; omega⟩
  rw [hs]
  split
  · rw [← EReal.coe_mul, ← EReal.coe_neg, ← EReal.coe_mul, ← EReal.coe_add]
    exact EReal.coe_ne_top _
  · rw [EReal.add_bot]
    exact bot_ne_top

include hQ hK hT in
theorem good : Good (Kof m c t) (Wof m c t) (iblk m c 0 t) (iblk m c 5 t) (iblk m c 6 t) where
  logits := logit_ne_top m c t hQ hK
  sinks g h hg hh q := by
    obtain ⟨r, hr⟩ := hT (ix1 ⟨6 * g + h, by omega⟩)
    exact ⟨Softmax.log2e * r, (sink_eq m c t g h hg hh q).trans (by rw [hr, EReal.coe_mul])⟩
  ones g u hg hu l := W_one m c t _ (by show 80 * g + 64 = 64 ∨ 80 * g + 64 = 144; omega) _

/-- The place of the tile's half among the tiles of 128. -/
def half (u : ℕ) (hu : u < 2) : Fin 128 := ⟨2 * (tile t).val + u, by omega⟩

theorem tab_val (u : ℕ) (hu : u < 2) : (tab (grid0.coords t) ⟨u, hu⟩).val = 1 ↔ 0 < (half t u hu).val := by
  unfold half tile tab
  split
  next h =>
    have h1 : (grid0.coords t 1).val = 0 := h.1
    have h2 : u = 0 := congrArg Fin.val h.2
    dsimp only
    constructor
    · intro e; exact absurd e Nat.zero_ne_one
    · omega
  next h =>
    dsimp only
    refine ⟨fun _ => ?_, fun _ => rfl⟩
    by_contra hc
    exact h ⟨by omega, Fin.ext (by show u = 0; omega)⟩

include hQ hK in
/-- A logit of the kernel is the reference's in base two. -/
theorem logit_ref (g h u : ℕ) (hg : g < 2) (hh : h < 6) (hu : u < 2) (q : Fin 128) (l : Fin 256) :
    logit (Kof m c t) (iblk m c 0 t) (iblk m c 5 t) (tab (grid0.coords t) ⟨u, hu⟩) g h u hg hh hu q l
      = (Softmax.log2e : EReal) * logits (argQ m c) (argK m c) (ix6 (batch t) ⟨g, hg⟩ ⟨h, hh⟩ (half t u hu) q l) := by
  rw [logit_eq, Cert.ReferenceIdeal.Hand.logits_apply]
  have hw := tab_val t u hu
  have hv : (half t u hu).val = 2 * (tile t).val + u := rfl
  by_cases hin : (l.val ≤ q.val + 128 ∧ q.val < l.val) ∧ ((tab (grid0.coords t) ⟨u, hu⟩).val = 1 ∨ 128 ≤ l.val)
  · have hin' : l.val ≤ q.val + 128 ∧ q.val < l.val ∧ 128 ≤ 128 * (half t u hu).val + l.val := ⟨hin.1.1, hin.1.2, by omega⟩
    rw [if_pos hin, if_pos hin']
    refine Eq.trans ?_ (scaled (fun x : Fin 64 => band (argK m c) (ix5 (batch t) (half t u hu) l ⟨g, hg⟩ x))
      (fun x : Fin 64 => argQ m c (ix3 (batch t) ⟨128 * (half t u hu).val + q.val, by omega⟩ ⟨384 * g + 64 * h + x.val, by omega⟩))
      (fun x => Cert.ReferenceIdeal.Hand.band_real _ hK _ _ _ _ _) (fun x => hQ _) (slope_real ⟨6 * g + h, by show _ < 12; omega⟩) Softmax.log2e ((q.val : ℝ) + 128 - l.val))
    refine congrArg₂ (fun a b : EReal => a + b) (Finset.sum_congr rfl fun x _ => ?_) rfl
    refine congrArg₂ (fun a b : EReal => a * b) ?_ ?_
    · rw [Cert.ReferenceIdeal.Hand.band_apply, dif_pos hin'.2.2]
      exact K_at m c t _ _ _ (by show 128 * (half t u hu).val + l.val - 128 + 128 = 256 * (tile t).val + (128 * u + l.val); omega)
    · refine congrArg (fun y => argQ m c (ix3 (batch t) y _) * _) (Fin.ext ?_)
      show 256 * (tile t).val + (128 * u + q.val) = 128 * (half t u hu).val + q.val
      omega
  · have hin' : ¬ (l.val ≤ q.val + 128 ∧ q.val < l.val ∧ 128 ≤ 128 * (half t u hu).val + l.val) := by omega
    rw [if_neg hin, if_neg hin', EReal.add_bot, EReal.coe_mul_bot_of_pos Softmax.log2e_pos]

include hQ hK hT in
/-- One entry of a grid point's result is the reference's. -/
theorem cell_ref (g h u : ℕ) (hg : g < 2) (hh : h < 6) (hu : u < 2) (d : Fin 64) (q : Fin 128) (N : Fin 16384) (col : Fin 768)
    (hN : N.val = 256 * (tile t).val + 128 * u + q.val) (hcol : col.val = 384 * g + 64 * h + d.val) :
    cell (grid0.coords t) (Kof m c t) (Wof m c t) (iblk m c 0 t) (iblk m c 5 t) (iblk m c 6 t) g h u hg hh hu d q
      = attention (argQ m c) (argK m c) (argV m c) (argT m c) (ix3 (batch t) N col) := by
  rw [Cert.ReferenceIdeal.Hand.attention_apply _ _ _ _ hQ hK hT]
  have e1 : (⟨col.val / 384, by omega⟩ : Fin 2) = ⟨g, hg⟩ := Fin.ext (by dsimp only; omega)
  have e2 : (⟨col.val / 64 % 6, by omega⟩ : Fin 6) = ⟨h, hh⟩ := Fin.ext (by dsimp only; omega)
  have e3 : (⟨N.val / 128, by omega⟩ : Fin 128) = half t u hu := Fin.ext (by show N.val / 128 = 2 * (tile t).val + u; omega)
  have e4 : (⟨N.val % 128, by omega⟩ : Fin 128) = q := Fin.ext (by dsimp only; omega)
  have e5 : (⟨6 * (col.val / 384) + col.val / 64 % 6, by omega⟩ : Fin 12) = ⟨6 * g + h, by omega⟩ := Fin.ext (by dsimp only; omega)
  have e6 : (⟨col.val % 64, by omega⟩ : Fin 64) = d := Fin.ext (by dsimp only; omega)
  rw [e1, e2, e3, e4, e5, e6]
  unfold cell
  refine Softmax.combine_congr (fun l => logit_ref m c t hQ hK g h u hg hh hu q l) (sink_eq m c t g h hg hh q) fun l => ?_
  have hv : (half t u hu).val = 2 * (tile t).val + u := rfl
  by_cases hin : 128 ≤ 128 * (half t u hu).val + l.val
  · right
    rw [Cert.ReferenceIdeal.Hand.band_apply, dif_pos hin]
    exact W_at m c t ⟨g, hg⟩ d _ _ (by show 128 * (half t u hu).val + l.val - 128 + 128 = 256 * (tile t).val + (128 * u + l.val); omega)
  · left
    rw [logit_ref m c t hQ hK, Cert.ReferenceIdeal.Hand.logits_apply, if_neg (fun e => hin e.2.2), EReal.coe_mul_bot_of_pos Softmax.log2e_pos]

include hQ hK hT in
/-- A grid point's result block is the reference's. -/
theorem outAt_ref (r : Fin 256) (col : Fin 768) : (outAt m c t (ix3 0 r col) : EReal)
    = attention (argQ m c) (argK m c) (argV m c) (argT m c) (ix3 (batch t) ⟨256 * (tile t).val + r.val, by omega⟩ col) := by
  unfold outAt
  refine (out_at _ _ _ _ _ _ _ _ _ _ _ _ _ _ _ _ _ _ _ _ _ _ _ _ _ (good m c t hQ hK hT) r col).trans ?_
  exact cell_ref m c t hQ hK hT _ _ _ _ _ _ _ _ _ _ (by show _ = 256 * (tile t).val + 128 * (r.val / 128) + r.val % 128; dsimp only; omega)
    (by show col.val = 384 * (col.val / 384) + 64 * (col.val / 64 % 6) + col.val % 64; omega)

include hQ hK hT in
/-- The result's array is the reference's. -/
theorem array_eq : (dats m 0 c).arrAt 7 cfg0.N = attention (argQ m c) (argK m c) (argV m c) (argT m c) := by
  refine (dats m 0 c).arrAt_eq_of_covers 7 _ (by decide +kernel) fun t hf y => ?_
  obtain ⟨r, col, rfl⟩ : ∃ (r : Fin 256) (col : Fin 768), y = ix3 0 r col := ⟨y 1, y 2, by
    funext a
    match a with
    | ⟨0, _⟩ => exact Subsingleton.elim (α := Fin 1) _ _
    | ⟨1, _⟩ => rfl
    | ⟨2, _⟩ => rfl⟩
  have e : ((cfg0.win 7).blk t).view.emb (ix3 0 r col) = (ix3 (batch t) (⟨256 * (tile t).val + r.val, by omega⟩ : Fin 16384) col : S2x16384x768.Idx) := by
    unfold batch tile
    blk_ext [idx t]
  rw [e, after7]
  exact outAt_ref m c t hQ hK hT r col

end

end Cert.KernelIdeal.Hand

end
-- ==== Proof.Finite.lean ====
/-
  What the precondition says: every entry of the queries, the keys and the sinks is a real number.
-/
module

public import proofs.«01_k».proof.Pre_finite
public import proofs.«01_k».proof.Proof.Gen.Pre_finite
public import Idealize.ShloMosaic.PureOps.Ideal
public import Idealize.ShloMosaic.Lib.ReduceAll

@[expose] public section

noncomputable section

namespace Cert.Pre_finite.Hand

open Cert.Pre_finite Idealize.ShloMosaic

local instance : Facts := Cert.Pre_finite.Gen.facts

/-- A number whose absolute value is below infinity is real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hc
    have : Ideal.cmp .olt (max x (-x)) ⊤ = 0#1 := by simp only [Ideal.cmp]; simp [hc]
    rw [this] at h
    exact absurd h (by decide)
  induction x with
  | bot => exact absurd hlt (by simp)
  | top => exact absurd hlt (by simp)
  | coe x => exact ⟨x, rfl⟩

theorem finite {q : FVec Ideal S2x16384x768 .f32} {k v : FVec Ideal S2x16384x128 .f32} {t : FVec Ideal S12 .f32}
    (h : fn (F := Ideal) q k v t = fun _ => 1#1) :
    (∀ y, ∃ r : ℝ, q y = (r : EReal)) ∧ (∀ y, ∃ r : ℝ, k y = (r : EReal)) ∧ (∀ y, ∃ r : ℝ, t y = (r : EReal)) := by
  have e := congrFun h (fun a => a.elim0)
  unfold fn at e
  dsimp only at e
  have a2 : ∀ a b : BitVec 1, IntOp.andi a b = 1#1 → a = 1#1 ∧ b = 1#1 := by decide
  obtain ⟨e1, e3⟩ := a2 _ _ e
  obtain ⟨e1, e2⟩ := a2 _ _ e1
  haveI : Subsingleton S_.Idx := ⟨fun a b => funext fun x => x.elim0⟩
  refine ⟨fun y => ?_, fun y => ?_, fun y => ?_⟩
  · have := Host.reduce_andi_all _ _ _ _ _ e1 y
    exact real_of_abs_lt _ this
  · have := Host.reduce_andi_all _ _ _ _ _ e2 y
    exact real_of_abs_lt _ this
  · have := Host.reduce_andi_all _ _ _ _ _ e3 y
    exact real_of_abs_lt _ this

end Cert.Pre_finite.Hand

end
-- ==== Proof.Layer.lean ====
/-
  The mathematics of a layer's end over the extended reals: the softmax over the memory, in base two and in base e, the
  gated output product and the norm.
-/
module

public import proofs.«01_k».proof.Proof.Softmax

@[expose] public section

noncomputable section

namespace Cert.Layer

open Idealize.ShloMosaic Cert.Softmax

/-- The average of values under a softmax in base two. -/
def average {n : ℕ} (S : Fin n → EReal) (V : Fin n → EReal) : EReal :=
  ∑ l, V l * ((w2 (S l) / (∑ j, w2 (S j)) : ℝ) : EReal)

theorem ratio {n : ℕ} (W : Fin n → ℝ) (hD : 0 < ∑ j, W j) {K : ℝ} (hK : 0 < K) (V : Fin n → EReal) :
    (∑ l, V l * ((W l * K : ℝ) : EReal)) * Ideal.div 1 (∑ l, ((W l * K : ℝ) : EReal))
      = ∑ l, V l * ((W l / (∑ j, W j) : ℝ) : EReal) := by
  rw [coe_sum, ← Finset.sum_mul, Ideal.div_coe (mul_pos hD hK).ne', one_mul, sum_mul_coe _ (one_div_pos.mpr (mul_pos hD hK)).le]
  refine Finset.sum_congr rfl fun l _ => ?_
  rw [mul_assoc, ← EReal.coe_mul]
  congr 2
  field_simp

theorem real_of_ne {M : EReal} (ht : M ≠ ⊤) (hb : M ≠ ⊥) : ∃ a : ℝ, M = a := by
  induction M with
  | bot => exact absurd rfl hb
  | top => exact absurd rfl ht
  | coe x => exact ⟨x, rfl⟩

theorem fold_max_real {n : ℕ} (S : Fin (n + 1) → EReal) (s : Fin (n + 1) → ℝ) (hS : ∀ l, S l = (s l : EReal)) :
    ∃ a : ℝ, Finset.univ.fold max ⊥ S = a := by
  refine real_of_ne (fold_max_ne_top S fun l => by rw [hS]; exact EReal.coe_ne_top _) fun h => ?_
  have : S 0 ≤ Finset.univ.fold max ⊥ S := (Finset.le_fold_max _).mpr (Or.inr ⟨0, Finset.mem_univ _, le_rfl⟩)
  rw [h, hS, le_bot_iff] at this
  exact EReal.coe_ne_bot _ this

theorem sum_w2_pos {n : ℕ} (S : Fin (n + 1) → EReal) (s : Fin (n + 1) → ℝ) (hS : ∀ l, S l = (s l : EReal)) : 0 < ∑ j, w2 (S j) :=
  Finset.sum_pos (fun l _ => by rw [hS]; exact w2_coe_pos _) Finset.univ_nonempty

/-- The kernel's quotient: both sums less the largest logit, in base two, the quotient taken after the sum. -/
theorem quotient_eq {n : ℕ} (S : Fin (n + 1) → EReal) (s : Fin (n + 1) → ℝ) (hS : ∀ l, S l = (s l : EReal)) (V U : Fin (n + 1) → EReal)
    (hU : ∀ l, U l = 1) :
    (∑ l, V l * Ideal.exp2 (S l - Finset.univ.fold max ⊥ S)) * Ideal.div 1 (∑ l, U l * Ideal.exp2 (S l - Finset.univ.fold max ⊥ S))
      = average S V := by
  obtain ⟨a, ha⟩ := fold_max_real S s hS
  rw [ha]
  have hE : ∀ l, Ideal.exp2 (S l - (a : EReal)) = ((w2 (S l) * (2 : ℝ) ^ (-a) : ℝ) : EReal) := fun l =>
    exp2_sub (by rw [hS]; exact EReal.coe_ne_top _) a
  simp only [hE, hU, one_mul]
  exact ratio (fun l => w2 (S l)) (sum_w2_pos S s hS) (Real.rpow_pos_of_pos two_pos (-a)) V

/-- The softmax in base e, less any real number. -/
theorem softmax_eq {n : ℕ} (L : Fin (n + 1) → EReal) (r : Fin (n + 1) → ℝ) (hL : ∀ l, L l = (r l : EReal)) (V : Fin (n + 1) → EReal) (a : ℝ) :
    ∑ l, V l * Ideal.div (Ideal.exp (L l - (a : EReal))) (∑ j, Ideal.exp (L j - (a : EReal)))
      = average (fun l => (log2e : EReal) * L l) V := by
  unfold average
  have h2 : ∀ l, (log2e : EReal) * L l = ((log2e * r l : ℝ) : EReal) := fun l => by rw [hL, EReal.coe_mul]
  have hD := sum_w2_pos (fun l => (log2e : EReal) * L l) (fun l => log2e * r l) h2
  have hE : ∀ l, Ideal.exp (L l - (a : EReal)) = ((w2 ((log2e : EReal) * L l) * Real.exp (-a) : ℝ) : EReal) := fun l =>
    exp_sub (by rw [hL]; exact EReal.coe_ne_top _) a
  simp only [hE]
  rw [coe_sum]
  refine Finset.sum_congr rfl fun l _ => ?_
  rw [← Finset.sum_mul, Ideal.div_coe (mul_pos hD (Real.exp_pos _)).ne', ← EReal.coe_mul]
  congr 2
  field_simp

/-- The logit of a query and a key of one head, less the scale's base. -/
def logit (q k : Fin 256 → EReal) (h : Fin 4) : EReal :=
  (∑ d : Fin 64, q ⟨64 * h.val + d.val, by omega⟩ * k ⟨64 * h.val + d.val, by omega⟩) * ((1 / 8 : ℝ) : EReal)

theorem logit_real {q k : Fin 256 → EReal} (hq : ∀ c, ∃ r : ℝ, q c = r) (hk : ∀ c, ∃ r : ℝ, k c = r) (h : Fin 4) :
    ∃ r : ℝ, logit q k h = r := by
  choose q' hq' using hq
  choose k' hk' using hk
  refine ⟨(∑ d : Fin 64, q' ⟨64 * h.val + d.val, by omega⟩ * k' ⟨64 * h.val + d.val, by omega⟩) * (1 / 8), ?_⟩
  unfold logit
  simp only [hq', hk', ← EReal.coe_mul]
  rw [coe_sum, ← EReal.coe_mul]

/-- A sum over the memory's columns, head by head. -/
theorem sum_heads (f : Fin 256 → EReal) : ∑ c, f c = ∑ h : Fin 4, ∑ d : Fin 64, f ⟨64 * h.val + d.val, by omega⟩ := by
  rw [← Fintype.sum_prod_type' (fun (h : Fin 4) (d : Fin 64) => f ⟨64 * h.val + d.val, by omega⟩)]
  exact (Fintype.sum_equiv (finProdFinEquiv (m := 4) (n := 64)) _ _ fun p => by
    congr 1; apply Fin.ext; simp [finProdFinEquiv]; omega).symm

/-- The kernel's score: keys that are zero outside their head against the scaled queries. -/
theorem score_eq {q k : Fin 256 → EReal} (hq : ∀ c, ∃ r : ℝ, q c = r) (hk : ∀ c, ∃ r : ℝ, k c = r) (h : Fin 4) :
    ∑ c : Fin 256, (if 64 * h.val ≤ c.val ∧ c.val < 64 * h.val + 64 then k c else 0) * (q c * ((1 / 8 * log2e : ℝ) : EReal))
      = (log2e : EReal) * logit q k h := by
  rw [sum_heads, Finset.sum_eq_single h]
  · choose q' hq' using hq
    choose k' hk' using hk
    unfold logit
    have e : ∀ d : Fin 64, (if 64 * h.val ≤ 64 * h.val + d.val ∧ 64 * h.val + d.val < 64 * h.val + 64 then k ⟨64 * h.val + d.val, by omega⟩ else 0)
        = k ⟨64 * h.val + d.val, by omega⟩ := fun d => if_pos (by omega)
    simp only [e]
    simp only [hq', hk', ← EReal.coe_mul]
    rw [coe_sum, coe_sum, ← EReal.coe_mul, ← EReal.coe_mul, Finset.sum_mul, Finset.mul_sum]
    congr 1
    refine Finset.sum_congr rfl fun d _ => ?_
    ring
  · intro h' _ hne
    refine Finset.sum_eq_zero fun d _ => ?_
    have : h'.val ≠ h.val := fun e => hne (Fin.ext e)
    rw [if_neg (by dsimp only; omega), zero_mul]
  · exact fun hh => absurd (Finset.mem_univ _) hh

/-- The attention over the memory: column `c` of the result for a query. -/
def memory (q : Fin 256 → EReal) (K V : Fin 256 → Fin 256 → EReal) (c : Fin 256) : EReal :=
  average (fun l : Fin 256 => (log2e : EReal) * logit q (K l) ⟨c.val / 64, by omega⟩) (fun l => V l c)

/-- What the layer hands its output product: the attention's columns, then the memory's. -/
def joined (y : Fin 768 → EReal) (q : Fin 256 → EReal) (K V : Fin 256 → Fin 256 → EReal) (k : Fin 1024) : EReal :=
  if h : k.val < 768 then y ⟨k.val, h⟩ else memory q K V ⟨k.val - 768, by omega⟩

/-- The layer's end: the gated product, added to its input. -/
def output (y z x : Fin 1024 → EReal) (w : Fin 1024 → Fin 1024 → EReal) (d : Fin 1024) : EReal :=
  x d + ∑ k, (y k * Ideal.div (z k) (1 + Ideal.exp (-z k))) * w k d

/-- The norm of a row, with its weights. -/
def rms (v g : Fin 1024 → EReal) (d : Fin 1024) : EReal :=
  v d * Ideal.rsqrt (Ideal.div (∑ k, v k * v k) (Ideal.ofBits .f32 0x44800000#32) + Ideal.ofBits .f32 0x358637BD#32) * g d

end Cert.Layer

end
-- ==== Proof.Block2.lean ====
/-
  The values of the last layer's end at an index: the memory's scores, a head's average, the gated product and the norm.
-/
module

public import proofs.«01_k».proof.Proof.Gen.Kernel2Ideal.Skeleton
public import proofs.«01_k».proof.Proof.Layer
public import Idealize.ShloMosaic.Lib.Pointwise
public import Idealize.ShloMosaic.Lib.Tactic.CleanTypes

@[expose] public section

set_option maxRecDepth 16384

noncomputable section

namespace Cert.Kernel2Ideal.Hand

open Cert.Kernel2Ideal Cert.Kernel2Ideal.Gen Idealize.ShloMosaic Idealize.ShloMosaic.TcCoe

theorem ofBits_neg_inf : Ideal.ofBits .f32 4286578688#32 = ⊥ := by
  simp [Ideal.ofBits, Ideal.ieee]

/-- A head's quotient: rows 0 to 63 of the padded values' product over row 64. -/
def quotient (S : Fin 256 → EReal) (V U : Fin 256 → EReal) : EReal :=
  (∑ l, V l * Ideal.exp2 (S l - Finset.univ.fold max ⊥ S)) * Ideal.div 1 (∑ l, U l * Ideal.exp2 (S l - Finset.univ.fold max ⊥ S))

/-- The score of a memory key against a query of the tile. -/
def score (q : Vec Ideal S1x256x1024 .bf16) (k : Vec Ideal S1x1x256x256 .bf16) (r : Fin 1024) (l : Fin 256) : EReal :=
  ∑ c : Fin 256, (show EReal from k (ix4 0 0 l c)) * (show EReal from q (ix3 0 c r))

theorem pay3_at (q : Vec Ideal S1x256x1024 .bf16) (k : Vec Ideal S1x1x256x256 .bf16) (l : Fin 256) (r : Fin 1024) :
    k0_pay3 q k (ix2 l r) = score q k r l := by
  pointwise [k0_pay3, k0_pay2]
  rfl

theorem pay6_at (q : Vec Ideal S1x256x1024 .bf16) (k : Vec Ideal S1x1x256x256 .bf16) (v : Vec Ideal S1x80x256 .bf16) (d : Fin 64) (r : Fin 1024) :
    k0_pay6 q k v (ix2 d r) = quotient (score q k r) (fun l => v (ix3 0 ⟨d.val, by omega⟩ l)) (fun l => v (ix3 0 ⟨64, by omega⟩ l)) := by
  pointwise [k0_pay6, k0_pay2]
  simp only [ofBits_neg_inf]
  rfl

theorem pay7_at (s : FVec Ideal S256x1024 .f32) (v : Vec Ideal S1x80x256 .bf16) (d : Fin 64) (r : Fin 1024) :
    k0_pay7 s v (ix2 d r) = quotient (fun l => s (ix2 l r)) (fun l => v (ix3 0 ⟨d.val, by omega⟩ l)) (fun l => v (ix3 0 ⟨64, by omega⟩ l)) := by
  pointwise [k0_pay7]
  simp only [ofBits_neg_inf]
  rfl

theorem pay8_at (s : FVec Ideal S256x1024 .f32) (v : Vec Ideal S1x80x256 .bf16) (d : Fin 64) (r : Fin 1024) :
    k0_pay8 s v (ix2 d r) = quotient (fun l => s (ix2 l r)) (fun l => v (ix3 0 ⟨d.val, by omega⟩ l)) (fun l => v (ix3 0 ⟨64, by omega⟩ l)) := by
  pointwise [k0_pay8]
  simp only [ofBits_neg_inf]
  rfl

theorem pay9_at (s : FVec Ideal S256x1024 .f32) (v : Vec Ideal S1x80x256 .bf16) (d : Fin 80) (r : Fin 1024) :
    k0_pay9 s v (ix2 d r) = ∑ l : Fin 256, (show EReal from v (ix3 0 d l)) * Ideal.exp2 (s (ix2 l r) - Finset.univ.fold max ⊥ (fun l => (show EReal from s (ix2 l r)))) := by
  pointwise [k0_pay9]
  simp only [ofBits_neg_inf]
  rfl

/-- The attention's columns beside the memory's. -/
def beside (v28 v43 v58 v68 : FVec Ideal S64x1024 .f32) (v69 v70 : FVec Ideal S1x1024 .f32) (v76 : Vec Ideal S1x1024x768 .bf16) : FVec Ideal S1024x1024 .f32 :=
  concatenate S1024x1024 1 [⟨S1024x768, extf .f32 (shapeCast S1024x768 v76 shapeCasts_S1x1024x768_S1024x768 : FVec Ideal S1024x768 .bf16) bitsLt_bf16_f32⟩,
    ⟨S1024x256, transpose S1024x256 [1, 0] (concatenate S256x1024 0 [⟨S64x1024, v28⟩, ⟨S64x1024, v43⟩, ⟨S64x1024, v58⟩,
      ⟨S64x1024, mulf v68 (broadcastTo S64x1024 (divf v70 v69) broadcasts_S1x1024_S64x1024)⟩] concatenates_S64x1024_S64x1024_S64x1024_S64x1024_S256x1024_d0) transposes_S256x1024_p1_0_S1024x256⟩]
    concatenates_S1024x768_S1024x256_S1024x1024_d1

/-- The gated product added to the layer's input. -/
def gated (v79 : FVec Ideal S1024x1024 .f32) (v80 : Vec Ideal S1x1024x1024 .bf16) (v91 : Vec Ideal S1x1024x1024 .f32) (v93 : Vec Ideal S1024x1024 .bf16) : FVec Ideal S1024x1024 .f32 :=
  have v82 : FVec Ideal S1024x1024 .f32 := extf .f32 (shapeCast S1024x1024 v80 shapeCasts_S1x1024x1024_S1024x1024 : FVec Ideal S1024x1024 .bf16) bitsLt_bf16_f32
  addf (shapeCast S1024x1024 v91 shapeCasts_S1x1024x1024_S1024x1024) (matmul dot_S1024x1024_S1024x1024_S1024x1024_1_0_0_1_n_n none
    (truncf .bf16 (mulf v79 (divf v82 (addf (broadcast S1024x1024 (Scalar.ofBits .f32 0x3F800000#32)) (exp (subf (broadcast S1024x1024 (Scalar.ofBits .f32 0x00000000#32)) v82))))) bitsLt_bf16_f32)
    (shapeCast S1024x1024 v93 shapeCasts_S1024x1024_S1024x1024 : FVec Ideal S1024x1024 .bf16) (constant S1024x1024 .f32 0x00000000#32))

/-- The norm of the rows. -/
def normed (v96 : FVec Ideal S1024x1024 .f32) (v107 : Vec Ideal S1x1024 .f32) : FVec Ideal S1024x1024 .f32 :=
  mulf (mulf v96 (broadcastTo S1024x1024 (rsqrt (addf (divf (shapeCast S1024x1 (multiReduction .add [1] S1024 (mulf v96 v96) 0x00000000#32 reduces_S1024x1024_S1024 (.inl rfl) rfl) shapeCasts_S1024_S1024x1) (broadcast S1024x1 (Scalar.ofBits .f32 0x44800000#32))) (broadcast S1024x1 (Scalar.ofBits .f32 0x358637BD#32)))) broadcasts_S1024x1_S1024x1024))
    (broadcastTo S1024x1024 (shapeCast S1x1024 v107 shapeCasts_S1x1024_S1x1024) broadcasts_S1x1024_S1024x1024)

theorem pay13_eq (v28 v43 v58 v68 : FVec Ideal S64x1024 .f32) (v69 v70 : FVec Ideal S1x1024 .f32) (v76 : Vec Ideal S1x1024x768 .bf16)
    (v80 : Vec Ideal S1x1024x1024 .bf16) (v91 : Vec Ideal S1x1024x1024 .f32) (v93 : Vec Ideal S1024x1024 .bf16) (v107 : Vec Ideal S1x1024 .f32) :
    k0_pay13 v28 v43 v58 v68 v69 v70 v76 v80 v91 v93 v107 = normed (gated (beside v28 v43 v58 v68 v69 v70 v76) v80 v91 v93) v107 := rfl

theorem normed_at (v : FVec Ideal S1024x1024 .f32) (g : Vec Ideal S1x1024 .f32) (r d : Fin 1024) :
    normed v g (ix2 r d) = Layer.rms (fun k => v (ix2 r k)) (fun k => g (ix2 0 k)) d := by
  pointwise [normed]
  rfl

theorem gated_at (y : FVec Ideal S1024x1024 .f32) (z : Vec Ideal S1x1024x1024 .bf16) (x : Vec Ideal S1x1024x1024 .f32) (w : Vec Ideal S1024x1024 .bf16) (r d : Fin 1024) :
    gated y z x w (ix2 r d) = Layer.output (fun k => y (ix2 r k)) (fun k => z (ix3 0 r k)) (fun k => x (ix3 0 r k)) (fun k d => w (ix2 k d)) d := by
  pointwise [gated]
  simp only [zero_sub]
  rfl

theorem beside_at (v28 v43 v58 v68 : FVec Ideal S64x1024 .f32) (v69 v70 : FVec Ideal S1x1024 .f32) (y : Vec Ideal S1x1024x768 .bf16) (r k : Fin 1024) :
    beside v28 v43 v58 v68 v69 v70 y (ix2 r k) = if h : k.val < 768 then (show EReal from y (ix3 0 r ⟨k.val, h⟩)) else
      if h1 : k.val - 768 < 64 then v28 (ix2 ⟨k.val - 768, h1⟩ r) else
      if h2 : k.val - 768 - 64 < 64 then v43 (ix2 ⟨k.val - 768 - 64, h2⟩ r) else
      if h3 : k.val - 768 - 64 - 64 < 64 then v58 (ix2 ⟨k.val - 768 - 64 - 64, h3⟩ r) else
        (show EReal from v68 (ix2 ⟨k.val - 768 - 64 - 64 - 64, by omega⟩ r)) * Ideal.div (v70 (ix2 0 r)) (v69 (ix2 0 r)) := by
  pointwise [beside]

/-- Channel `d` of the memory's head `h` for a query of the tile. -/
def channel (q : Vec Ideal S1x256x1024 .bf16) (K : Vec Ideal S1x4x256x256 .bf16) (W : Vec Ideal S1x320x256 .bf16) (r : Fin 1024) (h : Fin 4) (d : Fin 64) : EReal :=
  quotient (fun l => ∑ c : Fin 256, (show EReal from K (ix4 0 h l c)) * (show EReal from q (ix3 0 c r)))
    (fun l => W (ix3 0 ⟨80 * h.val + d.val, by omega⟩ l)) (fun l => W (ix3 0 ⟨80 * h.val + 64, by omega⟩ l))

/-- The row the output product takes. -/
def row (y : Vec Ideal S1x1024x768 .bf16) (q : Vec Ideal S1x256x1024 .bf16) (K : Vec Ideal S1x4x256x256 .bf16) (W : Vec Ideal S1x320x256 .bf16) (r k : Fin 1024) : EReal :=
  if h : k.val < 768 then (show EReal from y (ix3 0 r ⟨k.val, h⟩)) else
    channel q K W r ⟨(k.val - 768) / 64, by omega⟩ ⟨(k.val - 768) % 64, by omega⟩

end Cert.Kernel2Ideal.Hand

end
-- ==== Proof.Out2.lean ====
/-
  The last layer's end: a grid point's result at an index.
-/
module

public import proofs.«01_k».proof.Proof.Gen.Kernel2Ideal.Value
public import proofs.«01_k».proof.Proof.Block2
public import Idealize.ShloMosaic.Lib.Pointwise
public import Idealize.ShloMosaic.Lib.UnfoldOut
public import Idealize.ShloMosaic.Lib.Tactic.CleanTypes

@[expose] public section

set_option maxRecDepth 16384

noncomputable section

namespace Cert.Kernel2Ideal.Hand

open Cert.Kernel2Ideal Cert.Kernel2Ideal.Gen Idealize.ShloMosaic Idealize.ShloMosaic.TcCoe

section

variable (q : Vec Ideal S1x256x1024 .bf16) (K : Vec Ideal S1x4x256x256 .bf16) (W : Vec Ideal S1x320x256 .bf16) (r : Fin 1024)

theorem head0 (d : Fin 64) : k0_pay6 (View.ld q r0_0) (View.ld K r0_1) (View.ld W r0_5) (ix2 d r) = channel q K W r 0 d := by
  rw [pay6_at]
  unfold channel score
  pointwise

theorem head1 (d : Fin 64) : k0_pay7 (k0_pay3 (View.ld q r0_0) (View.ld K r0_2)) (View.ld W r0_6) (ix2 d r) = channel q K W r 1 d := by
  rw [pay7_at]
  simp only [pay3_at]
  unfold channel score
  pointwise

theorem head2 (d : Fin 64) : k0_pay8 (k0_pay4 (View.ld q r0_0) (View.ld K r0_3)) (View.ld W r0_7) (ix2 d r) = channel q K W r 2 d := by
  rw [pay8_at]
  show quotient (fun l => k0_pay3 (View.ld q r0_0) (View.ld K r0_3) (ix2 l r)) _ _ = _
  simp only [pay3_at]
  unfold channel score
  pointwise

theorem head3 (d : Fin 64) : (show EReal from extractStridedSlice S64x1024 ![0, 0] (k0_pay9 (k0_pay5 (View.ld q r0_0) (View.ld K r0_4)) (View.ld W r0_8)) slices_S80x1024_o0_0_S64x1024 (ix2 d r))
    * Ideal.div (k0_pay12 (F := Ideal) (ix2 0 r)) (extractStridedSlice S1x1024 ![64, 0] (k0_pay9 (k0_pay5 (View.ld q r0_0) (View.ld K r0_4)) (View.ld W r0_8)) slices_S80x1024_o64_0_S1x1024 (ix2 0 r)) = channel q K W r 3 d := by
  pointwise [k0_pay12]
  rw [pay9_at, pay9_at]
  show quotient (fun l => k0_pay3 (View.ld q r0_0) (View.ld K r0_4) (ix2 l r)) (fun l => View.ld W r0_8 (ix3 0 ⟨d.val, by omega⟩ l)) (fun l => View.ld W r0_8 (ix3 0 ⟨64, by omega⟩ l)) = _
  simp only [pay3_at]
  unfold channel score
  pointwise

end

theorem out_at (y : Vec Ideal S1x1024x768 .bf16) (q : Vec Ideal S1x256x1024 .bf16) (z : Vec Ideal S1x1024x1024 .bf16) (x : Vec Ideal S1x1024x1024 .f32)
    (K : Vec Ideal S1x4x256x256 .bf16) (W : Vec Ideal S1x320x256 .bf16) (w : Vec Ideal S1024x1024 .bf16) (g : Vec Ideal S1x1024 .f32) (r d : Fin 1024) :
    out0_8 y q z x K W w g (ix3 0 r d)
      = Layer.rms (Layer.output (row y q K W r) (fun k => z (ix3 0 r k)) (fun k => x (ix3 0 r k)) (fun k d => w (ix2 k d))) (fun k => g (ix2 0 k)) d := by
  have hix : Value.ix8_0 (ix3 0 r d) = ix2 r d := by
    funext a
    match a with
    | ⟨0, _⟩ => rfl
    | ⟨1, _⟩ => rfl
  unfold_out out0_8
  refine (Value.canon8_eq _ _ _ _ _ _ _ _ _ _ _ _ _ _ _).trans ?_
  delta Value.E8
  beta_reduce
  rw [hix, pay13_eq, normed_at]
  refine congrArg₂ (fun a b => Layer.rms a b d) (funext fun k => ?_) (funext fun k => ?_)
  · rw [gated_at]
    have h1 : (fun k => beside (k0_pay6 (View.ld q r0_0) (View.ld K r0_1) (View.ld W r0_5)) (k0_pay7 (k0_pay3 (View.ld q r0_0) (View.ld K r0_2)) (View.ld W r0_6))
        (k0_pay8 (k0_pay4 (View.ld q r0_0) (View.ld K r0_3)) (View.ld W r0_7)) (extractStridedSlice S64x1024 ![0, 0] (k0_pay9 (k0_pay5 (View.ld q r0_0) (View.ld K r0_4)) (View.ld W r0_8)) slices_S80x1024_o0_0_S64x1024)
        (extractStridedSlice S1x1024 ![64, 0] (k0_pay9 (k0_pay5 (View.ld q r0_0) (View.ld K r0_4)) (View.ld W r0_8)) slices_S80x1024_o64_0_S1x1024) (k0_pay12 (F := Ideal)) (View.ld y r0_9) (ix2 r k)) = row y q K W r := by
      funext k
      rw [beside_at]
      unfold row
      split
      next h => pointwise
      next h =>
        have hk := k.isLt
        split
        next h1 =>
          rw [head0]
          exact congrArg₂ (channel q K W r) (Fin.ext (by dsimp only; show 0 = _; omega)) (Fin.ext (by dsimp only; omega))
        next h1 =>
          split
          next h2 =>
            rw [head1]
            exact congrArg₂ (channel q K W r) (Fin.ext (by dsimp only; show 1 = _; omega)) (Fin.ext (by dsimp only; omega))
          next h2 =>
            split
            next h3 =>
              rw [head2]
              exact congrArg₂ (channel q K W r) (Fin.ext (by dsimp only; show 2 = _; omega)) (Fin.ext (by dsimp only; omega))
            next h3 =>
              rw [head3]
              exact congrArg₂ (channel q K W r) (Fin.ext (by dsimp only; show 3 = _; omega)) (Fin.ext (by dsimp only; omega))
    rw [h1]
    unfold Layer.output
    pointwise
  · pointwise

end Cert.Kernel2Ideal.Hand

end
-- ==== Proof.Constants.lean ====
/-
  The constants of a layer's end, and the word that says which columns are a head's.
-/
module

public import proofs.«01_k».proof.Proof.Words
public import proofs.«01_k».proof.Proof.Softmax

@[expose] public section

noncomputable section

namespace Cert.Constants

open Cert.Words Idealize.ShloMosaic

theorem ofBits_eighth : Ideal.ofBits .f32 1040187392#32 = ((1 / 8 : ℝ) : EReal) := by
  simp [Ideal.ofBits, Ideal.ieee, -EReal.coe_mul]
  norm_num

theorem ofBits_two : Ideal.ofBits .f32 1073741824#32 = ((2 : ℝ) : EReal) := by
  simp [Ideal.ofBits, Ideal.ieee, -EReal.coe_mul]
  norm_num

theorem log2e_div : Ideal.div 1 (Ideal.log ((2 : ℝ) : EReal)) = ((Softmax.log2e : ℝ) : EReal) := by
  have h2 : Real.log 2 ≠ 0 := (Real.log_pos one_lt_two).ne'
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [this, Ideal.div_coe h2, one_mul, Softmax.log2e, one_div]

theorem ofNat_toInt (n : ℕ) (h : n < 65536) : (BitVec.ofNat 32 n).toInt = n := by
  rw [BitVec.toInt_eq_toNat_cond, ofNat_toNat n h]
  split <;> omega

theorem head_words : ∀ h : Fin 4, IntOp.muli (BitVec.ofNat 32 h.val) 64#32 = BitVec.ofNat 32 (64 * h.val)
    ∧ IntOp.addi (BitVec.ofNat 32 (64 * h.val)) 64#32 = BitVec.ofNat 32 (64 * h.val + 64) := by
  decide

theorem sge_ofNat (a b : ℕ) (ha : a < 65536) (hb : b < 65536) :
    (IntOp.cmpi .sge (BitVec.ofNat 32 a) (BitVec.ofNat 32 b) : BitVec 1) = if b ≤ a then 1#1 else 0#1 := by
  show (BitVec.ofBool ((BitVec.ofNat 32 b).sle (BitVec.ofNat 32 a))) = _
  rw [BitVec.sle_eq_decide, ofNat_toInt a ha, ofNat_toInt b hb]
  by_cases h : b ≤ a
  · rw [if_pos h, decide_eq_true (by exact_mod_cast h)]; rfl
  · rw [if_neg h, decide_eq_false (by exact_mod_cast h)]; rfl

theorem slt_ofNat (a b : ℕ) (ha : a < 65536) (hb : b < 65536) :
    (IntOp.cmpi .slt (BitVec.ofNat 32 a) (BitVec.ofNat 32 b) : BitVec 1) = if a < b then 1#1 else 0#1 := by
  show (BitVec.ofBool ((BitVec.ofNat 32 a).slt (BitVec.ofNat 32 b))) = _
  rw [BitVec.slt_eq_decide, ofNat_toInt a ha, ofNat_toInt b hb]
  by_cases h : a < b
  · rw [if_pos h, decide_eq_true (by exact_mod_cast h)]; rfl
  · rw [if_neg h, decide_eq_false (by exact_mod_cast h)]; rfl

/-- A column is head `h`'s. -/
theorem head_word (h : Fin 4) (c : Fin 256) :
    (IntOp.andi (IntOp.cmpi .sge (BitVec.ofNat 32 c.val) (IntOp.muli (BitVec.ofNat 32 h.val) 64#32))
      (IntOp.cmpi .slt (BitVec.ofNat 32 c.val) (IntOp.addi (IntOp.muli (BitVec.ofNat 32 h.val) 64#32) 64#32)) : BitVec 1)
      = if 64 * h.val ≤ c.val ∧ c.val < 64 * h.val + 64 then 1#1 else 0#1 := by
  rw [(head_words h).1, (head_words h).2, sge_ofNat _ _ (by omega) (by omega), slt_ofNat _ _ (by omega) (by omega), andi_ite]

end Cert.Constants

end
-- ==== Proof.Entry2.lean ====
/-
  What the host hands the last layer's end, at an index: the memory's scaled queries, its keys by head, its values over
  rows of ones, and the arguments it only casts.
-/
module

public import proofs.«01_k».proof.Proof.Gen.Kernel2Ideal.Frame
public import proofs.«01_k».proof.Proof.Words
public import proofs.«01_k».proof.Proof.Constants
public import Idealize.ShloMosaic.Lib.Pointwise
public import Idealize.ShloMosaic.Lib.StableHlo.ReadAt
public import Idealize.ShloMosaic.Lib.Tactic.CleanTypes

@[expose] public section

set_option maxRecDepth 16384

noncomputable section

namespace Cert.Kernel2Ideal.Hand

open Cert.Words Cert.Constants Cert.Kernel2Ideal Cert.Kernel2Ideal.Gen Idealize.ShloMosaic Idealize.ShloMosaic.TcCoe

variable (m : (ℓ : Loc nD τ sig) → Buf (Elt Ideal) ℓ) (c : Dev nD)

theorem queries_at (b : Fin 2) (col : Fin 256) (n : Fin 16384) :
    (V m c main_v6 (ix3 b col n) : EReal) = (show EReal from m ((c.tc : Thread nD τ).loc main_arg1) (ix3 b n col)) * ((1 / 8 * Softmax.log2e : ℝ) : EReal) := by
  unfold V
  after_reads_at
  rw [ofBits_eighth, ofBits_two, log2e_div, ← EReal.coe_mul]

theorem keys_at (b : Fin 2) (h : Fin 4) (l col : Fin 256) :
    (V m c main_v18 (ix4 b h l col) : EReal) = if 64 * h.val ≤ col.val ∧ col.val < 64 * h.val + 64 then
      (show EReal from m ((c.tc : Thread nD τ).loc main_arg2) (ix3 b l col)) else 0 := by
  unfold V
  after_reads_at
  rw [head_word, select_ite]
  refine if_congr Iff.rfl rfl ?_
  show Ideal.ofBits .f32 0#32 = 0
  simp [Ideal.ofBits, Ideal.ieee]

theorem values_at (b : Fin 2) (h : Fin 4) (d : Fin 64) (l : Fin 256) :
    (V m c main_v24 (ix3 b ⟨80 * h.val + d.val, by omega⟩ l) : EReal) = m ((c.tc : Thread nD τ).loc main_arg3) (ix3 b l ⟨64 * h.val + d.val, by omega⟩) := by
  unfold V
  after_reads_at
  rw [dif_pos (by omega)]
  after_reads_at
  have e : (⟨(80 * h.val + d.val) / 80 * 64 + (80 * h.val + d.val) % 80, by omega⟩ : Fin 256) = ⟨64 * h.val + d.val, by omega⟩ := Fin.ext (by dsimp only; omega)
  exact congrArg (fun y => m ((c.tc : Thread nD τ).loc main_arg3) (ix3 b l y)) e

theorem ones_at (b : Fin 2) (h : Fin 4) (l : Fin 256) :
    (show EReal from V m c main_v24 (ix3 b ⟨80 * h.val + 64, by omega⟩ l)) = 1 := by
  show V m c main_v24 (ix3 b ⟨80 * h.val + 64, by omega⟩ l) = (1 : EReal)
  unfold V
  after_reads_at
  rw [dif_neg (by omega)]
  after_reads_at

theorem attended_at (b : Fin 2) (n : Fin 16384) (k : Fin 768) :
    (V m c main_v25 (ix3 b n k) : EReal) = m ((c.tc : Thread nD τ).loc main_arg0) (ix3 b n k) := by
  unfold V
  after_reads_at

theorem gates_at (b : Fin 2) (n : Fin 16384) (k : Fin 1024) :
    (V m c main_v26 (ix3 b n k) : EReal) = m ((c.tc : Thread nD τ).loc main_arg4) (ix3 b n k) := by
  unfold V
  after_reads_at

theorem input_at (b : Fin 2) (n : Fin 16384) (k : Fin 1024) :
    (V m c main_arg5 (ix3 b n k) : EReal) = m ((c.tc : Thread nD τ).loc main_arg5) (ix3 b n k) := by
  rw [V_main_arg5]

theorem weights_at (k d : Fin 1024) :
    (V m c main_v27 (ix2 k d) : EReal) = m ((c.tc : Thread nD τ).loc main_arg6) (ix2 k d) := by
  unfold V
  after_reads_at

theorem norm_at (d : Fin 1024) :
    (V m c main_v28 (ix2 0 d) : EReal) = m ((c.tc : Thread nD τ).loc main_arg7) (ix1 d) := by
  unfold V
  after_reads_at

end Cert.Kernel2Ideal.Hand

end
-- ==== Proof.Reference2.lean ====
/-
  The reference of the last layer's end, read at an index: the attention over the memory, the gated product and the norm.
-/
module

public import proofs.«01_k».proof.Proof.Gen.Reference2Ideal.Run
public import proofs.«01_k».proof.Proof.Layer
public import proofs.«01_k».proof.Proof.Constants
public import Idealize.ShloMosaic.Lib.Pointwise
public import Idealize.ShloMosaic.Lib.Tactic.CleanTypes

@[expose] public section

set_option maxRecDepth 16384

noncomputable section

namespace Cert.Reference2Ideal.Hand

open Cert.Constants Cert.Reference2Ideal Cert.Reference2Ideal.Gen Idealize.ShloMosaic Idealize.ShloMosaic.TcCoe

/-- The logits. -/
def logits (q : FVec Ideal S2x16384x256 .f32) (k : FVec Ideal S2x256x256 .f32) : FVec Ideal S2x4x16384x256 .f32 :=
  mulf (Host.dotGeneral dot_S2x16384x4x64_S2x256x4x64_S2x4x16384x256_3_3_1_1_02_02 none (shapeCast _ q shapeCasts_S2x16384x256_S2x16384x4x64) (shapeCast _ k shapeCasts_S2x256x256_S2x256x4x64)) (broadcastInDim S2x4x16384x256 ![] bcast_S_S2x4x16384x256 (constant S_ .f32 0x3E000000#32))

/-- The maxima of the logits, from the reduction. -/
def maxOf (R : FVec Ideal S2x4x16384 .f32) : FVec Ideal S2x4x16384x256 .f32 :=
  broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) R))

/-- The exponentials. -/
def exps (L M : FVec Ideal S2x4x16384x256 .f32) : FVec Ideal S2x4x16384x256 .f32 := Host.exp (subf L M)

/-- The softmax from the exponentials. -/
def shares (E : FVec Ideal S2x4x16384x256 .f32) : FVec Ideal S2x4x16384x256 .f32 :=
  Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_)))

/-- The maxima. -/
def maxes (L : FVec Ideal S2x4x16384x256 .f32) : FVec Ideal S2x4x16384x256 .f32 :=
  maxOf (Host.reduce FloatOps.maximumf L (constant S_ .f32 0xFF800000#32) reducesTo_S2x4x16384x256_S2x4x16384_d3 h_S_)

/-- The averages of the memory's values. -/
def averages (v : FVec Ideal S2x256x256 .f32) (P : FVec Ideal S2x4x16384x256 .f32) : FVec Ideal S2x16384x256 .f32 :=
  shapeCast _ (transpose S2x16384x4x64 [0, 3, 1, 2] (Host.dotGeneral dot_S2x256x4x64_S2x4x16384x256_S2x4x64x16384_1_3_3_2_02_01 none (shapeCast _ v shapeCasts_S2x256x256_S2x256x4x64) P) transposes_S2x4x64x16384_S2x16384x4x64_0_3_1_2) shapeCasts_S2x16384x4x64_S2x16384x256

/-- The attention's columns beside the memory's. -/
def beside (y : FVec Ideal S2x16384x768 .f32) (a : FVec Ideal S2x16384x256 .f32) : FVec Ideal S2x16384x1024 .f32 :=
  concatenate S2x16384x1024 2 [⟨S2x16384x768, y⟩, ⟨S2x16384x256, a⟩] concatenates_S2x16384x768_S2x16384x256_S2x16384x1024_d2

/-- The gated product added to the layer's input. -/
def gated (y z x : FVec Ideal S2x16384x1024 .f32) (w : FVec Ideal S1024x1024 .f32) :
    FVec Ideal S2x16384x1024 .f32 :=
  addf x (Host.dotGeneral dot_S2x16384x1024_S1024x1024_S2x16384x1024_2_0_01_1_n_n none (mulf y
    (Host.divf z (addf (broadcastInDim S2x16384x1024 ![] bcast_S_S2x16384x1024 (constant S_ .f32 0x3F800000#32)) (Host.exp (Host.negf z))))) w)

/-- The norm of the rows. -/
def normed (o : FVec Ideal S2x16384x1024 .f32) (g : FVec Ideal S1024 .f32) : FVec Ideal S2x16384x1024 .f32 :=
  mulf (mulf o (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf o o) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The layer's end before the norm. -/
def layer (y : FVec Ideal S2x16384x768 .f32) (q : FVec Ideal S2x16384x256 .f32) (k v : FVec Ideal S2x256x256 .f32) (z x : FVec Ideal S2x16384x1024 .f32)
    (w : FVec Ideal S1024x1024 .f32) : FVec Ideal S2x16384x1024 .f32 :=
  gated (beside y (averages v (shares (exps (logits q k) (maxes (logits q k)))))) z x w

theorem result_eq (m : (ℓ : Loc nD τ sig) → Buf (Elt Ideal) ℓ) (c : Dev nD) :
    Value.res_main_v41 (F := Ideal) m c
      = normed (layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) (m ((c.tc : Thread nD τ).loc main_arg7)) := rfl

theorem fiber3 (h : S2x4x16384x256.ReducesTo [3] S2x4x16384) (b : Fin 2) (i : Fin 4) (n : Fin 16384) (x : S2x4x16384x256.Idx) :
    h.drop x = ix3 b i n ↔ ∃ l : Fin 256, (ix4 b i n l : S2x4x16384x256.Idx) = x := by
  constructor
  · intro e
    refine ⟨x 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨l, rfl⟩
    funext a; apply Fin.ext
    match a with
    | ⟨0, _⟩ => rfl
    | ⟨1, _⟩ => rfl
    | ⟨2, _⟩ => rfl

theorem normed_apply (o : FVec Ideal S2x16384x1024 .f32) (g : FVec Ideal S1024 .f32) (b : Fin 2) (n : Fin 16384) (d : Fin 1024) :
    normed o g (ix3 b n d) = Layer.rms (fun k => o (ix3 b n k)) (fun k => g (ix1 k)) d := by
  pointwise [normed]
  rfl

theorem beside_apply (y : FVec Ideal S2x16384x768 .f32) (a : FVec Ideal S2x16384x256 .f32) (b : Fin 2) (n : Fin 16384) (k : Fin 1024) :
    beside y a (ix3 b n k) = if h : k.val < 768 then (show EReal from y (ix3 b n ⟨k.val, h⟩)) else a (ix3 b n ⟨k.val - 768, by omega⟩) := by
  pointwise [beside]

theorem gated_apply (y z x : FVec Ideal S2x16384x1024 .f32) (w : FVec Ideal S1024x1024 .f32)
    (b : Fin 2) (n : Fin 16384) (d : Fin 1024) :
    gated y z x w (ix3 b n d) = Layer.output (fun k => y (ix3 b n k)) (fun k => z (ix3 b n k)) (fun k => x (ix3 b n k)) (fun k d => w (ix2 k d)) d := by
  pointwise [gated]
  rfl

theorem averages_apply (v : FVec Ideal S2x256x256 .f32) (P : FVec Ideal S2x4x16384x256 .f32) (b : Fin 2) (n : Fin 16384) (c : Fin 256) :
    averages v P (ix3 b n c) = ∑ l : Fin 256, (show EReal from v (ix3 b l c)) * P (ix4 b ⟨c.val / 64, by omega⟩ n l) := by
  pointwise [averages]

theorem shares_apply (E : FVec Ideal S2x4x16384x256 .f32) (b : Fin 2) (i : Fin 4) (n : Fin 16384) (l : Fin 256) :
    shares E (ix4 b i n l) = Ideal.div (E (ix4 b i n l)) (∑ j : Fin 256, E (ix4 b i n j)) := by
  pointwise [shares]

theorem exps_apply (L M : FVec Ideal S2x4x16384x256 .f32) (x : S2x4x16384x256.Idx) : exps L M x = Ideal.exp (L x - M x) := rfl

theorem maxOf_apply (R : FVec Ideal S2x4x16384 .f32) (b : Fin 2) (i : Fin 4) (n : Fin 16384) (l : Fin 256) :
    maxOf R (ix4 b i n l) = (max (Ideal.ofBits .f32 0xFF800000#32) (R (ix3 b i n)) : EReal) := by
  pointwise [maxOf]

theorem logits_apply (q : FVec Ideal S2x16384x256 .f32) (k : FVec Ideal S2x256x256 .f32) (b : Fin 2) (i : Fin 4) (n : Fin 16384) (l : Fin 256) :
    logits q k (ix4 b i n l) = Layer.logit (fun c => q (ix3 b n c)) (fun c => k (ix3 b l c)) i := by
  pointwise [logits]
  rw [ofBits_eighth]
  unfold Layer.logit
  refine congrArg (fun s : EReal => s * _) (Finset.sum_congr rfl fun d _ => ?_)
  have e : (⟨i.val * 64 + d.val, by omega⟩ : Fin 256) = ⟨64 * i.val + d.val, by omega⟩ := Fin.ext (by dsimp only; omega)
  exact congrArg (fun y => (show EReal from q (ix3 b n y)) * k (ix3 b l y)) e

/-- A maximum of real numbers, of which there is one, is real. -/
theorem reduce_max_real {s t u : Shape} {axes : List (Fin s.rank)} (x : s.Idx → EReal) (init : u.Idx → EReal) (h : s.ReducesTo axes t) (hu : 0 < u.numel)
    (hi : ∀ y, init y ≠ ⊤) (hx : ∀ y, ∃ r : ℝ, x y = r) (j : t.Idx) (i : s.Idx) (hij : h.drop i = j) :
    ∃ a : ℝ, (Host.reduce (FloatOps.maximumf (F := Ideal) (φ := .f32)) x init h hu j : EReal) = a := by
  rw [Host.reduce_eq_foldl]
  have hmem : i ∈ ((List.finRange s.numel).map s.rowMajor.symm).filter (fun i => h.drop i = j) := by
    simp only [List.mem_filter, List.mem_map, List.mem_finRange, true_and, decide_eq_true_eq]
    exact ⟨⟨s.rowMajor i, Equiv.symm_apply_apply _ _⟩, hij⟩
  generalize ((List.finRange s.numel).map s.rowMajor.symm).filter (fun i => h.drop i = j) = l at hmem
  have key : ∀ (l : List s.Idx) (a : EReal), a ≠ ⊤ → l.foldl (fun r i => (max r (x i) : EReal)) a ≠ ⊤ := fun l => by
    induction l with
    | nil => exact fun a ha => ha
    | cons i l ih => exact fun a ha => ih _ (max_lt ha.lt_top (by obtain ⟨r, hr⟩ := hx i; rw [hr]; exact EReal.coe_lt_top r)).ne
  have ge : ∀ (l : List s.Idx) (a : EReal), a ≤ l.foldl (fun r i => (max r (x i) : EReal)) a := fun l => by
    induction l with
    | nil => exact fun a => le_rfl
    | cons i l ih => exact fun a => (le_max_left _ _).trans (ih _)
  have mem : ∀ (l : List s.Idx) (a : EReal), i ∈ l → x i ≤ l.foldl (fun r i => (max r (x i) : EReal)) a := fun l => by
    induction l with
    | nil => exact fun a h => absurd h (by simp)
    | cons i' l ih =>
      intro a h
      rcases List.mem_cons.mp h with rfl | h
      · exact (le_max_right _ _).trans (ge l _)
      · exact ih _ h
  refine Layer.real_of_ne (key l _ (hi _)) fun hb => ?_
  have := mem l (init (Shape.Idx.first hu)) hmem
  obtain ⟨r, hr⟩ := hx i
  rw [hr] at this
  exact EReal.coe_ne_bot r (le_bot_iff.mp (this.trans (le_of_eq hb)))

theorem init_ne_top (y : S_.Idx) : ((constant (F := Ideal) S_ .f32 0xFF800000#32) y : EReal) ≠ ⊤ := by
  show Ideal.ofBits .f32 0xFF800000#32 ≠ ⊤
  simp [Ideal.ofBits, Ideal.ieee]

theorem ofBits_neg_inf : Ideal.ofBits .f32 0xFF800000#32 = ⊥ := by
  simp [Ideal.ofBits, Ideal.ieee]

section

variable (q : FVec Ideal S2x16384x256 .f32) (k v : FVec Ideal S2x256x256 .f32)
  (hq : ∀ y, ∃ r : ℝ, q y = (r : EReal)) (hk : ∀ y, ∃ r : ℝ, k y = (r : EReal))

include hq hk

theorem logits_real (x : S2x4x16384x256.Idx) : ∃ r : ℝ, logits q k x = (r : EReal) := by
  obtain ⟨b, i, n, l, rfl⟩ : ∃ (b : Fin 2) (i : Fin 4) (n : Fin 16384) (l : Fin 256), x = ix4 b i n l := ⟨x 0, x 1, x 2, x 3, by
    funext a
    match a with
    | ⟨0, _⟩ => rfl
    | ⟨1, _⟩ => rfl
    | ⟨2, _⟩ => rfl
    | ⟨3, _⟩ => rfl⟩
  rw [logits_apply]
  exact Layer.logit_real (fun c => hq _) (fun c => hk _) i

theorem maxes_real (b : Fin 2) (i : Fin 4) (n : Fin 16384) :
    ∃ a : ℝ, ∀ l : Fin 256, maxes (logits q k) (ix4 b i n l) = (a : EReal) := by
  obtain ⟨a, ha⟩ := reduce_max_real (logits q k) (constant (F := Ideal) S_ .f32 0xFF800000#32) reducesTo_S2x4x16384x256_S2x4x16384_d3 h_S_
    init_ne_top (logits_real q k hq hk) (ix3 b i n) (ix4 b i n 0) ((fiber3 _ b i n _).mpr ⟨0, rfl⟩)
  refine ⟨a, fun l => ?_⟩
  unfold maxes
  rw [maxOf_apply, ofBits_neg_inf]
  exact (congrArg (fun y : EReal => max ⊥ y) ha).trans (max_bot_left _)

/-- The attention over the memory. -/
theorem memory_apply (b : Fin 2) (n : Fin 16384) (c : Fin 256) :
    averages v (shares (exps (logits q k) (maxes (logits q k)))) (ix3 b n c)
      = Layer.memory (fun c => q (ix3 b n c)) (fun l c => k (ix3 b l c)) (fun l c => v (ix3 b l c)) c := by
  rw [averages_apply]
  obtain ⟨a, ha⟩ := maxes_real q k hq hk b ⟨c.val / 64, by omega⟩ n
  choose r hr using fun l : Fin 256 => Layer.logit_real (q := fun c => q (ix3 b n c)) (k := fun c => k (ix3 b l c)) (fun c => hq _) (fun c => hk _) ⟨c.val / 64, by omega⟩
  simp only [shares_apply, exps_apply, ha, logits_apply]
  exact Layer.softmax_eq (n := 255) (fun l : Fin 256 => Layer.logit (fun c => q (ix3 b n c)) (fun c => k (ix3 b l c)) ⟨c.val / 64, by omega⟩) r hr (fun l => v (ix3 b l c)) a

theorem layer_apply (y : FVec Ideal S2x16384x768 .f32) (z x : FVec Ideal S2x16384x1024 .f32) (w : FVec Ideal S1024x1024 .f32)
    (b : Fin 2) (n : Fin 16384) (d : Fin 1024) :
    layer y q k v z x w (ix3 b n d) = Layer.output
      (Layer.joined (fun c => y (ix3 b n c)) (fun c => q (ix3 b n c)) (fun l c => k (ix3 b l c)) (fun l c => v (ix3 b l c)))
      (fun k => z (ix3 b n k)) (fun k => x (ix3 b n k)) (fun k d => w (ix2 k d)) d := by
  unfold layer
  rw [gated_apply]
  unfold Layer.joined
  simp only [beside_apply, memory_apply q k v hq hk]

end

end Cert.Reference2Ideal.Hand

end
-- ==== Proof.Equation2.lean ====
/-
  The result of the last layer's end is the reference's.
-/
module

public import proofs.«01_k».proof.Proof.Out2
public import proofs.«01_k».proof.Proof.Entry2
public import proofs.«01_k».proof.Proof.Reference2
public import Idealize.ShloMosaic.Lib.Pipeline.ValueKit
public import Idealize.ShloMosaic.Lib.Pipeline.Covers

@[expose] public section

set_option maxRecDepth 16384

noncomputable section

namespace Cert.Kernel2Ideal.Hand

open Cert.Kernel2Ideal Cert.Kernel2Ideal.Gen Idealize.ShloMosaic Idealize.ShloMosaic.TcCoe
open Cert.Reference2Ideal.Hand (normed_apply layer_apply)

theorem idx : ∀ t, win0_0.index t = ![(grid0.coords t 0).val, (grid0.coords t 1).val, 0]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0, 0]
    ∧ win0_5.index t = ![(grid0.coords t 0).val, 0, 0]
    ∧ win0_6.index t = ![0, 0]
    ∧ win0_7.index t = ![0, 0]
    ∧ win0_8.index t = ![(grid0.coords t 0).val, (grid0.coords t 1).val, 0] := by
  decide +kernel

variable (m : (ℓ : Loc nD τ sig) → Buf (Elt Ideal) ℓ) (c : Dev nD) (t : Fin cfg0.N)

/-- The batch of a grid point, and the place in the sequence of a row of its tile. -/
def batch : Fin 2 := ⟨(grid0.coords t 0).val, (grid0.coords t 0).isLt⟩
def tile : Fin 16 := ⟨(grid0.coords t 1).val, (grid0.coords t 1).isLt⟩
def place (r : Fin 1024) : Fin 16384 := ⟨1024 * (tile t).val + r.val, by omega⟩

/-- The arguments. -/
abbrev argY : FVec Ideal S2x16384x768 .f32 := m ((c.tc : Thread nD τ).loc main_arg0)
abbrev argQ : FVec Ideal S2x16384x256 .f32 := m ((c.tc : Thread nD τ).loc main_arg1)
abbrev argK : FVec Ideal S2x256x256 .f32 := m ((c.tc : Thread nD τ).loc main_arg2)
abbrev argV : FVec Ideal S2x256x256 .f32 := m ((c.tc : Thread nD τ).loc main_arg3)
abbrev argZ : FVec Ideal S2x16384x1024 .f32 := m ((c.tc : Thread nD τ).loc main_arg4)
abbrev argX : FVec Ideal S2x16384x1024 .f32 := m ((c.tc : Thread nD τ).loc main_arg5)
abbrev argW : FVec Ideal S1024x1024 .f32 := m ((c.tc : Thread nD τ).loc main_arg6)
abbrev argG : FVec Ideal S1024 .f32 := m ((c.tc : Thread nD τ).loc main_arg7)

theorem iblk0 (r : Fin 1024) (k : Fin 768) : (show EReal from iblk m c 0 t (ix3 0 r k)) = argY m c (ix3 (batch t) (place t r) k) := by
  refine Eq.trans ?_ (attended_at m c (batch t) (place t r) k)
  unfold place batch tile
  blk_ext [iblk, idx t]

theorem iblk1 (k : Fin 256) (r : Fin 1024) : (show EReal from iblk m c 1 t (ix3 0 k r)) = argQ m c (ix3 (batch t) (place t r) k) * ((1 / 8 * Softmax.log2e : ℝ) : EReal) := by
  refine Eq.trans ?_ (queries_at m c (batch t) k (place t r))
  unfold place batch tile
  blk_ext [iblk, idx t]

theorem iblk2 (r k : Fin 1024) : (show EReal from iblk m c 2 t (ix3 0 r k)) = argZ m c (ix3 (batch t) (place t r) k) := by
  refine Eq.trans ?_ (gates_at m c (batch t) (place t r) k)
  unfold place batch tile
  blk_ext [iblk, idx t]

theorem iblk3 (r k : Fin 1024) : (show EReal from iblk m c 3 t (ix3 0 r k)) = argX m c (ix3 (batch t) (place t r) k) := by
  refine Eq.trans ?_ (input_at m c (batch t) (place t r) k)
  unfold place batch tile
  blk_ext [iblk, idx t]

theorem iblk4 (h : Fin 4) (l k : Fin 256) : (show EReal from iblk m c 4 t (ix4 0 h l k))
    = if 64 * h.val ≤ k.val ∧ k.val < 64 * h.val + 64 then argK m c (ix3 (batch t) l k) else 0 := by
  refine Eq.trans ?_ (keys_at m c (batch t) h l k)
  unfold batch
  blk_ext [iblk, idx t]

theorem iblk5 (k : Fin 320) (l : Fin 256) : (show EReal from iblk m c 5 t (ix3 0 k l)) = V m c main_v24 (ix3 (batch t) k l) := by
  unfold batch
  blk_ext [iblk, idx t]

theorem iblk6 (k d : Fin 1024) : (show EReal from iblk m c 6 t (ix2 k d)) = argW m c (ix2 k d) := by
  refine Eq.trans ?_ (weights_at m c k d)
  blk_ext [iblk, idx t]

theorem iblk7 (d : Fin 1024) : (show EReal from iblk m c 7 t (ix2 0 d)) = argG m c (ix1 d) := by
  refine Eq.trans ?_ (norm_at m c d)
  blk_ext [iblk, idx t]

section

variable (hQ : ∀ y, ∃ r : ℝ, argQ m c y = (r : EReal)) (hK : ∀ y, ∃ r : ℝ, argK m c y = (r : EReal))

include hQ hK in
/-- A channel of the memory's attention. -/
theorem channel_eq (r : Fin 1024) (h : Fin 4) (d : Fin 64) (col : Fin 256) (hc : col.val = 64 * h.val + d.val) :
    channel (iblk m c 1 t) (iblk m c 4 t) (iblk m c 5 t) r h d
      = Layer.memory (fun k => argQ m c (ix3 (batch t) (place t r) k)) (fun l k => argK m c (ix3 (batch t) l k)) (fun l k => argV m c (ix3 (batch t) l k)) col := by
  have hS : ∀ l : Fin 256, (∑ k : Fin 256, (show EReal from iblk m c 4 t (ix4 0 h l k)) * (show EReal from iblk m c 1 t (ix3 0 k r)))
      = (Softmax.log2e : EReal) * Layer.logit (fun k => argQ m c (ix3 (batch t) (place t r) k)) (fun k => argK m c (ix3 (batch t) l k)) h := fun l => by
    refine Eq.trans (Finset.sum_congr rfl fun k _ => congrArg₂ (fun a b : EReal => a * b) (iblk4 m c t h l k) (iblk1 m c t k r)) ?_
    exact Layer.score_eq (q := fun k => argQ m c (ix3 (batch t) (place t r) k)) (k := fun k => argK m c (ix3 (batch t) l k)) (fun k => hQ _) (fun k => hK _) h
  choose s hs using fun l : Fin 256 => Layer.logit_real (q := fun k => argQ m c (ix3 (batch t) (place t r) k)) (k := fun k => argK m c (ix3 (batch t) l k)) (fun k => hQ _) (fun k => hK _) h
  unfold channel quotient
  rw [show (fun l : Fin 256 => ∑ k : Fin 256, (show EReal from iblk m c 4 t (ix4 0 h l k)) * (show EReal from iblk m c 1 t (ix3 0 k r))) = _ from funext hS]
  refine (Layer.quotient_eq (n := 255) _ (fun l => Softmax.log2e * s l) (fun l => by rw [hs, EReal.coe_mul]) _ _
    (fun l => (iblk5 m c t _ l).trans (ones_at m c (batch t) h l))).trans ?_
  unfold Layer.memory
  have e1 : (⟨col.val / 64, by omega⟩ : Fin 4) = h := Fin.ext (by dsimp only; omega)
  have e2 : (⟨64 * h.val + d.val, by omega⟩ : Fin 256) = col := Fin.ext hc.symm
  rw [e1]
  refine congrArg (Layer.average _) (funext fun l => ?_)
  refine (iblk5 m c t _ l).trans ((values_at m c (batch t) h d l).trans ?_)
  exact congrArg (fun y => argV m c (ix3 (batch t) l y)) e2

include hQ hK in
/-- The row the output product takes. -/
theorem row_eq (r : Fin 1024) : row (iblk m c 0 t) (iblk m c 1 t) (iblk m c 4 t) (iblk m c 5 t) r
    = Layer.joined (fun k => argY m c (ix3 (batch t) (place t r) k)) (fun k => argQ m c (ix3 (batch t) (place t r) k))
        (fun l k => argK m c (ix3 (batch t) l k)) (fun l k => argV m c (ix3 (batch t) l k)) := by
  funext k
  unfold row Layer.joined
  split
  next h => exact iblk0 m c t r ⟨k.val, h⟩
  next h => exact channel_eq m c t hQ hK r _ _ _ (by dsimp only; omega)

include hQ hK in
/-- The row before the last norm. -/
theorem before_norm (r k : Fin 1024) :
    Layer.output (row (iblk m c 0 t) (iblk m c 1 t) (iblk m c 4 t) (iblk m c 5 t) r) (fun k => iblk m c 2 t (ix3 0 r k)) (fun k => iblk m c 3 t (ix3 0 r k))
        (fun k d => iblk m c 6 t (ix2 k d)) k
      = Cert.Reference2Ideal.Hand.layer (argY m c) (argQ m c) (argK m c) (argV m c) (argZ m c) (argX m c) (argW m c) (ix3 (batch t) (place t r) k) := by
  rw [layer_apply _ _ _ hQ hK, row_eq m c t hQ hK]
  have h2 : (fun k => iblk m c 2 t (ix3 0 r k) : Fin 1024 → EReal) = fun k => argZ m c (ix3 (batch t) (place t r) k) := funext fun k => iblk2 m c t r k
  have h3 : (fun k => iblk m c 3 t (ix3 0 r k) : Fin 1024 → EReal) = fun k => argX m c (ix3 (batch t) (place t r) k) := funext fun k => iblk3 m c t r k
  have h6 : (fun k d => iblk m c 6 t (ix2 k d) : Fin 1024 → Fin 1024 → EReal) = fun k d => argW m c (ix2 k d) := funext fun k => funext fun d => iblk6 m c t k d
  rw [h2, h3, h6]

include hQ hK in
/-- A tile of the result is the reference's. -/
theorem tile_eq (r d : Fin 1024) :
    out0_8 (iblk m c 0 t) (iblk m c 1 t) (iblk m c 2 t) (iblk m c 3 t) (iblk m c 4 t) (iblk m c 5 t) (iblk m c 6 t) (iblk m c 7 t) (ix3 0 r d)
      = Cert.Reference2Ideal.Hand.normed (Cert.Reference2Ideal.Hand.layer (argY m c) (argQ m c) (argK m c) (argV m c) (argZ m c) (argX m c) (argW m c)) (argG m c) (ix3 (batch t) (place t r) d) := by
  refine (out_at _ _ _ _ _ _ _ _ r d).trans (Eq.trans ?_ (normed_apply _ _ _ _ _).symm)
  have h7 : (fun k => iblk m c 7 t (ix2 0 k) : Fin 1024 → EReal) = fun k => argG m c (ix1 k) := funext fun k => iblk7 m c t k
  rw [h7]
  exact congrArg (fun a => Layer.rms a _ d) (funext fun k => before_norm m c t hQ hK r k)

end

end Cert.Kernel2Ideal.Hand

end
-- ==== Proof.Result2.lean ====
/-
  The result of the last layer's end is the reference's, as an array.
-/
module

public import proofs.«01_k».proof.Proof.Equation2

@[expose] public section

set_option maxRecDepth 16384

noncomputable section

namespace Cert.Kernel2Ideal.Hand

open Cert.Kernel2Ideal Cert.Kernel2Ideal.Gen Idealize.ShloMosaic Idealize.ShloMosaic.TcCoe
open Cert.Reference2Ideal.Hand (normed_apply layer_apply)

theorem emb_eq (t : Fin cfg0.N) (r d : Fin 1024) : ((cfg0.win 8).blk t).view.emb (ix3 0 r d) = (ix3 (batch t) (place t r) d : S2x16384x1024.Idx) := by
  unfold place batch tile
  blk_ext [idx t]

variable (m : (ℓ : Loc nD τ sig) → Buf (Elt Ideal) ℓ) (c : Dev nD)

section

variable (hQ : ∀ y, ∃ r : ℝ, argQ m c y = (r : EReal)) (hK : ∀ y, ∃ r : ℝ, argK m c y = (r : EReal))

include hQ hK in
/-- The result's array is the reference's. -/
theorem array_eq : (dats m 0 c).arrAt 8 cfg0.N = Cert.Reference2Ideal.Hand.normed (Cert.Reference2Ideal.Hand.layer (argY m c) (argQ m c) (argK m c) (argV m c) (argZ m c) (argX m c) (argW m c)) (argG m c) := by
  refine (dats m 0 c).arrAt_eq_of_covers 8 _ (by decide +kernel) fun t hf y => ?_
  obtain ⟨r, d, rfl⟩ : ∃ (r d : Fin 1024), y = ix3 0 r d := ⟨y 1, y 2, by
    funext a
    match a with
    | ⟨0, _⟩ => exact Subsingleton.elim (α := Fin 1) _ _
    | ⟨1, _⟩ => rfl
    | ⟨2, _⟩ => rfl⟩
  refine (congrFun (after0_8 m c t) (ix3 0 r d)).trans ((tile_eq m c t hQ hK r d).trans ?_)
  exact congrArg (Cert.Reference2Ideal.Hand.normed (Cert.Reference2Ideal.Hand.layer (argY m c) (argQ m c) (argK m c) (argV m c) (argZ m c) (argX m c) (argW m c)) (argG m c)) (emb_eq t r d).symm

end

end Cert.Kernel2Ideal.Hand

end
-- ==== Proof.Finite2.lean ====
/-
  What the precondition of the last layer's end says: every entry of the memory's queries and keys is a real number.
-/
module

public import proofs.«01_k».proof.Pre_finite2
public import proofs.«01_k».proof.Proof.Gen.Pre_finite2
public import proofs.«01_k».proof.Proof.Finite

@[expose] public section

noncomputable section

namespace Cert.Pre_finite2.Hand

open Cert.Pre_finite2 Idealize.ShloMosaic

local instance : Facts := Cert.Pre_finite2.Gen.facts

theorem finite {y : FVec Ideal S2x16384x768 .f32} {q : FVec Ideal S2x16384x256 .f32} {k v : FVec Ideal S2x256x256 .f32}
    {z x : FVec Ideal S2x16384x1024 .f32} {w : FVec Ideal S1024x1024 .f32} {g : FVec Ideal S1024 .f32}
    (h : fn (F := Ideal) y q k v z x w g = fun _ => 1#1) :
    (∀ y, ∃ r : ℝ, q y = (r : EReal)) ∧ (∀ y, ∃ r : ℝ, k y = (r : EReal)) := by
  have e := congrFun h (fun a => a.elim0)
  unfold fn at e
  dsimp only at e
  have a2 : ∀ a b : BitVec 1, IntOp.andi a b = 1#1 → a = 1#1 ∧ b = 1#1 := by decide
  obtain ⟨e1, e2⟩ := a2 _ _ e
  haveI : Subsingleton S_.Idx := ⟨fun a b => funext fun x => x.elim0⟩
  refine ⟨fun y => ?_, fun y => ?_⟩
  · have := Host.reduce_andi_all _ _ _ _ _ e1 y
    exact Cert.Pre_finite.Hand.real_of_abs_lt _ this
  · have := Host.reduce_andi_all _ _ _ _ _ e2 y
    exact Cert.Pre_finite.Hand.real_of_abs_lt _ this

end Cert.Pre_finite2.Hand

end
-- ==== Proof.Frames2.lean ====
/-
  The end of the last layer: the programs end with their arguments unchanged and every counter at zero, and over the reals
  the kernel's result is the reference's on finite queries and keys.
-/
module

public import proofs.«01_k».proof.Defs
public import proofs.«01_k».proof.Proof.Result2
public import proofs.«01_k».proof.Proof.Finite2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite2
public import Idealize.ShloMosaic.Lib.Quiescent

@[expose] public section

noncomputable section

namespace Cert.Proof.Second

open Idealize.ShloMosaic Idealize.ShloMosaic.TcCoe Idealize.SL.Sem

local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Pre_finite2.Facts := Cert.Pre_finite2.Gen.facts

theorem kernel_frame2 : Cert.quiescent_Kernel2 := fun m g _ => Cert.Kernel2.Gen.frame m g

theorem ideal_frame2 : Cert.quiescent_Kernel2Ideal := fun m g _ => Cert.Kernel2Ideal.Gen.frame m g

theorem ideal_frame_finite2 : Cert.quiescent_Kernel2Ideal_pre_finite2 := fun m g _ => Cert.Kernel2Ideal.Gen.frame m g

theorem reference_frame2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

theorem reference_frame_finite2 : Cert.quiescent_Reference2Ideal_pre_finite2 := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

section
open Cert.Kernel2Ideal.Hand

theorem value2 : Cert.algebraic_Kernel2Ideal_Reference2Ideal_pre_finite2 := by
  intro m ρ m' ρ' hpre hagree
  refine ⟨fun c => Cert.Reference2Ideal.Hand.normed (Cert.Reference2Ideal.Hand.layer (argY m c) (argQ m c) (argK m c) (argV m c) (argZ m c) (argX m c)
    (argW m c)) (argG m c), ?_, ?_⟩
  · refine (θ_run _ _ _).mono (fun r h c => ⟨(h c).1.trans ?_, (h c).2⟩) (Cert.Kernel2Ideal.Value.run_blocks (F := Ideal) m ρ)
    obtain ⟨hQ, hK⟩ := Cert.Pre_finite2.Hand.finite (hpre c)
    exact array_eq m c hQ hK
  · refine (θ_run _ _ _).mono (fun r h c => ⟨(h c).1.trans ?_, (h c).2⟩) (Cert.Reference2Ideal.Value.run (F := Ideal) m' ρ')
    obtain ⟨h0, h1, h2, h3, h4, h5, h6, h7⟩ := hagree c
    refine (Cert.Reference2Ideal.Hand.result_eq m' c).trans ?_
    rw [h0, h1, h2, h3, h4, h5, h6, h7]

end

end Cert.Proof.Second

end
-- ==== Proof.Projection.lean ====
/-
  A row's projection: the normed row against a column of the weights.
-/
module

public import proofs.«01_k».proof.Proof.Layer

@[expose] public section

noncomputable section

namespace Cert.Layer

open Idealize.ShloMosaic

/-- The normed row against a column of the weights. -/
def project (v g w : Fin 1024 → EReal) : EReal := ∑ k, rms v g k * w k

end Cert.Layer

end
-- ==== Proof.Block3.lean ====
/-
  The values of the first projection at an index: the two products and the pieces stored of them.
-/
module

public import proofs.«01_k».proof.Proof.Gen.Kernel3Ideal.Frame
public import proofs.«01_k».proof.Proof.Projection
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel3Ideal.Hand

open Cert.Kernel3Ideal Cert.Kernel3Ideal.Gen Idealize.ShloMosaic Idealize.ShloMosaic.TcCoe

theorem pay4_at (x : Vec Ideal S1x512x1024 .f32) (g : Vec Ideal S1x1024 .f32) (r : Fin 512) (d : Fin 1024) :
    (show EReal from k0_pay4 x g (ix2 r d)) = Layer.rms (fun k => x (ix3 0 r k)) (fun k => g (ix2 0 k)) d := by
  pointwise [k0_pay4]
  rfl

theorem pay5_at (x : Vec Ideal S1x512x1024 .f32) (g : Vec Ideal S1x1024 .f32) (w : Vec Ideal S1792x1024 .bf16) (i : Fin 1792) (r : Fin 512) :
    (show EReal from k0_pay5 x g w (ix2 i r)) = Layer.project (fun k => x (ix3 0 r k)) (fun k => g (ix2 0 k)) (fun k => w (ix2 i k)) := by
  have h : (show EReal from k0_pay5 x g w (ix2 i r)) = ∑ k : Fin 1024, (show EReal from w (ix2 i k)) * (show EReal from k0_pay4 x g (ix2 r k)) := by
    pointwise [k0_pay5]
  rw [h]
  exact Finset.sum_congr rfl fun k _ => by rw [pay4_at, mul_comm]

theorem pay6_at (x : Vec Ideal S1x512x1024 .f32) (g : Vec Ideal S1x1024 .f32) (w : Vec Ideal S1024x1792 .bf16) (r : Fin 512) (j : Fin 1792) :
    (show EReal from k0_pay6 x g w (ix2 r j)) = Layer.project (fun k => x (ix3 0 r k)) (fun k => g (ix2 0 k)) (fun k => w (ix2 k j)) := by
  have h : (show EReal from k0_pay6 x g w (ix2 r j)) = ∑ k : Fin 1024, (show EReal from k0_pay4 x g (ix2 r k)) * (show EReal from w (ix2 k j)) := by
    pointwise [k0_pay6]
  rw [h]
  exact Finset.sum_congr rfl fun k _ => by rw [pay4_at]

/-- A product's entry by the numbers of its row and column. -/
def entry (A : FVec Ideal S1792x512 .f32) (i j : Nat) : EReal := A (ix2 (Fin.ofNat 1792 i) (Fin.ofNat 512 j))

theorem entry_eq (A : FVec Ideal S1792x512 .f32) (i : Fin 1792) (j : Fin 512) : entry A i.val j.val = A (ix2 i j) := by
  unfold entry
  rw [Fin.ofNat_val_eq_self, Fin.ofNat_val_eq_self]

/-- The queries' tile of a product: a pair's rows, a block's columns. -/
def queryTile (A : FVec Ideal S1792x512 .f32) : FVec Ideal S1x6x2x128x256 .bf16 := fun y =>
  entry A (128 * (y 1).val + (y 3).val) (256 * (y 2).val + (y 4).val)

/-- The values' tile of a product: a pair's two heads over rows of ones, a block's columns. -/
def valueTile (A : FVec Ideal S1792x512 .f32) : FVec Ideal S1x6x2x160x256 .bf16 := fun y =>
  if (y 3).val % 80 < 64 then entry A (768 + 128 * (y 1).val + 64 * ((y 3).val / 80) + (y 3).val % 80) (256 * (y 2).val + (y 4).val) else 1

theorem query_piece (A : FVec Ideal S1792x512 .f32) (P B : Nat) (hP : P < 6) (hB : B < 2) (inb) (f : FVec Ideal S1x1x1x128x256 .bf16)
    (h : ∀ (l : Fin 128) (s : Fin 256), (show EReal from f (ix5 0 0 0 l s)) = A (ix2 ⟨128 * P + l.val, by omega⟩ ⟨256 * B + s.val, by omega⟩)) (y : S1x1x1x128x256.Idx) :
    f y = queryTile A ((Rect.unit (s := S1x6x2x128x256) ![0, P, B, 0, 0] ![1, 1, 1, 128, 256] inb).emb y) := by
  obtain ⟨l, s, rfl⟩ : ∃ (l : Fin 128) (s : Fin 256), y = ix5 0 0 0 l s := ⟨y 3, y 4, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩
  refine (h l s).trans ((entry_eq A _ _).symm.trans ?_)
  refine congrArg₂ (entry A) ?_ ?_
  · show 128 * P + l.val = 128 * (P + 1 * 0) + (0 + 1 * l.val)
    omega
  · show 256 * B + s.val = 256 * (B + 1 * 0) + (0 + 1 * s.val)
    omega

theorem value_piece (A : FVec Ideal S1792x512 .f32) (P B H : Nat) (hP : P < 6) (hB : B < 2) (hH : H < 2) (inb) (f : FVec Ideal S1x1x1x64x256 .bf16)
    (h : ∀ (v : Fin 64) (s : Fin 256), (show EReal from f (ix5 0 0 0 v s)) = A (ix2 ⟨768 + 128 * P + 64 * H + v.val, by omega⟩ ⟨256 * B + s.val, by omega⟩)) (y : S1x1x1x64x256.Idx) :
    f y = valueTile A ((Rect.unit (s := S1x6x2x160x256) ![0, P, B, 80 * H, 0] ![1, 1, 1, 64, 256] inb).emb y) := by
  obtain ⟨v, s, rfl⟩ : ∃ (v : Fin 64) (s : Fin 256), y = ix5 0 0 0 v s := ⟨y 3, y 4, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩
  refine (h v s).trans ((entry_eq A _ _).symm.trans ?_)
  show _ = if (80 * H + 1 * v.val) % 80 < 64 then entry A (768 + 128 * (P + 1 * 0) + 64 * ((80 * H + 1 * v.val) / 80) + (80 * H + 1 * v.val) % 80) (256 * (B + 1 * 0) + (0 + 1 * s.val)) else 1
  rw [if_pos (by omega)]
  refine congrArg₂ (entry A) ?_ ?_
  · show 768 + 128 * P + 64 * H + v.val = _
    omega
  · show 256 * B + s.val = _
    omega

theorem one_piece (A : FVec Ideal S1792x512 .f32) (P B H : Nat) (inb) (f : FVec Ideal S1x1x1x16x256 .bf16)
    (h : ∀ (v : Fin 16) (s : Fin 256), (show EReal from f (ix5 0 0 0 v s)) = 1) (y : S1x1x1x16x256.Idx) :
    f y = valueTile A ((Rect.unit (s := S1x6x2x160x256) ![0, P, B, 64 + 80 * H, 0] ![1, 1, 1, 16, 256] inb).emb y) := by
  obtain ⟨v, s, rfl⟩ : ∃ (v : Fin 16) (s : Fin 256), y = ix5 0 0 0 v s := ⟨y 3, y 4, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩
  refine (h v s).trans ?_
  show _ = if (64 + 80 * H + 1 * v.val) % 80 < 64 then entry A _ _ else 1
  rw [if_neg (by omega)]

section

variable (c : Dev nD) (i : grid0.Coords)
  (arg2 : Memref sig .tc .vmem S1x512x1024 .f32) (harg2 : arg2.IsWhole) (arg3 : Memref sig .tc .vmem S1x1024 .f32) (harg3 : arg3.IsWhole)
  (arg4 : Memref sig .tc .vmem S1792x1024 .bf16) (harg4 : arg4.IsWhole) (arg5 : Memref sig .tc .vmem S1024x1792 .bf16) (harg5 : arg5.IsWhole)
  (arg6 : Memref sig .tc .vmem S1x6x2x128x256 .bf16) (harg6 : arg6.IsWhole) (arg7 : Memref sig .tc .vmem S1x512x768 .bf16) (harg7 : arg7.IsWhole)
  (arg8 : Memref sig .tc .vmem S1x512x128 .bf16) (harg8 : arg8.IsWhole) (arg9 : Memref sig .tc .vmem S1x6x2x160x256 .bf16) (harg9 : arg9.IsWhole)
  (arg10 : Memref sig .tc .vmem S1x1x2x2x768 .f32) (harg10 : arg10.IsWhole) (arg11 : Memref sig .tc .vmem S1x256x512 .bf16) (harg11 : arg11.IsWhole)
  (arg12 : Memref sig .tc .vmem S1x512x1024 .bf16) (harg12 : arg12.IsWhole)
  (x : Vec Ideal S1x512x1024 .f32) (g : Vec Ideal S1x1024 .f32) (wT : Vec Ideal S1792x1024 .bf16) (w : Vec Ideal S1024x1792 .bf16)

theorem keys_out (r : Fin 512) (d : Fin 768) :
    (show EReal from out0_A_5 c i arg2 harg2 arg3 harg3 arg4 harg4 arg5 harg5 arg6 harg6 arg7 harg7 arg8 harg8 arg9 harg9 arg10 harg10 arg11 harg11 arg12 harg12 x g wT w (ix3 0 r d))
      = Layer.project (fun k => x (ix3 0 r k)) (fun k => g (ix2 0 k)) (fun k => w (ix2 k ⟨d.val, by omega⟩)) := by
  frame_out
  refine Eq.trans ?_ (pay6_at x g w r _)
  pointwise [k0_pay81, k0_pay80, k0_pay75]

theorem gates_out (r : Fin 512) (d : Fin 1024) :
    (show EReal from out0_A_10 c i arg2 harg2 arg3 harg3 arg4 harg4 arg5 harg5 arg6 harg6 arg7 harg7 arg8 harg8 arg9 harg9 arg10 harg10 arg11 harg11 arg12 harg12 x g wT w (ix3 0 r d))
      = Layer.project (fun k => x (ix3 0 r k)) (fun k => g (ix2 0 k)) (fun k => w (ix2 k ⟨768 + d.val, by omega⟩)) := by
  frame_out
  refine Eq.trans ?_ (pay6_at x g w r _)
  pointwise [k0_pay76]

theorem questions_out (j : Fin 256) (r : Fin 512) :
    (show EReal from out0_A_9 c i arg2 harg2 arg3 harg3 arg4 harg4 arg5 harg5 arg6 harg6 arg7 harg7 arg8 harg8 arg9 harg9 arg10 harg10 arg11 harg11 arg12 harg12 x g wT w (ix3 0 j r))
      = Layer.project (fun k => x (ix3 0 r k)) (fun k => g (ix2 0 k)) (fun k => wT (ix2 ⟨1536 + j.val, by omega⟩ k)) := by
  frame_out
  refine Eq.trans ?_ (pay5_at x g wT _ r)
  pointwise [k0_pay74, k0_pay73]

theorem queries_out (p : Fin 6) (b : Fin 2) (l : Fin 128) (s : Fin 256) :
    (show EReal from out0_A_4 c i arg2 harg2 arg3 harg3 arg4 harg4 arg5 harg5 arg6 harg6 arg7 harg7 arg8 harg8 arg9 harg9 arg10 harg10 arg11 harg11 arg12 harg12 x g wT w (ix5 0 p b l s))
      = queryTile (k0_pay5 x g wT) (ix5 0 p b l s) := by
  frame_out
  refine View.canon_apply_of_pieces (Val := Elt Ideal) (S := S1x6x2x128x256) (e := .bf16) (queryTile (k0_pay5 x g wT)) _ ?_ (ix5 0 p b l s) (View.cover_of_tiledBy _ ![1, 1, 1, 128, 256] (by sl_kernel_rfl) _)
  repeat' (first | exact fun _ h => (List.not_mem_nil h).elim | refine List.forall_mem_cons.2 ⟨fun y => ?_, ?_⟩)
  · exact query_piece (k0_pay5 x g wT) 5 1 (by decide) (by decide) inb_S1x6x2x128x256_S1x1x1x128x256_0_5_1_0_0 _ (fun l s => by pointwise [k0_pay68]) y
  · exact query_piece (k0_pay5 x g wT) 5 0 (by decide) (by decide) inb_S1x6x2x128x256_S1x1x1x128x256_0_5_0_0_0 _ (fun l s => by pointwise [k0_pay63]) y
  · exact query_piece (k0_pay5 x g wT) 4 1 (by decide) (by decide) inb_S1x6x2x128x256_S1x1x1x128x256_0_4_1_0_0 _ (fun l s => by pointwise [k0_pay57]) y
  · exact query_piece (k0_pay5 x g wT) 4 0 (by decide) (by decide) inb_S1x6x2x128x256_S1x1x1x128x256_0_4_0_0_0 _ (fun l s => by pointwise [k0_pay52]) y
  · exact query_piece (k0_pay5 x g wT) 3 1 (by decide) (by decide) inb_S1x6x2x128x256_S1x1x1x128x256_0_3_1_0_0 _ (fun l s => by pointwise [k0_pay47]) y
  · exact query_piece (k0_pay5 x g wT) 3 0 (by decide) (by decide) inb_S1x6x2x128x256_S1x1x1x128x256_0_3_0_0_0 _ (fun l s => by pointwise [k0_pay41]) y
  · exact query_piece (k0_pay5 x g wT) 2 1 (by decide) (by decide) inb_S1x6x2x128x256_S1x1x1x128x256_0_2_1_0_0 _ (fun l s => by pointwise [k0_pay36, k0_pay35]) y
  · exact query_piece (k0_pay5 x g wT) 2 0 (by decide) (by decide) inb_S1x6x2x128x256_S1x1x1x128x256_0_2_0_0_0 _ (fun l s => by pointwise [k0_pay30]) y
  · exact query_piece (k0_pay5 x g wT) 1 1 (by decide) (by decide) inb_S1x6x2x128x256_S1x1x1x128x256_0_1_1_0_0 _ (fun l s => by pointwise [k0_pay25]) y
  · exact query_piece (k0_pay5 x g wT) 1 0 (by decide) (by decide) inb_S1x6x2x128x256_S1x1x1x128x256_0_1_0_0_0 _ (fun l s => by pointwise [k0_pay19]) y
  · exact query_piece (k0_pay5 x g wT) 0 1 (by decide) (by decide) inb_S1x6x2x128x256_S1x1x1x128x256_0_0_1_0_0 _ (fun l s => by pointwise [k0_pay14]) y
  · exact query_piece (k0_pay5 x g wT) 0 0 (by decide) (by decide) inb_S1x6x2x128x256_S1x1x1x128x256_0_0_0_0_0 _ (fun l s => by pointwise [k0_pay8]) y

theorem values_out (p : Fin 6) (b : Fin 2) (v : Fin 160) (s : Fin 256) :
    (show EReal from out0_A_7 c i arg2 harg2 arg3 harg3 arg4 harg4 arg5 harg5 arg6 harg6 arg7 harg7 arg8 harg8 arg9 harg9 arg10 harg10 arg11 harg11 arg12 harg12 x g wT w (ix5 0 p b v s))
      = valueTile (k0_pay5 x g wT) (ix5 0 p b v s) := by
  frame_out
  refine View.canon_apply_of_pieces (Val := Elt Ideal) (S := S1x6x2x160x256) (e := .bf16) (valueTile (k0_pay5 x g wT)) _ ?_ (ix5 0 p b v s) (View.cover_of_tiledBy _ ![1, 1, 1, 16, 256] (by sl_kernel_rfl) _)
  repeat' (first | exact fun _ h => (List.not_mem_nil h).elim | refine List.forall_mem_cons.2 ⟨fun y => ?_, ?_⟩)
  · exact one_piece (k0_pay5 x g wT) 5 1 1 inb_S1x6x2x160x256_S1x1x1x16x256_0_5_1_144_0 _ (fun v s => by pointwise [k0_pay72, k0_pay7]) y
  · exact value_piece (k0_pay5 x g wT) 5 1 1 (by decide) (by decide) (by decide) inb_S1x6x2x160x256_S1x1x1x64x256_0_5_1_80_0 _ (fun v s => by pointwise [k0_pay71]) y
  · exact one_piece (k0_pay5 x g wT) 5 1 0 inb_S1x6x2x160x256_S1x1x1x16x256_0_5_1_64_0 _ (fun v s => by pointwise [k0_pay70, k0_pay7]) y
  · exact value_piece (k0_pay5 x g wT) 5 1 0 (by decide) (by decide) (by decide) inb_S1x6x2x160x256_S1x1x1x64x256_0_5_1_0_0 _ (fun v s => by pointwise [k0_pay69]) y
  · exact one_piece (k0_pay5 x g wT) 5 0 1 inb_S1x6x2x160x256_S1x1x1x16x256_0_5_0_144_0 _ (fun v s => by pointwise [k0_pay67, k0_pay7]) y
  · exact value_piece (k0_pay5 x g wT) 5 0 1 (by decide) (by decide) (by decide) inb_S1x6x2x160x256_S1x1x1x64x256_0_5_0_80_0 _ (fun v s => by pointwise [k0_pay66]) y
  · exact one_piece (k0_pay5 x g wT) 5 0 0 inb_S1x6x2x160x256_S1x1x1x16x256_0_5_0_64_0 _ (fun v s => by pointwise [k0_pay65, k0_pay7]) y
  · exact value_piece (k0_pay5 x g wT) 5 0 0 (by decide) (by decide) (by decide) inb_S1x6x2x160x256_S1x1x1x64x256_0_5_0_0_0 _ (fun v s => by pointwise [k0_pay64]) y
  · exact one_piece (k0_pay5 x g wT) 4 1 1 inb_S1x6x2x160x256_S1x1x1x16x256_0_4_1_144_0 _ (fun v s => by pointwise [k0_pay62, k0_pay7]) y
  · exact value_piece (k0_pay5 x g wT) 4 1 1 (by decide) (by decide) (by decide) inb_S1x6x2x160x256_S1x1x1x64x256_0_4_1_80_0 _ (fun v s => by pointwise [k0_pay61, k0_pay60]) y
  · exact one_piece (k0_pay5 x g wT) 4 1 0 inb_S1x6x2x160x256_S1x1x1x16x256_0_4_1_64_0 _ (fun v s => by pointwise [k0_pay59, k0_pay7]) y
  · exact value_piece (k0_pay5 x g wT) 4 1 0 (by decide) (by decide) (by decide) inb_S1x6x2x160x256_S1x1x1x64x256_0_4_1_0_0 _ (fun v s => by pointwise [k0_pay58]) y
  · exact one_piece (k0_pay5 x g wT) 4 0 1 inb_S1x6x2x160x256_S1x1x1x16x256_0_4_0_144_0 _ (fun v s => by pointwise [k0_pay56, k0_pay7]) y
  · exact value_piece (k0_pay5 x g wT) 4 0 1 (by decide) (by decide) (by decide) inb_S1x6x2x160x256_S1x1x1x64x256_0_4_0_80_0 _ (fun v s => by pointwise [k0_pay55]) y
  · exact one_piece (k0_pay5 x g wT) 4 0 0 inb_S1x6x2x160x256_S1x1x1x16x256_0_4_0_64_0 _ (fun v s => by pointwise [k0_pay54, k0_pay7]) y
  · exact value_piece (k0_pay5 x g wT) 4 0 0 (by decide) (by decide) (by decide) inb_S1x6x2x160x256_S1x1x1x64x256_0_4_0_0_0 _ (fun v s => by pointwise [k0_pay53]) y
  · exact one_piece (k0_pay5 x g wT) 3 1 1 inb_S1x6x2x160x256_S1x1x1x16x256_0_3_1_144_0 _ (fun v s => by pointwise [k0_pay51, k0_pay7]) y
  · exact value_piece (k0_pay5 x g wT) 3 1 1 (by decide) (by decide) (by decide) inb_S1x6x2x160x256_S1x1x1x64x256_0_3_1_80_0 _ (fun v s => by pointwise [k0_pay50]) y
  · exact one_piece (k0_pay5 x g wT) 3 1 0 inb_S1x6x2x160x256_S1x1x1x16x256_0_3_1_64_0 _ (fun v s => by pointwise [k0_pay49, k0_pay7]) y
  · exact value_piece (k0_pay5 x g wT) 3 1 0 (by decide) (by decide) (by decide) inb_S1x6x2x160x256_S1x1x1x64x256_0_3_1_0_0 _ (fun v s => by pointwise [k0_pay48]) y
  · exact one_piece (k0_pay5 x g wT) 3 0 1 inb_S1x6x2x160x256_S1x1x1x16x256_0_3_0_144_0 _ (fun v s => by pointwise [k0_pay46, k0_pay7]) y
  · exact value_piece (k0_pay5 x g wT) 3 0 1 (by decide) (by decide) (by decide) inb_S1x6x2x160x256_S1x1x1x64x256_0_3_0_80_0 _ (fun v s => by pointwise [k0_pay45]) y
  · exact one_piece (k0_pay5 x g wT) 3 0 0 inb_S1x6x2x160x256_S1x1x1x16x256_0_3_0_64_0 _ (fun v s => by pointwise [k0_pay44, k0_pay7]) y
  · exact value_piece (k0_pay5 x g wT) 3 0 0 (by decide) (by decide) (by decide) inb_S1x6x2x160x256_S1x1x1x64x256_0_3_0_0_0 _ (fun v s => by pointwise [k0_pay43, k0_pay42]) y
  · exact one_piece (k0_pay5 x g wT) 2 1 1 inb_S1x6x2x160x256_S1x1x1x16x256_0_2_1_144_0 _ (fun v s => by pointwise [k0_pay40, k0_pay7]) y
  · exact value_piece (k0_pay5 x g wT) 2 1 1 (by decide) (by decide) (by decide) inb_S1x6x2x160x256_S1x1x1x64x256_0_2_1_80_0 _ (fun v s => by pointwise [k0_pay39]) y
  · exact one_piece (k0_pay5 x g wT) 2 1 0 inb_S1x6x2x160x256_S1x1x1x16x256_0_2_1_64_0 _ (fun v s => by pointwise [k0_pay38, k0_pay7]) y
  · exact value_piece (k0_pay5 x g wT) 2 1 0 (by decide) (by decide) (by decide) inb_S1x6x2x160x256_S1x1x1x64x256_0_2_1_0_0 _ (fun v s => by pointwise [k0_pay37]) y
  · exact one_piece (k0_pay5 x g wT) 2 0 1 inb_S1x6x2x160x256_S1x1x1x16x256_0_2_0_144_0 _ (fun v s => by pointwise [k0_pay34, k0_pay7]) y
  · exact value_piece (k0_pay5 x g wT) 2 0 1 (by decide) (by decide) (by decide) inb_S1x6x2x160x256_S1x1x1x64x256_0_2_0_80_0 _ (fun v s => by pointwise [k0_pay33]) y
  · exact one_piece (k0_pay5 x g wT) 2 0 0 inb_S1x6x2x160x256_S1x1x1x16x256_0_2_0_64_0 _ (fun v s => by pointwise [k0_pay32, k0_pay7]) y
  · exact value_piece (k0_pay5 x g wT) 2 0 0 (by decide) (by decide) (by decide) inb_S1x6x2x160x256_S1x1x1x64x256_0_2_0_0_0 _ (fun v s => by pointwise [k0_pay31]) y
  · exact one_piece (k0_pay5 x g wT) 1 1 1 inb_S1x6x2x160x256_S1x1x1x16x256_0_1_1_144_0 _ (fun v s => by pointwise [k0_pay29, k0_pay7]) y
  · exact value_piece (k0_pay5 x g wT) 1 1 1 (by decide) (by decide) (by decide) inb_S1x6x2x160x256_S1x1x1x64x256_0_1_1_80_0 _ (fun v s => by pointwise [k0_pay28]) y
  · exact one_piece (k0_pay5 x g wT) 1 1 0 inb_S1x6x2x160x256_S1x1x1x16x256_0_1_1_64_0 _ (fun v s => by pointwise [k0_pay27, k0_pay7]) y
  · exact value_piece (k0_pay5 x g wT) 1 1 0 (by decide) (by decide) (by decide) inb_S1x6x2x160x256_S1x1x1x64x256_0_1_1_0_0 _ (fun v s => by pointwise [k0_pay26]) y
  · exact one_piece (k0_pay5 x g wT) 1 0 1 inb_S1x6x2x160x256_S1x1x1x16x256_0_1_0_144_0 _ (fun v s => by pointwise [k0_pay24, k0_pay7]) y
  · exact value_piece (k0_pay5 x g wT) 1 0 1 (by decide) (by decide) (by decide) inb_S1x6x2x160x256_S1x1x1x64x256_0_1_0_80_0 _ (fun v s => by pointwise [k0_pay23, k0_pay22]) y
  · exact one_piece (k0_pay5 x g wT) 1 0 0 inb_S1x6x2x160x256_S1x1x1x16x256_0_1_0_64_0 _ (fun v s => by pointwise [k0_pay21, k0_pay7]) y
  · exact value_piece (k0_pay5 x g wT) 1 0 0 (by decide) (by decide) (by decide) inb_S1x6x2x160x256_S1x1x1x64x256_0_1_0_0_0 _ (fun v s => by pointwise [k0_pay20]) y
  · exact one_piece (k0_pay5 x g wT) 0 1 1 inb_S1x6x2x160x256_S1x1x1x16x256_0_0_1_144_0 _ (fun v s => by pointwise [k0_pay18, k0_pay7]) y
  · exact value_piece (k0_pay5 x g wT) 0 1 1 (by decide) (by decide) (by decide) inb_S1x6x2x160x256_S1x1x1x64x256_0_0_1_80_0 _ (fun v s => by pointwise [k0_pay17]) y
  · exact one_piece (k0_pay5 x g wT) 0 1 0 inb_S1x6x2x160x256_S1x1x1x16x256_0_0_1_64_0 _ (fun v s => by pointwise [k0_pay16, k0_pay7]) y
  · exact value_piece (k0_pay5 x g wT) 0 1 0 (by decide) (by decide) (by decide) inb_S1x6x2x160x256_S1x1x1x64x256_0_0_1_0_0 _ (fun v s => by pointwise [k0_pay15]) y
  · exact one_piece (k0_pay5 x g wT) 0 0 1 inb_S1x6x2x160x256_S1x1x1x16x256_0_0_0_144_0 _ (fun v s => by pointwise [k0_pay13, k0_pay7]) y
  · exact value_piece (k0_pay5 x g wT) 0 0 1 (by decide) (by decide) (by decide) inb_S1x6x2x160x256_S1x1x1x64x256_0_0_0_80_0 _ (fun v s => by pointwise [k0_pay12]) y
  · exact one_piece (k0_pay5 x g wT) 0 0 0 inb_S1x6x2x160x256_S1x1x1x16x256_0_0_0_64_0 _ (fun v s => by pointwise [k0_pay11, k0_pay7]) y
  · exact value_piece (k0_pay5 x g wT) 0 0 0 (by decide) (by decide) (by decide) inb_S1x6x2x160x256_S1x1x1x64x256_0_0_0_0_0 _ (fun v s => by pointwise [k0_pay10, k0_pay9]) y

end

end Cert.Kernel3Ideal.Hand

end
-- ==== Proof.Entry3.lean ====
/-
  What the host hands the first projection, at an index: the columns of the weights for the transposed results, those for
  the others, and the norm's weights.
-/
module

public import proofs.«01_k».proof.Proof.Gen.Kernel3Ideal.Frame
public import Idealize.ShloMosaic.Lib.Pointwise
public import Idealize.ShloMosaic.Lib.StableHlo.ReadAt
public import Idealize.ShloMosaic.Lib.Tactic.CleanTypes

@[expose] public section

set_option maxRecDepth 16384

noncomputable section

namespace Cert.Kernel3Ideal.Hand

open Cert.Kernel3Ideal Cert.Kernel3Ideal.Gen Idealize.ShloMosaic Idealize.ShloMosaic.TcCoe

variable (m : (ℓ : Loc nD τ sig) → Buf (Elt Ideal) ℓ) (c : Dev nD)

/-- The column of the weights a row of the transposed product takes: the queries, then past the keys the values and the memory's queries. -/
def across (i : Fin 1792) : Fin 3584 := if i.val < 768 then ⟨i.val, by omega⟩ else ⟨i.val + 768, by omega⟩

/-- The column of the weights a column of the other product takes: the keys, then the gates. -/
def along (j : Fin 1792) : Fin 3584 := if j.val < 768 then ⟨j.val + 768, by omega⟩ else ⟨j.val + 1792, by omega⟩

theorem across_at (i : Fin 1792) (k : Fin 1024) :
    (V m c main_v7 (ix2 i k) : EReal) = (show EReal from m ((c.tc : Thread nD τ).loc main_arg2) (ix2 k (across i))) := by
  unfold V across
  after_reads_at
  by_cases h : i.val < 768
  · rw [dif_pos h, if_pos h]
    after_reads_at
  · rw [dif_neg h, if_neg h]
    by_cases h' : i.val - 768 < 768
    · rw [dif_pos h']
      after_reads_at
      exact congrArg (m ((c.tc : Thread nD τ).loc main_arg2)) (congrArg (ix2 k) (Fin.ext (by show _ + (i.val - _) = i.val + 768; omega)))
    · rw [dif_neg h']
      after_reads_at
      exact congrArg (m ((c.tc : Thread nD τ).loc main_arg2)) (congrArg (ix2 k) (Fin.ext (by show _ + (i.val - _ - _) = i.val + 768; omega)))

theorem along_at (k : Fin 1024) (j : Fin 1792) :
    (V m c main_v9 (ix2 k j) : EReal) = (show EReal from m ((c.tc : Thread nD τ).loc main_arg2) (ix2 k (along j))) := by
  unfold V along
  after_reads_at
  by_cases h : j.val < 768
  · rw [dif_pos h, if_pos h]
    after_reads_at
    exact congrArg (m ((c.tc : Thread nD τ).loc main_arg2)) (congrArg (ix2 k) (Fin.ext (Nat.add_comm _ _)))
  · rw [dif_neg h, if_neg h]
    after_reads_at
    exact congrArg (m ((c.tc : Thread nD τ).loc main_arg2)) (congrArg (ix2 k) (Fin.ext (by show _ + (j.val - _) = j.val + 1792; omega)))

theorem norm_at (d : Fin 1024) :
    (V m c main_v10 (ix2 0 d) : EReal) = m ((c.tc : Thread nD τ).loc main_arg1) (ix1 d) := by
  unfold V
  after_reads_at

theorem input_at (b : Fin 2) (n : Fin 16384) (k : Fin 1024) :
    (V m c main_arg0 (ix3 b n k) : EReal) = m ((c.tc : Thread nD τ).loc main_arg0) (ix3 b n k) := by
  unfold V
  after_reads_at

end Cert.Kernel3Ideal.Hand

end
-- ==== Proof.Reference3.lean ====
/-
  The first projection's reference in stages, and its results at an index.
-/
module

public import proofs.«01_k».proof.Proof.Gen.Reference3Ideal.Run
public import proofs.«01_k».proof.Proof.Projection
public import Idealize.ShloMosaic.Lib.Pointwise
public import Idealize.ShloMosaic.Lib.Tactic.CleanTypes

@[expose] public section

set_option maxRecDepth 16384

noncomputable section

namespace Cert.Reference3Ideal.Hand

open Cert.Reference3Ideal Cert.Reference3Ideal.Gen Idealize.ShloMosaic Idealize.ShloMosaic.TcCoe

/-- The norm of the rows. -/
def normed (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The projection. -/
def projected (h : FVec Ideal S2x16384x1024 .f32) (w : FVec Ideal S1024x3584 .f32) : FVec Ideal S2x16384x3584 .f32 :=
  Host.dotGeneral dot_S2x16384x1024_S1024x3584_S2x16384x3584_2_0_01_1_n_n none h w

/-- The queries, by pair of heads and block. -/
def queries (P : FVec Ideal S2x16384x3584 .f32) : FVec Ideal S2x6x64x128x256 .bf16 :=
  truncf .bf16 (transpose S2x6x64x128x256 [0, 3, 1, 4, 2] (shapeCast S2x64x256x6x128 (extractStridedSlice S2x16384x768 ![0, 0, 0] P slices_S2x16384x3584_S2x16384x768_0_0_0) shapeCasts_S2x16384x768_S2x64x256x6x128) transposes_S2x64x256x6x128_S2x6x64x128x256_0_3_1_4_2) bitsLt_bf16_f32

/-- The keys. -/
def keys (P : FVec Ideal S2x16384x3584 .f32) : FVec Ideal S2x16384x768 .bf16 :=
  truncf .bf16 (extractStridedSlice S2x16384x768 ![0, 0, 768] P slices_S2x16384x3584_S2x16384x768_0_0_768) bitsLt_bf16_f32

/-- The values' heads over rows of ones. -/
def stacked (P : FVec Ideal S2x16384x3584 .f32) : FVec Ideal S2x6x64x2x80x256 .f32 :=
  concatenate S2x6x64x2x80x256 4 [⟨S2x6x64x2x64x256, transpose S2x6x64x2x64x256 [0, 3, 1, 4, 5, 2] (shapeCast S2x64x256x6x2x64 (extractStridedSlice S2x16384x768 ![0, 0, 1536] P slices_S2x16384x3584_S2x16384x768_0_0_1536) shapeCasts_S2x16384x768_S2x64x256x6x2x64) transposes_S2x64x256x6x2x64_S2x6x64x2x64x256_0_3_1_4_5_2⟩,
    ⟨S2x6x64x2x16x256, broadcastInDim S2x6x64x2x16x256 ![] bcast_S_S2x6x64x2x16x256 (constant (F := Ideal) S_ .f32 0x3F800000#32)⟩] concatenates_S2x6x64x2x64x256_S2x6x64x2x16x256_S2x6x64x2x80x256_d4

/-- The values, by pair of heads and block. -/
def values (U : FVec Ideal S2x6x64x2x80x256 .f32) : FVec Ideal S2x6x64x160x256 .bf16 :=
  truncf .bf16 (shapeCast S2x6x64x160x256 U shapeCasts_S2x6x64x2x80x256_S2x6x64x160x256 : FVec Ideal S2x6x64x160x256 .f32) bitsLt_bf16_f32

/-- The memory's queries. -/
def questions (P : FVec Ideal S2x16384x3584 .f32) : FVec Ideal S2x256x16384 .bf16 :=
  truncf .bf16 (transpose S2x256x16384 [0, 2, 1] (extractStridedSlice S2x16384x256 ![0, 0, 2304] P slices_S2x16384x3584_S2x16384x256_0_0_2304) transposes_S2x16384x256_S2x256x16384_0_2_1) bitsLt_bf16_f32

/-- The gates. -/
def gates (P : FVec Ideal S2x16384x3584 .f32) : FVec Ideal S2x16384x1024 .bf16 :=
  truncf .bf16 (extractStridedSlice S2x16384x1024 ![0, 0, 2560] P slices_S2x16384x3584_S2x16384x1024_0_0_2560) bitsLt_bf16_f32

section

variable (m : (ℓ : Loc nD τ sig) → Buf (Elt Ideal) ℓ) (c : Dev nD)

/-- The projection of the arguments. -/
abbrev product : FVec Ideal S2x16384x3584 .f32 :=
  projected (normed (m ((c.tc : Thread nD τ).loc main_arg0)) (m ((c.tc : Thread nD τ).loc main_arg1))) (m ((c.tc : Thread nD τ).loc main_arg2))

end

theorem normed_apply (x : FVec Ideal S2x16384x1024 .f32) (g : FVec Ideal S1024 .f32) (b : Fin 2) (n : Fin 16384) (d : Fin 1024) :
    normed x g (ix3 b n d) = Layer.rms (fun k => x (ix3 b n k)) (fun k => g (ix1 k)) d := by
  pointwise [normed]
  rfl

theorem projected_apply (x : FVec Ideal S2x16384x1024 .f32) (g : FVec Ideal S1024 .f32) (w : FVec Ideal S1024x3584 .f32) (b : Fin 2) (n : Fin 16384) (j : Fin 3584) :
    projected (normed x g) w (ix3 b n j) = Layer.project (fun k => x (ix3 b n k)) (fun k => g (ix1 k)) (fun k => w (ix2 k j)) := by
  have h : projected (normed x g) w (ix3 b n j) = ∑ k : Fin 1024, (show EReal from normed x g (ix3 b n k)) * w (ix2 k j) := by
    pointwise [projected]
  rw [h]
  simp only [normed_apply]
  rfl

theorem queries_apply (P : FVec Ideal S2x16384x3584 .f32) (b : Fin 2) (p : Fin 6) (i : Fin 64) (l : Fin 128) (s : Fin 256) :
    queries P (ix5 b p i l s) = (show EReal from P (ix3 b ⟨i.val * 256 + s.val, by omega⟩ ⟨p.val * 128 + l.val, by omega⟩)) := by
  pointwise [queries]

theorem keys_apply (P : FVec Ideal S2x16384x3584 .f32) (b : Fin 2) (n : Fin 16384) (d : Fin 768) :
    keys P (ix3 b n d) = (show EReal from P (ix3 b n ⟨768 + d.val, by omega⟩)) := by
  pointwise [keys]

theorem stacked_apply (P : FVec Ideal S2x16384x3584 .f32) (b : Fin 2) (p : Fin 6) (i : Fin 64) (h : Fin 2) (v : Fin 80) (s : Fin 256) :
    stacked P (ix6 b p i h v s) = if v.val < 64 then (show EReal from P (ix3 b ⟨i.val * 256 + s.val, by omega⟩ ⟨1536 + (p.val * 128 + h.val * 64 + v.val), by omega⟩)) else 1 := by
  pointwise [stacked]
  rfl

theorem values_apply (U : FVec Ideal S2x6x64x2x80x256 .f32) (b : Fin 2) (p : Fin 6) (i : Fin 64) (v : Fin 160) (s : Fin 256) :
    values U (ix5 b p i v s) = (show EReal from U (ix6 b p i ⟨v.val / 80, by omega⟩ ⟨v.val % 80, by omega⟩ s)) := by
  pointwise [values]

theorem questions_apply (P : FVec Ideal S2x16384x3584 .f32) (b : Fin 2) (j : Fin 256) (n : Fin 16384) :
    questions P (ix3 b j n) = (show EReal from P (ix3 b n ⟨2304 + j.val, by omega⟩)) := by
  pointwise [questions]

theorem gates_apply (P : FVec Ideal S2x16384x3584 .f32) (b : Fin 2) (n : Fin 16384) (d : Fin 1024) :
    gates P (ix3 b n d) = (show EReal from P (ix3 b n ⟨2560 + d.val, by omega⟩)) := by
  pointwise [gates]

end Cert.Reference3Ideal.Hand

end
-- ==== Proof.Equation3.lean ====
/-
  The first projection's tiles are the reference's results at their places.
-/
module

public import proofs.«01_k».proof.Proof.Block3
public import proofs.«01_k».proof.Proof.Entry3
public import proofs.«01_k».proof.Proof.Reference3
public import Idealize.ShloMosaic.Lib.Pipeline.ValueKit
public import Idealize.ShloMosaic.Lib.Pipeline.Covers

@[expose] public section

set_option maxRecDepth 16384

noncomputable section

namespace Cert.Kernel3Ideal.Hand

open Cert.Kernel3Ideal Cert.Kernel3Ideal.Gen Idealize.ShloMosaic Idealize.ShloMosaic.TcCoe
open Cert.Reference3Ideal.Hand (normed projected queries keys stacked values questions gates projected_apply queries_apply keys_apply stacked_apply values_apply questions_apply gates_apply)

theorem idx : ∀ t, win0_0.index t = ![(grid0.coords t 0).val, (grid0.coords t 1).val, 0]
    ∧ win0_1.index t = ![0, 0]
    ∧ win0_2.index t = ![0, 0]
    ∧ win0_3.index t = ![0, 0]
    ∧ win0_4.index t = ![(grid0.coords t 0).val, 0, (grid0.coords t 1).val, 0, 0]
    ∧ win0_5.index t = ![(grid0.coords t 0).val, (grid0.coords t 1).val, 0]
    ∧ win0_7.index t = ![(grid0.coords t 0).val, 0, (grid0.coords t 1).val, 0, 0]
    ∧ win0_9.index t = ![(grid0.coords t 0).val, 0, (grid0.coords t 1).val]
    ∧ win0_10.index t = ![(grid0.coords t 0).val, (grid0.coords t 1).val, 0] := by
  decide +kernel

variable (m : (ℓ : Loc nD τ sig) → Buf (Elt Ideal) ℓ) (c : Dev nD) (t : Fin cfg0.N)

/-- The batch of a grid point, and the place in the sequence of a row of its tile. -/
def batch : Fin 2 := ⟨(grid0.coords t 0).val, (grid0.coords t 0).isLt⟩
def tile : Fin 32 := ⟨(grid0.coords t 1).val, (grid0.coords t 1).isLt⟩
def place (r : Fin 512) : Fin 16384 := ⟨512 * (tile t).val + r.val, by omega⟩

/-- The block of the sequence a half of the tile is. -/
def half (b : Fin 2) : Fin 64 := ⟨2 * (tile t).val + b.val, by omega⟩

/-- The arguments. -/
abbrev argX : FVec Ideal S2x16384x1024 .f32 := m ((c.tc : Thread nD τ).loc main_arg0)
abbrev argG : FVec Ideal S1024 .f32 := m ((c.tc : Thread nD τ).loc main_arg1)
abbrev argW : FVec Ideal S1024x3584 .f32 := m ((c.tc : Thread nD τ).loc main_arg2)

/-- The reference's projection of the arguments. -/
abbrev product : FVec Ideal Cert.Reference3Ideal.S2x16384x3584 .f32 := projected (normed (argX m c) (argG m c)) (argW m c)

theorem iblk0 (r : Fin 512) (k : Fin 1024) : (show EReal from iblk m c 0 t (ix3 0 r k)) = argX m c (ix3 (batch t) (place t r) k) := by
  refine Eq.trans ?_ (input_at m c (batch t) (place t r) k)
  unfold place batch tile
  blk_ext [iblk, idx t]

theorem iblk1 (d : Fin 1024) : (show EReal from iblk m c 1 t (ix2 0 d)) = argG m c (ix1 d) := by
  refine Eq.trans ?_ (norm_at m c d)
  blk_ext [iblk, idx t]

theorem iblk2 (i : Fin 1792) (k : Fin 1024) : (show EReal from iblk m c 2 t (ix2 i k)) = argW m c (ix2 k (across i)) := by
  refine Eq.trans ?_ (across_at m c i k)
  blk_ext [iblk, idx t]

theorem iblk3 (k : Fin 1024) (j : Fin 1792) : (show EReal from iblk m c 3 t (ix2 k j)) = argW m c (ix2 k (along j)) := by
  refine Eq.trans ?_ (along_at m c k j)
  blk_ext [iblk, idx t]

theorem across_eq (i : Fin 1792) (r : Fin 512) :
    Layer.project (fun k => iblk m c 0 t (ix3 0 r k)) (fun k => iblk m c 1 t (ix2 0 k)) (fun k => iblk m c 2 t (ix2 i k))
      = product m c (ix3 (batch t) (place t r) (across i)) := by
  have h0 : (fun k => iblk m c 0 t (ix3 0 r k) : Fin 1024 → EReal) = fun k => argX m c (ix3 (batch t) (place t r) k) := funext fun k => iblk0 m c t r k
  have h1 : (fun k => iblk m c 1 t (ix2 0 k) : Fin 1024 → EReal) = fun k => argG m c (ix1 k) := funext fun k => iblk1 m c t k
  have h2 : (fun k => iblk m c 2 t (ix2 i k) : Fin 1024 → EReal) = fun k => argW m c (ix2 k (across i)) := funext fun k => iblk2 m c t i k
  rw [h0, h1, h2]
  exact (projected_apply _ _ _ _ _ _).symm

theorem along_eq (r : Fin 512) (j : Fin 1792) :
    Layer.project (fun k => iblk m c 0 t (ix3 0 r k)) (fun k => iblk m c 1 t (ix2 0 k)) (fun k => iblk m c 3 t (ix2 k j))
      = product m c (ix3 (batch t) (place t r) (along j)) := by
  have h0 : (fun k => iblk m c 0 t (ix3 0 r k) : Fin 1024 → EReal) = fun k => argX m c (ix3 (batch t) (place t r) k) := funext fun k => iblk0 m c t r k
  have h1 : (fun k => iblk m c 1 t (ix2 0 k) : Fin 1024 → EReal) = fun k => argG m c (ix1 k) := funext fun k => iblk1 m c t k
  have h2 : (fun k => iblk m c 3 t (ix2 k j) : Fin 1024 → EReal) = fun k => argW m c (ix2 k (along j)) := funext fun k => iblk3 m c t k j
  rw [h0, h1, h2]
  exact (projected_apply _ _ _ _ _ _).symm

theorem entry_product (i : Fin 1792) (r : Fin 512) :
    entry (k0_pay5 (iblk m c 0 t) (iblk m c 1 t) (iblk m c 2 t)) i.val r.val = product m c (ix3 (batch t) (place t r) (across i)) :=
  (entry_eq _ i r).trans ((pay5_at _ _ _ i r).trans (across_eq m c t i r))

theorem queries_tile (p : Fin 6) (b : Fin 2) (l : Fin 128) (s : Fin 256) :
    (show EReal from (dats m 0 c).after 4 t (ix5 0 p b l s)) = queries (product m c) (ix5 (batch t) p (half t b) l s) := by
  refine (congrFun (after0_4 m c t) (ix5 0 p b l s)).trans ?_
  unfold outsAt0
  dsimp only
  refine (queries_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) p b l s).trans ?_
  refine (entry_product m c t ⟨128 * p.val + l.val, by omega⟩ ⟨256 * b.val + s.val, by omega⟩).trans ((?_ : _ = _).trans (queries_apply _ _ _ _ _ _).symm)
  refine congrArg (product m c) (congrArg₂ (ix3 (batch t)) (Fin.ext ?_) ?_)
  · show 512 * (tile t).val + (256 * b.val + s.val) = (2 * (tile t).val + b.val) * 256 + s.val
    omega
  · unfold across
    rw [if_pos (show 128 * p.val + l.val < 768 by omega)]
    exact Fin.ext (show 128 * p.val + l.val = p.val * 128 + l.val by omega)

theorem values_tile (p : Fin 6) (b : Fin 2) (v : Fin 160) (s : Fin 256) :
    (show EReal from (dats m 0 c).after 7 t (ix5 0 p b v s)) = values (stacked (product m c)) (ix5 (batch t) p (half t b) v s) := by
  refine (congrFun (after0_7 m c t) (ix5 0 p b v s)).trans ?_
  unfold outsAt0
  dsimp only
  refine (values_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) p b v s).trans ?_
  refine Eq.trans ?_ ((values_apply _ _ _ _ _ _).trans (stacked_apply _ _ _ _ _ _ _)).symm
  show (if v.val % 80 < 64 then entry _ (768 + 128 * p.val + 64 * (v.val / 80) + v.val % 80) (256 * b.val + s.val) else (1 : EReal)) = if v.val % 80 < 64 then _ else 1
  split
  next h =>
    refine (entry_product m c t ⟨768 + 128 * p.val + 64 * (v.val / 80) + v.val % 80, by omega⟩ ⟨256 * b.val + s.val, by omega⟩).trans ?_
    refine congrArg (product m c) (congrArg₂ (ix3 (batch t)) (Fin.ext ?_) ?_)
    · show 512 * (tile t).val + (256 * b.val + s.val) = (2 * (tile t).val + b.val) * 256 + s.val
      omega
    · unfold across
      rw [if_neg (show ¬768 + 128 * p.val + 64 * (v.val / 80) + v.val % 80 < 768 by omega)]
      exact Fin.ext (show 768 + 128 * p.val + 64 * (v.val / 80) + v.val % 80 + 768 = 1536 + (p.val * 128 + v.val / 80 * 64 + v.val % 80) by omega)
  next => rfl

theorem keys_tile (r : Fin 512) (d : Fin 768) :
    (show EReal from (dats m 0 c).after 5 t (ix3 0 r d)) = keys (product m c) (ix3 (batch t) (place t r) d) := by
  refine (congrFun (after0_5 m c t) (ix3 0 r d)).trans ?_
  unfold outsAt0
  dsimp only
  refine (keys_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) r d).trans ?_
  refine (along_eq m c t r ⟨d.val, by omega⟩).trans (Eq.trans ?_ (keys_apply _ _ _ _).symm)
  refine congrArg (product m c) (congrArg (ix3 (batch t) (place t r)) ?_)
  unfold along
  rw [if_pos (show d.val < 768 from d.isLt)]
  exact Fin.ext (show d.val + 768 = 768 + d.val by omega)

theorem questions_tile (j : Fin 256) (r : Fin 512) :
    (show EReal from (dats m 0 c).after 9 t (ix3 0 j r)) = questions (product m c) (ix3 (batch t) j (place t r)) := by
  refine (congrFun (after0_9 m c t) (ix3 0 j r)).trans ?_
  unfold outsAt0
  dsimp only
  refine (questions_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) j r).trans ?_
  refine (across_eq m c t ⟨1536 + j.val, by omega⟩ r).trans (Eq.trans ?_ (questions_apply _ _ _ _).symm)
  refine congrArg (product m c) (congrArg (ix3 (batch t) (place t r)) ?_)
  unfold across
  rw [if_neg (show ¬1536 + j.val < 768 by omega)]
  exact Fin.ext (show 1536 + j.val + 768 = 2304 + j.val by omega)

theorem gates_tile (r : Fin 512) (d : Fin 1024) :
    (show EReal from (dats m 0 c).after 10 t (ix3 0 r d)) = gates (product m c) (ix3 (batch t) (place t r) d) := by
  refine (congrFun (after0_10 m c t) (ix3 0 r d)).trans ?_
  unfold outsAt0
  dsimp only
  refine (gates_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) r d).trans ?_
  refine (along_eq m c t r ⟨768 + d.val, by omega⟩).trans (Eq.trans ?_ (gates_apply _ _ _ _).symm)
  refine congrArg (product m c) (congrArg (ix3 (batch t) (place t r)) ?_)
  unfold along
  rw [if_neg (show ¬768 + d.val < 768 by omega)]
  exact Fin.ext (show 768 + d.val + 1792 = 2560 + d.val by omega)

end Cert.Kernel3Ideal.Hand

end
-- ==== Proof.Result3.lean ====
/-
  The first projection's arrays are the reference's results.
-/
module

public import proofs.«01_k».proof.Proof.Equation3

@[expose] public section

set_option maxRecDepth 16384

noncomputable section

namespace Cert.Kernel3Ideal.Hand

open Cert.Kernel3Ideal Cert.Kernel3Ideal.Gen Idealize.ShloMosaic Idealize.ShloMosaic.TcCoe
open Cert.Reference3Ideal.Hand (queries keys stacked values questions gates)

theorem emb4 (t : Fin cfg0.N) (p : Fin 6) (b : Fin 2) (l : Fin 128) (s : Fin 256) :
    ((cfg0.win 4).blk t).view.emb (ix5 0 p b l s) = (ix5 (batch t) p (half t b) l s : S2x6x64x128x256.Idx) := by
  unfold half batch tile
  blk_ext [idx t]

theorem emb5 (t : Fin cfg0.N) (r : Fin 512) (d : Fin 768) : ((cfg0.win 5).blk t).view.emb (ix3 0 r d) = (ix3 (batch t) (place t r) d : S2x16384x768.Idx) := by
  unfold place batch tile
  blk_ext [idx t]

theorem emb7 (t : Fin cfg0.N) (p : Fin 6) (b : Fin 2) (v : Fin 160) (s : Fin 256) :
    ((cfg0.win 7).blk t).view.emb (ix5 0 p b v s) = (ix5 (batch t) p (half t b) v s : S2x6x64x160x256.Idx) := by
  unfold half batch tile
  blk_ext [idx t]

theorem emb9 (t : Fin cfg0.N) (j : Fin 256) (r : Fin 512) : ((cfg0.win 9).blk t).view.emb (ix3 0 j r) = (ix3 (batch t) j (place t r) : S2x256x16384.Idx) := by
  unfold place batch tile
  blk_ext [idx t]

theorem emb10 (t : Fin cfg0.N) (r : Fin 512) (d : Fin 1024) : ((cfg0.win 10).blk t).view.emb (ix3 0 r d) = (ix3 (batch t) (place t r) d : S2x16384x1024.Idx) := by
  unfold place batch tile
  blk_ext [idx t]

variable (m : (ℓ : Loc nD τ sig) → Buf (Elt Ideal) ℓ) (c : Dev nD)

theorem queries_array : (dats m 0 c).arrAt 4 cfg0.N = queries (product m c) := by
  refine (dats m 0 c).arrAt_eq_of_covers 4 _ (by decide +kernel) fun t hf y => ?_
  obtain ⟨p, b, l, s, rfl⟩ : ∃ (p : Fin 6) (b : Fin 2) (l : Fin 128) (s : Fin 256), y = ix5 0 p b l s := ⟨y 1, y 2, y 3, y 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩
  exact (queries_tile m c t p b l s).trans (congrArg (queries (product m c)) (emb4 t p b l s).symm)

theorem values_array : (dats m 0 c).arrAt 7 cfg0.N = values (stacked (product m c)) := by
  refine (dats m 0 c).arrAt_eq_of_covers 7 _ (by decide +kernel) fun t hf y => ?_
  obtain ⟨p, b, l, s, rfl⟩ : ∃ (p : Fin 6) (b : Fin 2) (l : Fin 160) (s : Fin 256), y = ix5 0 p b l s := ⟨y 1, y 2, y 3, y 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩
  exact (values_tile m c t p b l s).trans (congrArg (values (stacked (product m c))) (emb7 t p b l s).symm)

theorem keys_array : (dats m 0 c).arrAt 5 cfg0.N = keys (product m c) := by
  refine (dats m 0 c).arrAt_eq_of_covers 5 _ (by decide +kernel) fun t hf y => ?_
  obtain ⟨r, d, rfl⟩ : ∃ (r : Fin 512) (d : Fin 768), y = ix3 0 r d := ⟨y 1, y 2, by
    funext a
    match a with
    | ⟨0, _⟩ => exact Subsingleton.elim (α := Fin 1) _ _
    | ⟨1, _⟩ => rfl
    | ⟨2, _⟩ => rfl⟩
  exact (keys_tile m c t r d).trans (congrArg (keys (product m c)) (emb5 t r d).symm)

theorem questions_array : (dats m 0 c).arrAt 9 cfg0.N = questions (product m c) := by
  refine (dats m 0 c).arrAt_eq_of_covers 9 _ (by decide +kernel) fun t hf y => ?_
  obtain ⟨r, d, rfl⟩ : ∃ (r : Fin 256) (d : Fin 512), y = ix3 0 r d := ⟨y 1, y 2, by
    funext a
    match a with
    | ⟨0, _⟩ => exact Subsingleton.elim (α := Fin 1) _ _
    | ⟨1, _⟩ => rfl
    | ⟨2, _⟩ => rfl⟩
  exact (questions_tile m c t r d).trans (congrArg (questions (product m c)) (emb9 t r d).symm)

theorem gates_array : (dats m 0 c).arrAt 10 cfg0.N = gates (product m c) := by
  refine (dats m 0 c).arrAt_eq_of_covers 10 _ (by decide +kernel) fun t hf y => ?_
  obtain ⟨r, d, rfl⟩ : ∃ (r : Fin 512) (d : Fin 1024), y = ix3 0 r d := ⟨y 1, y 2, by
    funext a
    match a with
    | ⟨0, _⟩ => exact Subsingleton.elim (α := Fin 1) _ _
    | ⟨1, _⟩ => rfl
    | ⟨2, _⟩ => rfl⟩
  exact (gates_tile m c t r d).trans (congrArg (gates (product m c)) (emb10 t r d).symm)

end Cert.Kernel3Ideal.Hand

end
-- ==== Proof.Frames3.lean ====
/-
  The claims of the first projection.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Result3

@[expose] public section

set_option maxRecDepth 16384

noncomputable section

namespace Cert.Proof.Third

open Idealize.ShloMosaic Idealize.ShloMosaic.TcCoe

local instance : Cert.Kernel3.Facts := Cert.Kernel3.Gen.facts
local instance : Cert.Kernel3Ideal.Facts := Cert.Kernel3Ideal.Gen.facts
local instance : Cert.Reference3Ideal.Facts := Cert.Reference3Ideal.Gen.facts

theorem kernel_frame3 : Cert.quiescent_Kernel3 := fun m g _ => Cert.Kernel3.Gen.frame m g

theorem ideal_frame3 : Cert.quiescent_Kernel3Ideal := fun m g _ => Cert.Kernel3Ideal.Gen.frame m g

theorem reference_frame3 : Cert.quiescent_Reference3Ideal := fun m g _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m g)

section
open Cert.Kernel3Ideal.Hand (product queries_array keys_array values_array questions_array gates_array)
open Cert.Reference3Ideal.Hand (queries keys stacked values questions gates)

theorem value3 : Cert.algebraic_Kernel3Ideal_Reference3Ideal := by
  intro m ρ m' ρ' hpre hagree
  refine ⟨fun c => queries (product m c), fun c => keys (product m c), fun c => values (stacked (product m c)), fun c => questions (product m c), fun c => gates (product m c), ?_, ?_⟩
  · refine (θ_run _ _ _).mono (fun r h c => ?_) (Cert.Kernel3Ideal.Value.run_blocks (F := Ideal) m ρ)
    obtain ⟨h4, h5, h6, h7, h8, h9, h10, hk⟩ := h c
    exact ⟨h4.trans (queries_array m c), h5.trans (keys_array m c), h7.trans (values_array m c), h9.trans (questions_array m c), h10.trans (gates_array m c), hk⟩
  · refine (θ_run _ _ _).mono (fun r h c => ?_) (Cert.Reference3Ideal.Value.run (F := Ideal) m' ρ')
    obtain ⟨e0, e1, e2⟩ := hagree c
    have e : Cert.Reference3Ideal.Hand.product m' c = product m c := by
      unfold Cert.Reference3Ideal.Hand.product
      rw [e0, e1, e2]
    obtain ⟨h26, h27, h28, h30, h31, hk⟩ := h c
    exact ⟨h26.trans (congrArg queries e), h27.trans (congrArg keys e), h28.trans (congrArg (fun P => values (stacked P)) e), h30.trans (congrArg questions e), h31.trans (congrArg gates e), hk⟩

end

end Cert.Proof.Third

end
-- ==== Proof.Block4.lean ====
/-
  The values of a middle layer's end at an index: the memory's scores, a head's average, the gated product, the norm and the
  next layer's projection.
-/
module

public import proofs.«01_k».proof.Proof.Gen.Kernel4Ideal.Skeleton
public import proofs.«01_k».proof.Proof.Projection
public import Idealize.ShloMosaic.Lib.Pointwise
public import Idealize.ShloMosaic.Lib.Tactic.CleanTypes

@[expose] public section

set_option maxRecDepth 16384

noncomputable section

namespace Cert.Kernel4Ideal.Hand

open Cert.Kernel4Ideal Cert.Kernel4Ideal.Gen Idealize.ShloMosaic Idealize.ShloMosaic.TcCoe

theorem ofBits_neg_inf : Ideal.ofBits .f32 4286578688#32 = ⊥ := by
  simp [Ideal.ofBits, Ideal.ieee]

/-- A head's quotient: rows 0 to 63 of the padded values' product over row 64. -/
def quotient (S : Fin 256 → EReal) (V U : Fin 256 → EReal) : EReal :=
  (∑ l, V l * Ideal.exp2 (S l - Finset.univ.fold max ⊥ S)) * Ideal.div 1 (∑ l, U l * Ideal.exp2 (S l - Finset.univ.fold max ⊥ S))

/-- The score of a memory key against a query of the tile. -/
def score (q : Vec Ideal S1x256x512 .bf16) (k : Vec Ideal S1x1x256x256 .bf16) (r : Fin 512) (l : Fin 256) : EReal :=
  ∑ c : Fin 256, (show EReal from k (ix4 0 0 l c)) * (show EReal from q (ix3 0 c r))

theorem pay6_at (q : Vec Ideal S1x256x512 .bf16) (k : Vec Ideal S1x1x256x256 .bf16) (l : Fin 256) (r : Fin 512) :
    k0_pay6 q k (ix2 l r) = score q k r l := by
  pointwise [k0_pay6, k0_pay5]
  rfl

theorem pay9_at (q : Vec Ideal S1x256x512 .bf16) (k : Vec Ideal S1x1x256x256 .bf16) (v : Vec Ideal S1x80x256 .bf16) (d : Fin 64) (r : Fin 512) :
    k0_pay9 q k v (ix2 d r) = quotient (score q k r) (fun l => v (ix3 0 ⟨d.val, by omega⟩ l)) (fun l => v (ix3 0 ⟨64, by omega⟩ l)) := by
  pointwise [k0_pay9, k0_pay5]
  simp only [ofBits_neg_inf]
  rfl

theorem pay10_at (s : FVec Ideal S256x512 .f32) (v : Vec Ideal S1x80x256 .bf16) (d : Fin 64) (r : Fin 512) :
    k0_pay10 s v (ix2 d r) = quotient (fun l => s (ix2 l r)) (fun l => v (ix3 0 ⟨d.val, by omega⟩ l)) (fun l => v (ix3 0 ⟨64, by omega⟩ l)) := by
  pointwise [k0_pay10]
  simp only [ofBits_neg_inf]
  rfl

theorem pay11_at (s : FVec Ideal S256x512 .f32) (v : Vec Ideal S1x80x256 .bf16) (d : Fin 64) (r : Fin 512) :
    k0_pay11 s v (ix2 d r) = quotient (fun l => s (ix2 l r)) (fun l => v (ix3 0 ⟨d.val, by omega⟩ l)) (fun l => v (ix3 0 ⟨64, by omega⟩ l)) := by
  pointwise [k0_pay11]
  simp only [ofBits_neg_inf]
  rfl

theorem pay12_at (s : FVec Ideal S256x512 .f32) (v : Vec Ideal S1x80x256 .bf16) (d : Fin 80) (r : Fin 512) :
    k0_pay12 s v (ix2 d r) = ∑ l : Fin 256, (show EReal from v (ix3 0 d l)) * Ideal.exp2 (s (ix2 l r) - Finset.univ.fold max ⊥ (fun l => (show EReal from s (ix2 l r)))) := by
  pointwise [k0_pay12]
  simp only [ofBits_neg_inf]
  rfl

/-- The attention's columns beside the memory's. -/
def beside (v28 v43 v58 v68 : FVec Ideal S64x512 .f32) (v69 v70 : FVec Ideal S1x512 .f32) (v76 : Vec Ideal S1x512x768 .bf16) : FVec Ideal S512x1024 .f32 :=
  concatenate S512x1024 1 [⟨S512x768, extf .f32 (shapeCast S512x768 v76 shapeCasts_S1x512x768_S512x768 : FVec Ideal S512x768 .bf16) bitsLt_bf16_f32⟩,
    ⟨S512x256, transpose S512x256 [1, 0] (concatenate S256x512 0 [⟨S64x512, v28⟩, ⟨S64x512, v43⟩, ⟨S64x512, v58⟩,
      ⟨S64x512, mulf v68 (broadcastTo S64x512 (divf v70 v69) broadcasts_S1x512_S64x512)⟩] concatenates_S64x512_S64x512_S64x512_S64x512_S256x512_d0) transposes_S256x512_p1_0_S512x256⟩]
    concatenates_S512x768_S512x256_S512x1024_d1

/-- The gated product added to the layer's input. -/
def gated (v79 : FVec Ideal S512x1024 .f32) (v80 : Vec Ideal S1x512x1024 .bf16) (v91 : Vec Ideal S1x512x1024 .f32) (v93 : Vec Ideal S1024x1024 .bf16) : FVec Ideal S512x1024 .f32 :=
  have v82 : FVec Ideal S512x1024 .f32 := extf .f32 (shapeCast S512x1024 v80 shapeCasts_S1x512x1024_S512x1024 : FVec Ideal S512x1024 .bf16) bitsLt_bf16_f32
  addf (shapeCast S512x1024 v91 shapeCasts_S1x512x1024_S512x1024) (matmul dot_S512x1024_S1024x1024_S512x1024_1_0_0_1_n_n none
    (truncf .bf16 (mulf v79 (divf v82 (addf (broadcast S512x1024 (Scalar.ofBits .f32 0x3F800000#32)) (exp (subf (broadcast S512x1024 (Scalar.ofBits .f32 0x00000000#32)) v82))))) bitsLt_bf16_f32)
    (shapeCast S1024x1024 v93 shapeCasts_S1024x1024_S1024x1024 : FVec Ideal S1024x1024 .bf16) (constant S512x1024 .f32 0x00000000#32))

/-- The mean of a row's squares. -/
def meanSquare (v : FVec Ideal S512x1024 .f32) : FVec Ideal S512x1 .f32 :=
  divf (shapeCast S512x1 (multiReduction .add [1] S512 (mulf v v) 0x00000000#32 reduces_S512x1024_S512 (.inl rfl) rfl) shapeCasts_S512_S512x1) (broadcast S512x1 (Scalar.ofBits .f32 0x44800000#32))

theorem pay16_eq (v28 v43 v58 v68 : FVec Ideal S64x512 .f32) (v69 v70 : FVec Ideal S1x512 .f32) (v76 : Vec Ideal S1x512x768 .bf16)
    (v80 : Vec Ideal S1x512x1024 .bf16) (v91 : Vec Ideal S1x512x1024 .f32) (v93 : Vec Ideal S1024x1024 .bf16) :
    k0_pay16 v28 v43 v58 v68 v69 v70 v76 v80 v91 v93 = gated (beside v28 v43 v58 v68 v69 v70 v76) v80 v91 v93 := rfl

theorem pay19_eq (v28 v43 v58 v68 : FVec Ideal S64x512 .f32) (v69 v70 : FVec Ideal S1x512 .f32) (v76 : Vec Ideal S1x512x768 .bf16)
    (v80 : Vec Ideal S1x512x1024 .bf16) (v91 : Vec Ideal S1x512x1024 .f32) (v93 : Vec Ideal S1024x1024 .bf16) :
    k0_pay19 v28 v43 v58 v68 v69 v70 v76 v80 v91 v93 = meanSquare (k0_pay16 v28 v43 v58 v68 v69 v70 v76 v80 v91 v93) := rfl

theorem pay21_at (v : FVec Ideal S512x1024 .f32) (g : Vec Ideal S1x1024 .f32) (r : Fin 512) (d : Fin 1024) :
    (show EReal from k0_pay21 v (k0_pay18 g) (meanSquare v) (k0_pay20 (F := Ideal)) (ix2 r d)) = Layer.rms (fun k => v (ix2 r k)) (fun k => g (ix2 0 k)) d := by
  pointwise [k0_pay21, k0_pay18, k0_pay20, meanSquare]
  rfl

theorem pay22_at (v : FVec Ideal S512x1024 .f32) (g : Vec Ideal S1x1024 .f32) (w : Vec Ideal S1152x1024 .bf16) (i : Fin 1152) (r : Fin 512) :
    (show EReal from k0_pay22 v (k0_pay18 g) (meanSquare v) (k0_pay20 (F := Ideal)) w (ix2 i r)) = Layer.project (fun k => v (ix2 r k)) (fun k => g (ix2 0 k)) (fun k => w (ix2 i k)) := by
  have h : (show EReal from k0_pay22 v (k0_pay18 g) (meanSquare v) (k0_pay20 (F := Ideal)) w (ix2 i r))
      = ∑ k : Fin 1024, (show EReal from w (ix2 i k)) * (show EReal from k0_pay21 v (k0_pay18 g) (meanSquare v) (k0_pay20 (F := Ideal)) (ix2 r k)) := by
    pointwise [k0_pay22]
  rw [h]
  exact Finset.sum_congr rfl fun k _ => by rw [pay21_at, mul_comm]

theorem pay23_at (v : FVec Ideal S512x1024 .f32) (g : Vec Ideal S1x1024 .f32) (w : Vec Ideal S1024x1152 .bf16) (r : Fin 512) (j : Fin 1152) :
    (show EReal from k0_pay23 v (k0_pay18 g) (meanSquare v) (k0_pay20 (F := Ideal)) w (ix2 r j)) = Layer.project (fun k => v (ix2 r k)) (fun k => g (ix2 0 k)) (fun k => w (ix2 k j)) := by
  have h : (show EReal from k0_pay23 v (k0_pay18 g) (meanSquare v) (k0_pay20 (F := Ideal)) w (ix2 r j))
      = ∑ k : Fin 1024, (show EReal from k0_pay21 v (k0_pay18 g) (meanSquare v) (k0_pay20 (F := Ideal)) (ix2 r k)) * (show EReal from w (ix2 k j)) := by
    pointwise [k0_pay23]
  rw [h]
  exact Finset.sum_congr rfl fun k _ => by rw [pay21_at]

theorem gated_at (y : FVec Ideal S512x1024 .f32) (z : Vec Ideal S1x512x1024 .bf16) (x : Vec Ideal S1x512x1024 .f32) (w : Vec Ideal S1024x1024 .bf16) (r : Fin 512) (d : Fin 1024) :
    gated y z x w (ix2 r d) = Layer.output (fun k => y (ix2 r k)) (fun k => z (ix3 0 r k)) (fun k => x (ix3 0 r k)) (fun k d => w (ix2 k d)) d := by
  pointwise [gated]
  simp only [zero_sub]
  rfl

theorem beside_at (v28 v43 v58 v68 : FVec Ideal S64x512 .f32) (v69 v70 : FVec Ideal S1x512 .f32) (y : Vec Ideal S1x512x768 .bf16) (r : Fin 512) (k : Fin 1024) :
    beside v28 v43 v58 v68 v69 v70 y (ix2 r k) = if h : k.val < 768 then (show EReal from y (ix3 0 r ⟨k.val, h⟩)) else
      if h1 : k.val - 768 < 64 then v28 (ix2 ⟨k.val - 768, h1⟩ r) else
      if h2 : k.val - 768 - 64 < 64 then v43 (ix2 ⟨k.val - 768 - 64, h2⟩ r) else
      if h3 : k.val - 768 - 64 - 64 < 64 then v58 (ix2 ⟨k.val - 768 - 64 - 64, h3⟩ r) else
        (show EReal from v68 (ix2 ⟨k.val - 768 - 64 - 64 - 64, by omega⟩ r)) * Ideal.div (v70 (ix2 0 r)) (v69 (ix2 0 r)) := by
  pointwise [beside]

/-- Channel `d` of the memory's head `h` for a query of the tile. -/
def channel (q : Vec Ideal S1x256x512 .bf16) (K : Vec Ideal S1x4x256x256 .bf16) (W : Vec Ideal S1x320x256 .bf16) (r : Fin 512) (h : Fin 4) (d : Fin 64) : EReal :=
  quotient (fun l => ∑ c : Fin 256, (show EReal from K (ix4 0 h l c)) * (show EReal from q (ix3 0 c r)))
    (fun l => W (ix3 0 ⟨80 * h.val + d.val, by omega⟩ l)) (fun l => W (ix3 0 ⟨80 * h.val + 64, by omega⟩ l))

/-- The row the output product takes. -/
def row (y : Vec Ideal S1x512x768 .bf16) (q : Vec Ideal S1x256x512 .bf16) (K : Vec Ideal S1x4x256x256 .bf16) (W : Vec Ideal S1x320x256 .bf16) (r : Fin 512) (k : Fin 1024) : EReal :=
  if h : k.val < 768 then (show EReal from y (ix3 0 r ⟨k.val, h⟩)) else
    channel q K W r ⟨(k.val - 768) / 64, by omega⟩ ⟨(k.val - 768) % 64, by omega⟩

end Cert.Kernel4Ideal.Hand

end
-- ==== Proof.Out4.lean ====
/-
  A middle layer's end: a grid point's results at an index.
-/
module

public import proofs.«01_k».proof.Proof.Gen.Kernel4Ideal.Frame
public import proofs.«01_k».proof.Proof.Block4
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel4Ideal.Hand

open Cert.Kernel4Ideal Cert.Kernel4Ideal.Gen Idealize.ShloMosaic Idealize.ShloMosaic.TcCoe

/-- A row of the layer's result. -/
def before (y : Vec Ideal S1x512x768 .bf16) (q : Vec Ideal S1x256x512 .bf16) (z : Vec Ideal S1x512x1024 .bf16) (x : Vec Ideal S1x512x1024 .f32)
    (K : Vec Ideal S1x4x256x256 .bf16) (W : Vec Ideal S1x320x256 .bf16) (w : Vec Ideal S1024x1024 .bf16) (r : Fin 512) : Fin 1024 → EReal :=
  Layer.output (row y q K W r) (fun k => z (ix3 0 r k)) (fun k => x (ix3 0 r k)) (fun k d => w (ix2 k d))

section

variable (q : Vec Ideal S1x256x512 .bf16) (K : Vec Ideal S1x4x256x256 .bf16) (W : Vec Ideal S1x320x256 .bf16)

/-- The quotient of a head from its own keys and values. -/
theorem quotient_head (k : Vec Ideal S1x1x256x256 .bf16) (v : Vec Ideal S1x80x256 .bf16) (h : Fin 4) (r : Fin 512) (d : Fin 64)
    (hk : ∀ l c : Fin 256, (show EReal from k (ix4 0 0 l c)) = K (ix4 0 h l c)) (hv : ∀ (d : Fin 80) (l : Fin 256), (show EReal from v (ix3 0 d l)) = W (ix3 0 ⟨80 * h.val + d.val, by omega⟩ l)) :
    quotient (score q k r) (fun l => v (ix3 0 ⟨d.val, by omega⟩ l)) (fun l => v (ix3 0 ⟨64, by omega⟩ l)) = channel q K W r h d := by
  have e : score q k r = fun l => ∑ c : Fin 256, (show EReal from K (ix4 0 h l c)) * (show EReal from q (ix3 0 c r)) :=
    funext fun l => Finset.sum_congr rfl fun c _ => congrArg (fun a : EReal => a * _) (hk l c)
  have e1 : (fun l => v (ix3 0 ⟨d.val, by omega⟩ l) : Fin 256 → EReal) = fun l => W (ix3 0 ⟨80 * h.val + d.val, by omega⟩ l) := funext fun l => hv ⟨d.val, by omega⟩ l
  have e2 : (fun l => v (ix3 0 ⟨64, by omega⟩ l) : Fin 256 → EReal) = fun l => W (ix3 0 ⟨80 * h.val + 64, by omega⟩ l) := funext fun l => hv ⟨64, by omega⟩ l
  rw [e, e1, e2]
  rfl

variable (k0 k1 k2 k3 : Vec Ideal S1x1x256x256 .bf16) (v0 v1 v2 v3 : Vec Ideal S1x80x256 .bf16)
  (hk0 : ∀ l c : Fin 256, (show EReal from k0 (ix4 0 0 l c)) = K (ix4 0 0 l c)) (hk1 : ∀ l c : Fin 256, (show EReal from k1 (ix4 0 0 l c)) = K (ix4 0 1 l c))
  (hk2 : ∀ l c : Fin 256, (show EReal from k2 (ix4 0 0 l c)) = K (ix4 0 2 l c)) (hk3 : ∀ l c : Fin 256, (show EReal from k3 (ix4 0 0 l c)) = K (ix4 0 3 l c))
  (hv0 : ∀ (d : Fin 80) (l : Fin 256), (show EReal from v0 (ix3 0 d l)) = W (ix3 0 ⟨80 * (0 : Fin 4).val + d.val, by have := d.isLt; show 80 * 0 + d.val < 320; omega⟩ l))
  (hv1 : ∀ (d : Fin 80) (l : Fin 256), (show EReal from v1 (ix3 0 d l)) = W (ix3 0 ⟨80 * (1 : Fin 4).val + d.val, by have := d.isLt; show 80 * 1 + d.val < 320; omega⟩ l))
  (hv2 : ∀ (d : Fin 80) (l : Fin 256), (show EReal from v2 (ix3 0 d l)) = W (ix3 0 ⟨80 * (2 : Fin 4).val + d.val, by have := d.isLt; show 80 * 2 + d.val < 320; omega⟩ l))
  (hv3 : ∀ (d : Fin 80) (l : Fin 256), (show EReal from v3 (ix3 0 d l)) = W (ix3 0 ⟨80 * (3 : Fin 4).val + d.val, by have := d.isLt; show 80 * 3 + d.val < 320; omega⟩ l))

include hk3 hv3 in
theorem head3 (r : Fin 512) (d : Fin 64) : (show EReal from k0_pay13 (k0_pay8 q k3) v3 (ix2 d r)) * Ideal.div (k0_pay15 (F := Ideal) (ix2 0 r)) (k0_pay14 (k0_pay8 q k3) v3 (ix2 0 r)) = channel q K W r 3 d := by
  pointwise [k0_pay13, k0_pay14, k0_pay15]
  rw [pay12_at, pay12_at]
  show quotient (fun l => k0_pay6 q k3 (ix2 l r)) (fun l => v3 (ix3 0 ⟨d.val, by omega⟩ l)) (fun l => v3 (ix3 0 ⟨64, by omega⟩ l)) = _
  simp only [pay6_at]
  exact quotient_head q K W k3 v3 3 r d hk3 hv3

include hk0 hk1 hk2 hk3 hv0 hv1 hv2 hv3 in
/-- The row the output product takes, from the heads' own keys and values. -/
theorem row_at (y : Vec Ideal S1x512x768 .bf16) (r : Fin 512) (k : Fin 1024) :
    beside (k0_pay9 q k0 v0) (k0_pay10 (k0_pay6 q k1) v1) (k0_pay11 (k0_pay7 q k2) v2) (k0_pay13 (k0_pay8 q k3) v3) (k0_pay14 (k0_pay8 q k3) v3) (k0_pay15 (F := Ideal)) y (ix2 r k)
      = row y q K W r k := by
  rw [beside_at]
  unfold row
  split
  next h => rfl
  next h =>
    have hk := k.isLt
    split
    next h1 =>
      rw [pay9_at, quotient_head q K W k0 v0 0 r _ hk0 hv0]
      exact congrArg₂ (channel q K W r) (Fin.ext (by dsimp only; show 0 = _; omega)) (Fin.ext (by dsimp only; omega))
    next h1 =>
      split
      next h2 =>
        rw [pay10_at]
        simp only [pay6_at]
        refine (quotient_head q K W k1 v1 1 r ⟨k.val - 768 - 64, h2⟩ hk1 hv1).trans ?_
        exact congrArg₂ (channel q K W r) (Fin.ext (by dsimp only; show 1 = _; omega)) (Fin.ext (by dsimp only; omega))
      next h2 =>
        split
        next h3 =>
          rw [pay11_at]
          show quotient (fun l => k0_pay6 q k2 (ix2 l r)) _ _ = _
          simp only [pay6_at]
          refine (quotient_head q K W k2 v2 2 r ⟨k.val - 768 - 64 - 64, h3⟩ hk2 hv2).trans ?_
          exact congrArg₂ (channel q K W r) (Fin.ext (by dsimp only; show 2 = _; omega)) (Fin.ext (by dsimp only; omega))
        next h3 =>
          rw [head3 q K W k3 v3 hk3 hv3]
          exact congrArg₂ (channel q K W r) (Fin.ext (by dsimp only; show 3 = _; omega)) (Fin.ext (by dsimp only; omega))

include hk0 hk1 hk2 hk3 hv0 hv1 hv2 hv3 in
/-- The layer's result at an index. -/
theorem rows_at (y : Vec Ideal S1x512x768 .bf16) (z : Vec Ideal S1x512x1024 .bf16) (x : Vec Ideal S1x512x1024 .f32) (w : Vec Ideal S1024x1024 .bf16) (r : Fin 512) (d : Fin 1024) :
    k0_pay16 (k0_pay9 q k0 v0) (k0_pay10 (k0_pay6 q k1) v1) (k0_pay11 (k0_pay7 q k2) v2) (k0_pay13 (k0_pay8 q k3) v3) (k0_pay14 (k0_pay8 q k3) v3) (k0_pay15 (F := Ideal)) y z x w (ix2 r d)
      = before y q z x K W w r d := by
  rw [pay16_eq, gated_at]
  unfold before
  refine congrArg (fun a => Layer.output a _ _ _ d) (funext fun k => ?_)
  exact row_at q K W k0 k1 k2 k3 v0 v1 v2 v3 hk0 hk1 hk2 hk3 hv0 hv1 hv2 hv3 y r k

end

section

variable (v : FVec Ideal S512x1024 .f32) (g : Vec Ideal S1x1024 .f32)

theorem pay24_at (w : Vec Ideal S1152x1024 .bf16) (j : Fin 768) (r : Fin 512) :
    (show EReal from k0_pay24 v (k0_pay18 g) (meanSquare v) (k0_pay20 (F := Ideal)) w (ix3 0 j r)) = Layer.project (fun k => v (ix2 r k)) (fun k => g (ix2 0 k)) (fun k => w (ix2 ⟨j.val, by omega⟩ k)) := by
  refine Eq.trans ?_ (pay22_at v g w _ r)
  pointwise [k0_pay24]

theorem question_at (w : Vec Ideal S1152x1024 .bf16) (j : Fin 256) (r : Fin 512) :
    (show EReal from k0_pay2 (k0_pay22 v (k0_pay18 g) (meanSquare v) (k0_pay20 (F := Ideal)) w) (ix3 0 j r)) = Layer.project (fun k => v (ix2 r k)) (fun k => g (ix2 0 k)) (fun k => w (ix2 ⟨896 + j.val, by omega⟩ k)) := by
  refine Eq.trans ?_ (pay22_at v g w _ r)
  pointwise [k0_pay2]

theorem key_at (w : Vec Ideal S1024x1152 .bf16) (r : Fin 512) (d : Fin 128) :
    (show EReal from k0_pay3 (k0_pay23 v (k0_pay18 g) (meanSquare v) (k0_pay20 (F := Ideal)) w) (ix3 0 r d)) = Layer.project (fun k => v (ix2 r k)) (fun k => g (ix2 0 k)) (fun k => w (ix2 k ⟨d.val, by omega⟩)) := by
  refine Eq.trans ?_ (pay23_at v g w r _)
  pointwise [k0_pay3]

theorem gate_at (w : Vec Ideal S1024x1152 .bf16) (r : Fin 512) (d : Fin 1024) :
    (show EReal from k0_pay4 (k0_pay23 v (k0_pay18 g) (meanSquare v) (k0_pay20 (F := Ideal)) w) (ix3 0 r d)) = Layer.project (fun k => v (ix2 r k)) (fun k => g (ix2 0 k)) (fun k => w (ix2 k ⟨128 + d.val, by omega⟩)) := by
  refine Eq.trans ?_ (pay23_at v g w r _)
  pointwise [k0_pay4]

/-- The values' tile of a product: its two heads over rows of ones. -/
def valueTile (A : Fin 1152 → Fin 512 → EReal) : FVec Ideal S1x160x512 .bf16 := fun y =>
  if (y 1).val % 80 < 64 then A (Fin.ofNat 1152 (768 + 64 * ((y 1).val / 80) + (y 1).val % 80)) (y 2) else 1

theorem value_piece (A : Fin 1152 → Fin 512 → EReal) (H : Nat) (hH : H < 2) (inb) (f : FVec Ideal S1x64x512 .bf16)
    (h : ∀ (v : Fin 64) (r : Fin 512), (show EReal from f (ix3 0 v r)) = A ⟨768 + 64 * H + v.val, by omega⟩ r) (y : S1x64x512.Idx) :
    f y = valueTile A ((Rect.unit (s := S1x160x512) ![0, 80 * H, 0] ![1, 64, 512] inb).emb y) := by
  obtain ⟨v, r, rfl⟩ : ∃ (v : Fin 64) (r : Fin 512), y = ix3 0 v r := ⟨y 1, y 2, by
    funext a
    match a with
    | ⟨0, _⟩ => exact Subsingleton.elim (α := Fin 1) _ _
    | ⟨1, _⟩ => rfl
    | ⟨2, _⟩ => rfl⟩
  refine (h v r).trans ?_
  have hv := v.isLt
  show _ = if (80 * H + 1 * v.val) % 80 < 64 then A (Fin.ofNat 1152 (768 + 64 * ((80 * H + 1 * v.val) / 80) + (80 * H + 1 * v.val) % 80)) _ else 1
  rw [if_pos (by omega)]
  refine congrArg₂ A (Fin.ext ?_) (Fin.ext ?_)
  · show 768 + 64 * H + v.val = (768 + 64 * ((80 * H + 1 * v.val) / 80) + (80 * H + 1 * v.val) % 80) % 1152
    omega
  · show r.val = 0 + 1 * r.val
    omega

theorem one_piece (A : Fin 1152 → Fin 512 → EReal) (H : Nat) (inb) (f : FVec Ideal S1x16x512 .bf16)
    (h : ∀ (v : Fin 16) (r : Fin 512), (show EReal from f (ix3 0 v r)) = 1) (y : S1x16x512.Idx) :
    f y = valueTile A ((Rect.unit (s := S1x160x512) ![0, 64 + 80 * H, 0] ![1, 16, 512] inb).emb y) := by
  obtain ⟨v, r, rfl⟩ : ∃ (v : Fin 16) (r : Fin 512), y = ix3 0 v r := ⟨y 1, y 2, by
    funext a
    match a with
    | ⟨0, _⟩ => exact Subsingleton.elim (α := Fin 1) _ _
    | ⟨1, _⟩ => rfl
    | ⟨2, _⟩ => rfl⟩
  refine (h v r).trans ?_
  have hv := v.isLt
  show _ = if (64 + 80 * H + 1 * v.val) % 80 < 64 then A _ _ else 1
  rw [if_neg (by omega)]

theorem low_at (w : Vec Ideal S1152x1024 .bf16) (i : Fin 64) (r : Fin 512) :
    (show EReal from k0_pay25 v (k0_pay18 g) (meanSquare v) (k0_pay20 (F := Ideal)) w (ix3 0 i r)) = Layer.project (fun k => v (ix2 r k)) (fun k => g (ix2 0 k)) (fun k => w (ix2 ⟨768 + 64 * 0 + i.val, by omega⟩ k)) := by
  refine Eq.trans ?_ (pay22_at v g w _ r)
  pointwise [k0_pay25]

theorem high_at (w : Vec Ideal S1152x1024 .bf16) (i : Fin 64) (r : Fin 512) :
    (show EReal from k0_pay27 v (k0_pay18 g) (meanSquare v) (k0_pay20 (F := Ideal)) w (ix3 0 i r)) = Layer.project (fun k => v (ix2 r k)) (fun k => g (ix2 0 k)) (fun k => w (ix2 ⟨768 + 64 * 1 + i.val, by omega⟩ k)) := by
  refine Eq.trans ?_ (pay22_at v g w _ r)
  pointwise [k0_pay27]

end

/-- The layer's result of a grid point. -/
def rows (y : Vec Ideal S1x512x768 .bf16) (q : Vec Ideal S1x256x512 .bf16) (z : Vec Ideal S1x512x1024 .bf16) (x : Vec Ideal S1x512x1024 .f32)
    (K : Vec Ideal S1x4x256x256 .bf16) (W : Vec Ideal S1x320x256 .bf16) (w : Vec Ideal S1024x1024 .bf16) : FVec Ideal S512x1024 .f32 :=
  k0_pay16
    (k0_pay9 q (View.ld K (Rect.unit ![0, 0, 0, 0] ![1, 1, 256, 256] inb_S1x4x256x256_S1x1x256x256_0_0_0_0)) (View.ld W (Rect.unit ![0, 0, 0] ![1, 80, 256] inb_S1x320x256_S1x80x256_0_0_0)))
    (k0_pay10 (k0_pay6 q (View.ld K (Rect.unit ![0, 1, 0, 0] ![1, 1, 256, 256] inb_S1x4x256x256_S1x1x256x256_0_1_0_0))) (View.ld W (Rect.unit ![0, 80, 0] ![1, 80, 256] inb_S1x320x256_S1x80x256_0_80_0)))
    (k0_pay11 (k0_pay7 q (View.ld K (Rect.unit ![0, 2, 0, 0] ![1, 1, 256, 256] inb_S1x4x256x256_S1x1x256x256_0_2_0_0))) (View.ld W (Rect.unit ![0, 160, 0] ![1, 80, 256] inb_S1x320x256_S1x80x256_0_160_0)))
    (k0_pay13 (k0_pay8 q (View.ld K (Rect.unit ![0, 3, 0, 0] ![1, 1, 256, 256] inb_S1x4x256x256_S1x1x256x256_0_3_0_0))) (View.ld W (Rect.unit ![0, 240, 0] ![1, 80, 256] inb_S1x320x256_S1x80x256_0_240_0)))
    (k0_pay14 (k0_pay8 q (View.ld K (Rect.unit ![0, 3, 0, 0] ![1, 1, 256, 256] inb_S1x4x256x256_S1x1x256x256_0_3_0_0))) (View.ld W (Rect.unit ![0, 240, 0] ![1, 80, 256] inb_S1x320x256_S1x80x256_0_240_0)))
    (k0_pay15 (F := Ideal)) y z x w

theorem rows_apply (y : Vec Ideal S1x512x768 .bf16) (q : Vec Ideal S1x256x512 .bf16) (z : Vec Ideal S1x512x1024 .bf16) (x : Vec Ideal S1x512x1024 .f32)
    (K : Vec Ideal S1x4x256x256 .bf16) (W : Vec Ideal S1x320x256 .bf16) (w : Vec Ideal S1024x1024 .bf16) (r : Fin 512) (d : Fin 1024) :
    rows y q z x K W w (ix2 r d) = before y q z x K W w r d := by
  refine rows_at q K W _ _ _ _ _ _ _ _ ?_ ?_ ?_ ?_ ?_ ?_ ?_ ?_ y z x w r d
  · exact fun l c => congrArg K (funext fun a => by match a with | ⟨0, _⟩ => rfl | ⟨1, _⟩ => rfl | ⟨2, _⟩ => exact Fin.ext (show 0 + 1 * l.val = l.val by omega) | ⟨3, _⟩ => exact Fin.ext (show 0 + 1 * c.val = c.val by omega))
  · exact fun l c => congrArg K (funext fun a => by match a with | ⟨0, _⟩ => rfl | ⟨1, _⟩ => rfl | ⟨2, _⟩ => exact Fin.ext (show 0 + 1 * l.val = l.val by omega) | ⟨3, _⟩ => exact Fin.ext (show 0 + 1 * c.val = c.val by omega))
  · exact fun l c => congrArg K (funext fun a => by match a with | ⟨0, _⟩ => rfl | ⟨1, _⟩ => rfl | ⟨2, _⟩ => exact Fin.ext (show 0 + 1 * l.val = l.val by omega) | ⟨3, _⟩ => exact Fin.ext (show 0 + 1 * c.val = c.val by omega))
  · exact fun l c => congrArg K (funext fun a => by match a with | ⟨0, _⟩ => rfl | ⟨1, _⟩ => rfl | ⟨2, _⟩ => exact Fin.ext (show 0 + 1 * l.val = l.val by omega) | ⟨3, _⟩ => exact Fin.ext (show 0 + 1 * c.val = c.val by omega))
  · exact fun d l => congrArg W (funext fun a => by match a with | ⟨0, _⟩ => rfl | ⟨1, _⟩ => exact Fin.ext (show 0 + 1 * d.val = 80 * 0 + d.val by omega) | ⟨2, _⟩ => exact Fin.ext (show 0 + 1 * l.val = l.val by omega))
  · exact fun d l => congrArg W (funext fun a => by match a with | ⟨0, _⟩ => rfl | ⟨1, _⟩ => exact Fin.ext (show 80 + 1 * d.val = 80 * 1 + d.val by omega) | ⟨2, _⟩ => exact Fin.ext (show 0 + 1 * l.val = l.val by omega))
  · exact fun d l => congrArg W (funext fun a => by match a with | ⟨0, _⟩ => rfl | ⟨1, _⟩ => exact Fin.ext (show 160 + 1 * d.val = 80 * 2 + d.val by omega) | ⟨2, _⟩ => exact Fin.ext (show 0 + 1 * l.val = l.val by omega))
  · exact fun d l => congrArg W (funext fun a => by match a with | ⟨0, _⟩ => rfl | ⟨1, _⟩ => exact Fin.ext (show 240 + 1 * d.val = 80 * 3 + d.val by omega) | ⟨2, _⟩ => exact Fin.ext (show 0 + 1 * l.val = l.val by omega))

theorem pay17_eq (v28 v43 v58 v68 : FVec Ideal S64x512 .f32) (v69 v70 : FVec Ideal S1x512 .f32) (v76 : Vec Ideal S1x512x768 .bf16)
    (v80 : Vec Ideal S1x512x1024 .bf16) (v91 : Vec Ideal S1x512x1024 .f32) (v93 : Vec Ideal S1024x1024 .bf16) (r : Fin 512) (d : Fin 1024) :
    k0_pay17 v28 v43 v58 v68 v69 v70 v76 v80 v91 v93 (ix3 0 r d) = k0_pay16 v28 v43 v58 v68 v69 v70 v76 v80 v91 v93 (ix2 r d) := by
  pointwise [k0_pay17]

section

variable (c : Dev nD) (i : grid0.Coords)
  (arg2 : Memref sig .tc .vmem S1x512x768 .bf16) (harg2 : arg2.IsWhole) (arg3 : Memref sig .tc .vmem S1x256x512 .bf16) (harg3 : arg3.IsWhole)
  (arg4 : Memref sig .tc .vmem S1x512x1024 .bf16) (harg4 : arg4.IsWhole) (arg5 : Memref sig .tc .vmem S1x512x1024 .f32) (harg5 : arg5.IsWhole)
  (arg6 : Memref sig .tc .vmem S1x4x256x256 .bf16) (harg6 : arg6.IsWhole) (arg7 : Memref sig .tc .vmem S1x320x256 .bf16) (harg7 : arg7.IsWhole)
  (arg8 : Memref sig .tc .vmem S1024x1024 .bf16) (harg8 : arg8.IsWhole) (arg9 : Memref sig .tc .vmem S1x1024 .f32) (harg9 : arg9.IsWhole)
  (arg10 : Memref sig .tc .vmem S1152x1024 .bf16) (harg10 : arg10.IsWhole) (arg11 : Memref sig .tc .vmem S1024x1152 .bf16) (harg11 : arg11.IsWhole)
  (arg12 : Memref sig .tc .vmem S1x512x1024 .f32) (harg12 : arg12.IsWhole) (arg13 : Memref sig .tc .vmem S1x768x512 .bf16) (harg13 : arg13.IsWhole)
  (arg14 : Memref sig .tc .vmem S1x512x128 .bf16) (harg14 : arg14.IsWhole) (arg15 : Memref sig .tc .vmem S1x160x512 .bf16) (harg15 : arg15.IsWhole)
  (arg16 : Memref sig .tc .vmem S1x256x512 .bf16) (harg16 : arg16.IsWhole) (arg17 : Memref sig .tc .vmem S1x512x1024 .bf16) (harg17 : arg17.IsWhole)
  (y : Vec Ideal S1x512x768 .bf16) (q : Vec Ideal S1x256x512 .bf16) (z : Vec Ideal S1x512x1024 .bf16) (x : Vec Ideal S1x512x1024 .f32)
  (K : Vec Ideal S1x4x256x256 .bf16) (W : Vec Ideal S1x320x256 .bf16) (w : Vec Ideal S1024x1024 .bf16) (g : Vec Ideal S1x1024 .f32)
  (wT : Vec Ideal S1152x1024 .bf16) (wn : Vec Ideal S1024x1152 .bf16)

theorem state_out (r : Fin 512) (d : Fin 1024) :
    (show EReal from out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 r d)) = before y q z x K W w r d := by
  frame_out
  rw [pay17_eq]
  exact rows_apply y q z x K W w r d

theorem queries_out (j : Fin 768) (r : Fin 512) :
    (show EReal from out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 j r))
      = Layer.project (before y q z x K W w r) (fun k => g (ix2 0 k)) (fun k => wT (ix2 ⟨j.val, by omega⟩ k)) := by
  frame_out
  rw [pay19_eq]
  refine (pay24_at (rows y q z x K W w) g wT j r).trans ?_
  exact congrArg (fun a => Layer.project a _ _) (funext fun k => rows_apply y q z x K W w r k)

theorem keys_out (r : Fin 512) (d : Fin 128) :
    (show EReal from out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 r d))
      = Layer.project (before y q z x K W w r) (fun k => g (ix2 0 k)) (fun k => wn (ix2 k ⟨d.val, by omega⟩)) := by
  frame_out
  rw [pay19_eq]
  refine (key_at (rows y q z x K W w) g wn r d).trans ?_
  exact congrArg (fun a => Layer.project a _ _) (funext fun k => rows_apply y q z x K W w r k)

theorem questions_out (j : Fin 256) (r : Fin 512) :
    (show EReal from out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 j r))
      = Layer.project (before y q z x K W w r) (fun k => g (ix2 0 k)) (fun k => wT (ix2 ⟨896 + j.val, by omega⟩ k)) := by
  frame_out
  rw [pay19_eq]
  refine (question_at (rows y q z x K W w) g wT j r).trans ?_
  exact congrArg (fun a => Layer.project a _ _) (funext fun k => rows_apply y q z x K W w r k)

theorem gates_out (r : Fin 512) (d : Fin 1024) :
    (show EReal from out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 r d))
      = Layer.project (before y q z x K W w r) (fun k => g (ix2 0 k)) (fun k => wn (ix2 k ⟨128 + d.val, by omega⟩)) := by
  frame_out
  rw [pay19_eq]
  refine (gate_at (rows y q z x K W w) g wn r d).trans ?_
  exact congrArg (fun a => Layer.project a _ _) (funext fun k => rows_apply y q z x K W w r k)

/-- The product of the next weights with the layer's result, at an index. -/
def entry (i : Fin 1152) (r : Fin 512) : EReal :=
  Layer.project (fun k => rows y q z x K W w (ix2 r k)) (fun k => g (ix2 0 k)) (fun k => wT (ix2 i k))

theorem values_out (v : Fin 160) (r : Fin 512) :
    (show EReal from out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 y q z x K W w g wT wn (ix3 0 v r))
      = if h : v.val % 80 < 64 then Layer.project (before y q z x K W w r) (fun k => g (ix2 0 k)) (fun k => wT (ix2 ⟨768 + 64 * (v.val / 80) + v.val % 80, by omega⟩ k)) else 1 := by
  frame_out
  rw [pay19_eq]
  refine Eq.trans (View.canon_apply_of_pieces (Val := Elt Ideal) (S := S1x160x512) (e := .bf16) (valueTile (entry y q z x K W w g wT)) _ ?_ (ix3 0 v r) (View.cover_of_tiledBy _ ![1, 16, 512] (by sl_kernel_rfl) _)) ?_
  · repeat' (first | exact fun _ h => (List.not_mem_nil h).elim | refine List.forall_mem_cons.2 ⟨fun y => ?_, ?_⟩)
    · exact one_piece _ 1 inb_S1x160x512_S1x16x512_0_144_0 _ (fun v s => by pointwise [k0_pay1, k0_pay28]) y
    · exact value_piece _ 1 (by decide) inb_S1x160x512_S1x64x512_0_80_0 _ (fun i r => high_at (rows _ q z x K W w) g wT i r) y
    · exact one_piece _ 0 inb_S1x160x512_S1x16x512_0_64_0 _ (fun v s => by pointwise [k0_pay26]) y
    · exact value_piece _ 0 (by decide) inb_S1x160x512_S1x64x512_0_0_0 _ (fun i r => low_at (rows _ q z x K W w) g wT i r) y
  · have hv := v.isLt
    show (if v.val % 80 < 64 then entry y q z x K W w g wT (Fin.ofNat 1152 (768 + 64 * (v.val / 80) + v.val % 80)) r else 1) = _
    split
    next h =>
      have e : Fin.ofNat 1152 (768 + 64 * (v.val / 80) + v.val % 80) = (⟨768 + 64 * (v.val / 80) + v.val % 80, by omega⟩ : Fin 1152) :=
        Fin.ext (Nat.mod_eq_of_lt (by omega))
      rw [e]
      exact congrArg (fun a => Layer.project a _ _) (funext fun k => rows_apply y q z x K W w r k)
    next h => rfl

end

end Cert.Kernel4Ideal.Hand

end
-- ==== Proof.Entry4.lean ====
/-
  What the host hands a middle layer's end, at an index: the memory's scaled queries, its keys by head, its values over
  rows of ones, the next layer's weights in the order of its two products, and the arguments it only casts.
-/
module

public import proofs.«01_k».proof.Proof.Gen.Kernel4Ideal.Frame
public import proofs.«01_k».proof.Proof.Words
public import proofs.«01_k».proof.Proof.Constants
public import Idealize.ShloMosaic.Lib.Pointwise
public import Idealize.ShloMosaic.Lib.StableHlo.ReadAt
public import Idealize.ShloMosaic.Lib.Tactic.CleanTypes

@[expose] public section

set_option maxRecDepth 16384

noncomputable section

namespace Cert.Kernel4Ideal.Hand

open Cert.Words Cert.Constants Cert.Kernel4Ideal Cert.Kernel4Ideal.Gen Idealize.ShloMosaic Idealize.ShloMosaic.TcCoe

variable (m : (ℓ : Loc nD τ sig) → Buf (Elt Ideal) ℓ) (c : Dev nD)

theorem queries_at (b : Fin 2) (col : Fin 256) (n : Fin 16384) :
    (V m c main_v6 (ix3 b col n) : EReal) = (show EReal from m ((c.tc : Thread nD τ).loc main_arg1) (ix3 b n col)) * ((1 / 8 * Softmax.log2e : ℝ) : EReal) := by
  unfold V
  after_reads_at
  rw [ofBits_eighth, ofBits_two, log2e_div, ← EReal.coe_mul]

theorem keys_at (b : Fin 2) (h : Fin 4) (l col : Fin 256) :
    (V m c main_v18 (ix4 b h l col) : EReal) = if 64 * h.val ≤ col.val ∧ col.val < 64 * h.val + 64 then
      (show EReal from m ((c.tc : Thread nD τ).loc main_arg2) (ix3 b l col)) else 0 := by
  unfold V
  after_reads_at
  rw [head_word, select_ite]
  refine if_congr Iff.rfl rfl ?_
  show Ideal.ofBits .f32 0#32 = 0
  simp [Ideal.ofBits, Ideal.ieee]

theorem values_at (b : Fin 2) (h : Fin 4) (d : Fin 64) (l : Fin 256) :
    (V m c main_v24 (ix3 b ⟨80 * h.val + d.val, by omega⟩ l) : EReal) = m ((c.tc : Thread nD τ).loc main_arg3) (ix3 b l ⟨64 * h.val + d.val, by omega⟩) := by
  unfold V
  after_reads_at
  rw [dif_pos (by omega)]
  after_reads_at
  have e : (⟨(80 * h.val + d.val) / 80 * 64 + (80 * h.val + d.val) % 80, by omega⟩ : Fin 256) = ⟨64 * h.val + d.val, by omega⟩ := Fin.ext (by dsimp only; omega)
  exact congrArg (fun y => m ((c.tc : Thread nD τ).loc main_arg3) (ix3 b l y)) e

theorem ones_at (b : Fin 2) (h : Fin 4) (l : Fin 256) :
    (show EReal from V m c main_v24 (ix3 b ⟨80 * h.val + 64, by omega⟩ l)) = 1 := by
  show V m c main_v24 (ix3 b ⟨80 * h.val + 64, by omega⟩ l) = (1 : EReal)
  unfold V
  after_reads_at
  rw [dif_neg (by omega)]
  after_reads_at

theorem attended_at (b : Fin 2) (n : Fin 16384) (k : Fin 768) :
    (V m c main_v25 (ix3 b n k) : EReal) = m ((c.tc : Thread nD τ).loc main_arg0) (ix3 b n k) := by
  unfold V
  after_reads_at

theorem gates_at (b : Fin 2) (n : Fin 16384) (k : Fin 1024) :
    (V m c main_v26 (ix3 b n k) : EReal) = m ((c.tc : Thread nD τ).loc main_arg4) (ix3 b n k) := by
  unfold V
  after_reads_at

theorem input_at (b : Fin 2) (n : Fin 16384) (k : Fin 1024) :
    (V m c main_arg5 (ix3 b n k) : EReal) = m ((c.tc : Thread nD τ).loc main_arg5) (ix3 b n k) := by
  rw [V_main_arg5]

theorem weights_at (k d : Fin 1024) :
    (V m c main_v27 (ix2 k d) : EReal) = m ((c.tc : Thread nD τ).loc main_arg6) (ix2 k d) := by
  unfold V
  after_reads_at

theorem norm_at (d : Fin 1024) :
    (V m c main_v28 (ix2 0 d) : EReal) = m ((c.tc : Thread nD τ).loc main_arg7) (ix1 d) := by
  unfold V
  after_reads_at

/-- The column of the next weights a row of the transposed product takes: the queries, then past the keys the values and the memory's queries. -/
def across (i : Fin 1152) : Fin 2304 := if i.val < 768 then ⟨i.val, by omega⟩ else ⟨i.val + 128, by omega⟩

/-- The column of the next weights a column of the other product takes: the keys, then the gates. -/
def along (j : Fin 1152) : Fin 2304 := if j.val < 128 then ⟨j.val + 768, by omega⟩ else ⟨j.val + 1152, by omega⟩

theorem across_at (i : Fin 1152) (k : Fin 1024) :
    (V m c main_v36 (ix2 i k) : EReal) = (show EReal from m ((c.tc : Thread nD τ).loc main_arg8) (ix2 k (across i))) := by
  unfold V across
  after_reads_at
  by_cases h : i.val < 768
  · rw [dif_pos h, if_pos h]
    after_reads_at
  · rw [dif_neg h, if_neg h]
    by_cases h' : i.val - 768 < 128
    · rw [dif_pos h']
      after_reads_at
      exact congrArg (m ((c.tc : Thread nD τ).loc main_arg8)) (congrArg (ix2 k) (Fin.ext (by show _ + (i.val - _) = i.val + 128; omega)))
    · rw [dif_neg h']
      after_reads_at
      exact congrArg (m ((c.tc : Thread nD τ).loc main_arg8)) (congrArg (ix2 k) (Fin.ext (by show _ + (i.val - _ - _) = i.val + 128; omega)))

theorem along_at (k : Fin 1024) (j : Fin 1152) :
    (V m c main_v38 (ix2 k j) : EReal) = (show EReal from m ((c.tc : Thread nD τ).loc main_arg8) (ix2 k (along j))) := by
  unfold V along
  after_reads_at
  by_cases h : j.val < 128
  · rw [dif_pos h, if_pos h]
    after_reads_at
    exact congrArg (m ((c.tc : Thread nD τ).loc main_arg8)) (congrArg (ix2 k) (Fin.ext (Nat.add_comm _ _)))
  · rw [dif_neg h, if_neg h]
    after_reads_at
    exact congrArg (m ((c.tc : Thread nD τ).loc main_arg8)) (congrArg (ix2 k) (Fin.ext (by show _ + (j.val - _) = j.val + 1152; omega)))

end Cert.Kernel4Ideal.Hand

end
-- ==== Proof.Reference4.lean ====
/-
  The middle layer's end's reference in stages, and its results at an index.
-/
module

public import proofs.«01_k».proof.Proof.Gen.Reference4Ideal.Run
public import proofs.«01_k».proof.Proof.Projection
public import proofs.«01_k».proof.Proof.Reference2
public import Idealize.ShloMosaic.Lib.Pointwise
public import Idealize.ShloMosaic.Lib.Tactic.CleanTypes

@[expose] public section

set_option maxRecDepth 16384

noncomputable section

namespace Cert.Reference4Ideal.Hand

open Cert.Reference4Ideal Cert.Reference4Ideal.Gen Idealize.ShloMosaic Idealize.ShloMosaic.TcCoe
open Cert.Reference2Ideal.Hand (layer normed normed_apply)

/-- The projection. -/
def projected (h : FVec Ideal S2x16384x1024 .f32) (w : FVec Ideal S1024x2304 .f32) : FVec Ideal S2x16384x2304 .f32 :=
  Host.dotGeneral dot_S2x16384x1024_S1024x2304_S2x16384x2304_2_0_01_1_n_n none h w

/-- The queries, transposed. -/
def queries (P : FVec Ideal S2x16384x2304 .f32) : FVec Ideal S2x768x16384 .bf16 :=
  truncf .bf16 (transpose S2x768x16384 [0, 2, 1] (extractStridedSlice S2x16384x768 ![0, 0, 0] P slices_S2x16384x2304_S2x16384x768_0_0_0) transposes_S2x16384x768_S2x768x16384_0_2_1) bitsLt_bf16_f32

/-- The keys. -/
def keys (P : FVec Ideal S2x16384x2304 .f32) : FVec Ideal S2x16384x128 .bf16 :=
  truncf .bf16 (extractStridedSlice S2x16384x128 ![0, 0, 768] P slices_S2x16384x2304_S2x16384x128_0_0_768) bitsLt_bf16_f32

/-- The values' heads over rows of ones. -/
def stacked (P : FVec Ideal S2x16384x2304 .f32) : FVec Ideal S2x2x80x16384 .f32 :=
  concatenate S2x2x80x16384 2 [⟨S2x2x64x16384, shapeCast S2x2x64x16384 (transpose S2x128x16384 [0, 2, 1] (extractStridedSlice S2x16384x128 ![0, 0, 896] P slices_S2x16384x2304_S2x16384x128_0_0_896) transposes_S2x16384x128_S2x128x16384_0_2_1) shapeCasts_S2x128x16384_S2x2x64x16384⟩,
    ⟨S2x2x16x16384, broadcastInDim S2x2x16x16384 ![] bcast_S_S2x2x16x16384 (constant (F := Ideal) S_ .f32 0x3F800000#32)⟩] concatenates_S2x2x64x16384_S2x2x16x16384_S2x2x80x16384_d2

/-- The values, transposed. -/
def values (U : FVec Ideal S2x2x80x16384 .f32) : FVec Ideal S2x160x16384 .bf16 :=
  truncf .bf16 (shapeCast S2x160x16384 U shapeCasts_S2x2x80x16384_S2x160x16384 : FVec Ideal S2x160x16384 .f32) bitsLt_bf16_f32

/-- The memory's queries. -/
def questions (P : FVec Ideal S2x16384x2304 .f32) : FVec Ideal S2x256x16384 .bf16 :=
  truncf .bf16 (transpose S2x256x16384 [0, 2, 1] (extractStridedSlice S2x16384x256 ![0, 0, 1024] P slices_S2x16384x2304_S2x16384x256_0_0_1024) transposes_S2x16384x256_S2x256x16384_0_2_1) bitsLt_bf16_f32

/-- The gates. -/
def gates (P : FVec Ideal S2x16384x2304 .f32) : FVec Ideal S2x16384x1024 .bf16 :=
  truncf .bf16 (extractStridedSlice S2x16384x1024 ![0, 0, 1280] P slices_S2x16384x2304_S2x16384x1024_0_0_1280) bitsLt_bf16_f32

section

variable (m : (ℓ : Loc nD τ sig) → Buf (Elt Ideal) ℓ) (c : Dev nD)

/-- The layer's result. -/
abbrev state : FVec Ideal S2x16384x1024 .f32 :=
  layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The next layer's projection of it. -/
abbrev product : FVec Ideal S2x16384x2304 .f32 :=
  projected (normed (state m c) (m ((c.tc : Thread nD τ).loc main_arg7))) (m ((c.tc : Thread nD τ).loc main_arg8))

end

theorem projected_apply (x : FVec Ideal S2x16384x1024 .f32) (g : FVec Ideal S1024 .f32) (w : FVec Ideal S1024x2304 .f32) (b : Fin 2) (n : Fin 16384) (j : Fin 2304) :
    projected (normed x g) w (ix3 b n j) = Layer.project (fun k => x (ix3 b n k)) (fun k => g (ix1 k)) (fun k => w (ix2 k j)) := by
  have h : projected (normed x g) w (ix3 b n j) = ∑ k : Fin 1024, (show EReal from normed x g (ix3 b n k)) * w (ix2 k j) := by
    generalize normed x g = y
    pointwise [projected]
  rw [h]
  simp only [normed_apply]
  rfl

theorem queries_apply (P : FVec Ideal S2x16384x2304 .f32) (b : Fin 2) (j : Fin 768) (n : Fin 16384) :
    queries P (ix3 b j n) = (show EReal from P (ix3 b n ⟨j.val, by omega⟩)) := by
  pointwise [queries]

theorem keys_apply (P : FVec Ideal S2x16384x2304 .f32) (b : Fin 2) (n : Fin 16384) (d : Fin 128) :
    keys P (ix3 b n d) = (show EReal from P (ix3 b n ⟨768 + d.val, by omega⟩)) := by
  pointwise [keys]

theorem stacked_apply (P : FVec Ideal S2x16384x2304 .f32) (b : Fin 2) (h : Fin 2) (v : Fin 80) (n : Fin 16384) :
    stacked P (ix4 b h v n) = if v.val < 64 then (show EReal from P (ix3 b n ⟨896 + (h.val * 64 + v.val), by omega⟩)) else 1 := by
  pointwise [stacked]
  rfl

theorem values_apply (U : FVec Ideal S2x2x80x16384 .f32) (b : Fin 2) (v : Fin 160) (n : Fin 16384) :
    values U (ix3 b v n) = (show EReal from U (ix4 b ⟨v.val / 80, by omega⟩ ⟨v.val % 80, by omega⟩ n)) := by
  pointwise [values]

theorem questions_apply (P : FVec Ideal S2x16384x2304 .f32) (b : Fin 2) (j : Fin 256) (n : Fin 16384) :
    questions P (ix3 b j n) = (show EReal from P (ix3 b n ⟨1024 + j.val, by omega⟩)) := by
  pointwise [questions]

theorem gates_apply (P : FVec Ideal S2x16384x2304 .f32) (b : Fin 2) (n : Fin 16384) (d : Fin 1024) :
    gates P (ix3 b n d) = (show EReal from P (ix3 b n ⟨1280 + d.val, by omega⟩)) := by
  pointwise [gates]

end Cert.Reference4Ideal.Hand

end
-- ==== Proof.Equation4.lean ====
/-
  A middle layer's end's tiles are the reference's results at their places.
-/
module

public import proofs.«01_k».proof.Proof.Out4
public import proofs.«01_k».proof.Proof.Entry4
public import proofs.«01_k».proof.Proof.Reference4
public import Idealize.ShloMosaic.Lib.Pipeline.ValueKit
public import Idealize.ShloMosaic.Lib.Pipeline.Covers

@[expose] public section

set_option maxRecDepth 16384

noncomputable section

namespace Cert.Kernel4Ideal.Hand

open Cert.Kernel4Ideal Cert.Kernel4Ideal.Gen Idealize.ShloMosaic Idealize.ShloMosaic.TcCoe
open Cert.Reference2Ideal.Hand (normed layer normed_apply layer_apply)
open Cert.Reference4Ideal.Hand (projected queries keys stacked values questions gates projected_apply queries_apply keys_apply stacked_apply values_apply questions_apply gates_apply)

theorem idx : ∀ t, win0_0.index t = ![(grid0.coords t 0).val, (grid0.coords t 1).val, 0]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0, 0]
    ∧ win0_5.index t = ![(grid0.coords t 0).val, 0, 0]
    ∧ win0_6.index t = ![0, 0]
    ∧ win0_7.index t = ![0, 0]
    ∧ win0_8.index t = ![0, 0]
    ∧ win0_9.index t = ![0, 0]
    ∧ win0_10.index t = ![(grid0.coords t 0).val, (grid0.coords t 1).val, 0]
    ∧ win0_11.index t = ![(grid0.coords t 0).val, 0, (grid0.coords t 1).val]
    ∧ win0_12.index t = ![(grid0.coords t 0).val, (grid0.coords t 1).val, 0]
    ∧ win0_13.index t = ![(grid0.coords t 0).val, 0, (grid0.coords t 1).val]
    ∧ win0_14.index t = ![(grid0.coords t 0).val, 0, (grid0.coords t 1).val]
    ∧ win0_15.index t = ![(grid0.coords t 0).val, (grid0.coords t 1).val, 0] := by
  decide +kernel

variable (m : (ℓ : Loc nD τ sig) → Buf (Elt Ideal) ℓ) (c : Dev nD) (t : Fin cfg0.N)

/-- The batch of a grid point, and the place in the sequence of a row of its tile. -/
def batch : Fin 2 := ⟨(grid0.coords t 0).val, (grid0.coords t 0).isLt⟩
def tile : Fin 32 := ⟨(grid0.coords t 1).val, (grid0.coords t 1).isLt⟩
def place (r : Fin 512) : Fin 16384 := ⟨512 * (tile t).val + r.val, by omega⟩

/-- The arguments. -/
abbrev argY : FVec Ideal S2x16384x768 .f32 := m ((c.tc : Thread nD τ).loc main_arg0)
abbrev argQ : FVec Ideal S2x16384x256 .f32 := m ((c.tc : Thread nD τ).loc main_arg1)
abbrev argK : FVec Ideal S2x256x256 .f32 := m ((c.tc : Thread nD τ).loc main_arg2)
abbrev argV : FVec Ideal S2x256x256 .f32 := m ((c.tc : Thread nD τ).loc main_arg3)
abbrev argZ : FVec Ideal S2x16384x1024 .f32 := m ((c.tc : Thread nD τ).loc main_arg4)
abbrev argX : FVec Ideal S2x16384x1024 .f32 := m ((c.tc : Thread nD τ).loc main_arg5)
abbrev argW : FVec Ideal S1024x1024 .f32 := m ((c.tc : Thread nD τ).loc main_arg6)
abbrev argG : FVec Ideal S1024 .f32 := m ((c.tc : Thread nD τ).loc main_arg7)
abbrev argN : FVec Ideal S1024x2304 .f32 := m ((c.tc : Thread nD τ).loc main_arg8)

/-- The reference's result of the layer. -/
abbrev state : FVec Ideal S2x16384x1024 .f32 := layer (argY m c) (argQ m c) (argK m c) (argV m c) (argZ m c) (argX m c) (argW m c)

/-- The reference's projection of it. -/
abbrev product : FVec Ideal Cert.Reference4Ideal.S2x16384x2304 .f32 := projected (normed (state m c) (argG m c)) (argN m c)

theorem iblk0 (r : Fin 512) (k : Fin 768) : (show EReal from iblk m c 0 t (ix3 0 r k)) = argY m c (ix3 (batch t) (place t r) k) := by
  refine Eq.trans ?_ (attended_at m c (batch t) (place t r) k)
  unfold place batch tile
  blk_ext [iblk, idx t]

theorem iblk1 (k : Fin 256) (r : Fin 512) : (show EReal from iblk m c 1 t (ix3 0 k r)) = argQ m c (ix3 (batch t) (place t r) k) * ((1 / 8 * Softmax.log2e : ℝ) : EReal) := by
  refine Eq.trans ?_ (queries_at m c (batch t) k (place t r))
  unfold place batch tile
  blk_ext [iblk, idx t]

theorem iblk2 (r : Fin 512) (k : Fin 1024) : (show EReal from iblk m c 2 t (ix3 0 r k)) = argZ m c (ix3 (batch t) (place t r) k) := by
  refine Eq.trans ?_ (gates_at m c (batch t) (place t r) k)
  unfold place batch tile
  blk_ext [iblk, idx t]

theorem iblk3 (r : Fin 512) (k : Fin 1024) : (show EReal from iblk m c 3 t (ix3 0 r k)) = argX m c (ix3 (batch t) (place t r) k) := by
  refine Eq.trans ?_ (input_at m c (batch t) (place t r) k)
  unfold place batch tile
  blk_ext [iblk, idx t]

theorem iblk4 (h : Fin 4) (l k : Fin 256) : (show EReal from iblk m c 4 t (ix4 0 h l k))
    = if 64 * h.val ≤ k.val ∧ k.val < 64 * h.val + 64 then argK m c (ix3 (batch t) l k) else 0 := by
  refine Eq.trans ?_ (keys_at m c (batch t) h l k)
  unfold batch
  blk_ext [iblk, idx t]

theorem iblk5 (k : Fin 320) (l : Fin 256) : (show EReal from iblk m c 5 t (ix3 0 k l)) = V m c main_v24 (ix3 (batch t) k l) := by
  unfold batch
  blk_ext [iblk, idx t]

theorem iblk6 (k d : Fin 1024) : (show EReal from iblk m c 6 t (ix2 k d)) = argW m c (ix2 k d) := by
  refine Eq.trans ?_ (weights_at m c k d)
  blk_ext [iblk, idx t]

theorem iblk7 (d : Fin 1024) : (show EReal from iblk m c 7 t (ix2 0 d)) = argG m c (ix1 d) := by
  refine Eq.trans ?_ (norm_at m c d)
  blk_ext [iblk, idx t]

theorem iblk8 (i : Fin 1152) (k : Fin 1024) : (show EReal from iblk m c 8 t (ix2 i k)) = argN m c (ix2 k (across i)) := by
  refine Eq.trans ?_ (across_at m c i k)
  blk_ext [iblk, idx t]

theorem iblk9 (k : Fin 1024) (j : Fin 1152) : (show EReal from iblk m c 9 t (ix2 k j)) = argN m c (ix2 k (along j)) := by
  refine Eq.trans ?_ (along_at m c k j)
  blk_ext [iblk, idx t]

section

variable (hQ : ∀ y, ∃ r : ℝ, argQ m c y = (r : EReal)) (hK : ∀ y, ∃ r : ℝ, argK m c y = (r : EReal))

include hQ hK in
/-- A channel of the memory's attention. -/
theorem channel_eq (r : Fin 512) (h : Fin 4) (d : Fin 64) (col : Fin 256) (hc : col.val = 64 * h.val + d.val) :
    channel (iblk m c 1 t) (iblk m c 4 t) (iblk m c 5 t) r h d
      = Layer.memory (fun k => argQ m c (ix3 (batch t) (place t r) k)) (fun l k => argK m c (ix3 (batch t) l k)) (fun l k => argV m c (ix3 (batch t) l k)) col := by
  have hS : ∀ l : Fin 256, (∑ k : Fin 256, (show EReal from iblk m c 4 t (ix4 0 h l k)) * (show EReal from iblk m c 1 t (ix3 0 k r)))
      = (Softmax.log2e : EReal) * Layer.logit (fun k => argQ m c (ix3 (batch t) (place t r) k)) (fun k => argK m c (ix3 (batch t) l k)) h := fun l => by
    refine Eq.trans (Finset.sum_congr rfl fun k _ => congrArg₂ (fun a b : EReal => a * b) (iblk4 m c t h l k) (iblk1 m c t k r)) ?_
    exact Layer.score_eq (q := fun k => argQ m c (ix3 (batch t) (place t r) k)) (k := fun k => argK m c (ix3 (batch t) l k)) (fun k => hQ _) (fun k => hK _) h
  choose s hs using fun l : Fin 256 => Layer.logit_real (q := fun k => argQ m c (ix3 (batch t) (place t r) k)) (k := fun k => argK m c (ix3 (batch t) l k)) (fun k => hQ _) (fun k => hK _) h
  unfold channel quotient
  rw [show (fun l : Fin 256 => ∑ k : Fin 256, (show EReal from iblk m c 4 t (ix4 0 h l k)) * (show EReal from iblk m c 1 t (ix3 0 k r))) = _ from funext hS]
  refine (Layer.quotient_eq (n := 255) _ (fun l => Softmax.log2e * s l) (fun l => by rw [hs, EReal.coe_mul]) _ _
    (fun l => (iblk5 m c t _ l).trans (ones_at m c (batch t) h l))).trans ?_
  unfold Layer.memory
  have e1 : (⟨col.val / 64, by omega⟩ : Fin 4) = h := Fin.ext (by dsimp only; omega)
  have e2 : (⟨64 * h.val + d.val, by omega⟩ : Fin 256) = col := Fin.ext hc.symm
  rw [e1]
  refine congrArg (Layer.average _) (funext fun l => ?_)
  refine (iblk5 m c t _ l).trans ((values_at m c (batch t) h d l).trans ?_)
  exact congrArg (fun y => argV m c (ix3 (batch t) l y)) e2

include hQ hK in
/-- The row the output product takes. -/
theorem row_eq (r : Fin 512) : row (iblk m c 0 t) (iblk m c 1 t) (iblk m c 4 t) (iblk m c 5 t) r
    = Layer.joined (fun k => argY m c (ix3 (batch t) (place t r) k)) (fun k => argQ m c (ix3 (batch t) (place t r) k))
        (fun l k => argK m c (ix3 (batch t) l k)) (fun l k => argV m c (ix3 (batch t) l k)) := by
  funext k
  unfold row Layer.joined
  split
  next h => exact iblk0 m c t r ⟨k.val, h⟩
  next h => exact channel_eq m c t hQ hK r _ _ _ (by dsimp only; omega)

include hQ hK in
/-- The row before the last norm. -/
theorem before_norm (r : Fin 512) (k : Fin 1024) :
    Layer.output (row (iblk m c 0 t) (iblk m c 1 t) (iblk m c 4 t) (iblk m c 5 t) r) (fun k => iblk m c 2 t (ix3 0 r k)) (fun k => iblk m c 3 t (ix3 0 r k))
        (fun k d => iblk m c 6 t (ix2 k d)) k
      = state m c (ix3 (batch t) (place t r) k) := by
  unfold state
  rw [layer_apply _ _ _ hQ hK, row_eq m c t hQ hK]
  have h2 : (fun k => iblk m c 2 t (ix3 0 r k) : Fin 1024 → EReal) = fun k => argZ m c (ix3 (batch t) (place t r) k) := funext fun k => iblk2 m c t r k
  have h3 : (fun k => iblk m c 3 t (ix3 0 r k) : Fin 1024 → EReal) = fun k => argX m c (ix3 (batch t) (place t r) k) := funext fun k => iblk3 m c t r k
  have h6 : (fun k d => iblk m c 6 t (ix2 k d) : Fin 1024 → Fin 1024 → EReal) = fun k d => argW m c (ix2 k d) := funext fun k => funext fun d => iblk6 m c t k d
  rw [h2, h3, h6]

include hQ hK in
theorem across_eq (i : Fin 1152) (r : Fin 512) :
    Layer.project (before (iblk m c 0 t) (iblk m c 1 t) (iblk m c 2 t) (iblk m c 3 t) (iblk m c 4 t) (iblk m c 5 t) (iblk m c 6 t) r)
        (fun k => iblk m c 7 t (ix2 0 k)) (fun k => iblk m c 8 t (ix2 i k))
      = product m c (ix3 (batch t) (place t r) (across i)) := by
  have h0 : before (iblk m c 0 t) (iblk m c 1 t) (iblk m c 2 t) (iblk m c 3 t) (iblk m c 4 t) (iblk m c 5 t) (iblk m c 6 t) r = fun k => state m c (ix3 (batch t) (place t r) k) :=
    funext fun k => before_norm m c t hQ hK r k
  have h1 : (fun k => iblk m c 7 t (ix2 0 k) : Fin 1024 → EReal) = fun k => argG m c (ix1 k) := funext fun k => iblk7 m c t k
  have h2 : (fun k => iblk m c 8 t (ix2 i k) : Fin 1024 → EReal) = fun k => argN m c (ix2 k (across i)) := funext fun k => iblk8 m c t i k
  rw [h0, h1, h2]
  exact (projected_apply _ _ _ _ _ _).symm

include hQ hK in
theorem along_eq (r : Fin 512) (j : Fin 1152) :
    Layer.project (before (iblk m c 0 t) (iblk m c 1 t) (iblk m c 2 t) (iblk m c 3 t) (iblk m c 4 t) (iblk m c 5 t) (iblk m c 6 t) r)
        (fun k => iblk m c 7 t (ix2 0 k)) (fun k => iblk m c 9 t (ix2 k j))
      = product m c (ix3 (batch t) (place t r) (along j)) := by
  have h0 : before (iblk m c 0 t) (iblk m c 1 t) (iblk m c 2 t) (iblk m c 3 t) (iblk m c 4 t) (iblk m c 5 t) (iblk m c 6 t) r = fun k => state m c (ix3 (batch t) (place t r) k) :=
    funext fun k => before_norm m c t hQ hK r k
  have h1 : (fun k => iblk m c 7 t (ix2 0 k) : Fin 1024 → EReal) = fun k => argG m c (ix1 k) := funext fun k => iblk7 m c t k
  have h2 : (fun k => iblk m c 9 t (ix2 k j) : Fin 1024 → EReal) = fun k => argN m c (ix2 k (along j)) := funext fun k => iblk9 m c t k j
  rw [h0, h1, h2]
  exact (projected_apply _ _ _ _ _ _).symm

include hQ hK in
theorem state_tile (r : Fin 512) (d : Fin 1024) :
    (show EReal from (dats m 0 c).after 10 t (ix3 0 r d)) = state m c (ix3 (batch t) (place t r) d) := by
  refine (congrFun (after0_10 m c t) (ix3 0 r d)).trans ?_
  unfold outsAt0
  dsimp only
  refine (state_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) r d).trans ?_
  exact before_norm m c t hQ hK r d

include hQ hK in
theorem queries_tile (j : Fin 768) (r : Fin 512) :
    (show EReal from (dats m 0 c).after 11 t (ix3 0 j r)) = queries (product m c) (ix3 (batch t) j (place t r)) := by
  refine (congrFun (after0_11 m c t) (ix3 0 j r)).trans ?_
  unfold outsAt0
  dsimp only
  refine (queries_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) j r).trans ?_
  refine (across_eq m c t hQ hK ⟨j.val, by omega⟩ r).trans (Eq.trans ?_ (queries_apply _ _ _ _).symm)
  refine congrArg (product m c) (congrArg (ix3 (batch t) (place t r)) ?_)
  unfold across
  rw [if_pos (show j.val < 768 from j.isLt)]

include hQ hK in
theorem keys_tile (r : Fin 512) (d : Fin 128) :
    (show EReal from (dats m 0 c).after 12 t (ix3 0 r d)) = keys (product m c) (ix3 (batch t) (place t r) d) := by
  refine (congrFun (after0_12 m c t) (ix3 0 r d)).trans ?_
  unfold outsAt0
  dsimp only
  refine (keys_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) r d).trans ?_
  refine (along_eq m c t hQ hK r ⟨d.val, by omega⟩).trans (Eq.trans ?_ (keys_apply _ _ _ _).symm)
  refine congrArg (product m c) (congrArg (ix3 (batch t) (place t r)) ?_)
  unfold along
  rw [if_pos (show d.val < 128 from d.isLt)]
  exact Fin.ext (show d.val + 768 = 768 + d.val by omega)

include hQ hK in
theorem values_tile (v : Fin 160) (r : Fin 512) :
    (show EReal from (dats m 0 c).after 13 t (ix3 0 v r)) = values (stacked (product m c)) (ix3 (batch t) v (place t r)) := by
  refine (congrFun (after0_13 m c t) (ix3 0 v r)).trans ?_
  unfold outsAt0
  dsimp only
  refine (values_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) v r).trans ?_
  refine Eq.trans ?_ ((values_apply _ _ _ _).trans (stacked_apply _ _ _ _ _)).symm
  show (if h : v.val % 80 < 64 then _ else (1 : EReal)) = if v.val % 80 < 64 then _ else 1
  split
  next h =>
    refine (across_eq m c t hQ hK ⟨768 + 64 * (v.val / 80) + v.val % 80, by omega⟩ r).trans ?_
    refine congrArg (product m c) (congrArg (ix3 (batch t) (place t r)) ?_)
    unfold across
    rw [if_neg (show ¬768 + 64 * (v.val / 80) + v.val % 80 < 768 by omega)]
    exact Fin.ext (show 768 + 64 * (v.val / 80) + v.val % 80 + 128 = 896 + (v.val / 80 * 64 + v.val % 80) by omega)
  next => rfl

include hQ hK in
theorem questions_tile (j : Fin 256) (r : Fin 512) :
    (show EReal from (dats m 0 c).after 14 t (ix3 0 j r)) = questions (product m c) (ix3 (batch t) j (place t r)) := by
  refine (congrFun (after0_14 m c t) (ix3 0 j r)).trans ?_
  unfold outsAt0
  dsimp only
  refine (questions_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) j r).trans ?_
  refine (across_eq m c t hQ hK ⟨896 + j.val, by omega⟩ r).trans (Eq.trans ?_ (questions_apply _ _ _ _).symm)
  refine congrArg (product m c) (congrArg (ix3 (batch t) (place t r)) ?_)
  unfold across
  rw [if_neg (show ¬896 + j.val < 768 by omega)]
  exact Fin.ext (show 896 + j.val + 128 = 1024 + j.val by omega)

include hQ hK in
theorem gates_tile (r : Fin 512) (d : Fin 1024) :
    (show EReal from (dats m 0 c).after 15 t (ix3 0 r d)) = gates (product m c) (ix3 (batch t) (place t r) d) := by
  refine (congrFun (after0_15 m c t) (ix3 0 r d)).trans ?_
  unfold outsAt0
  dsimp only
  refine (gates_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) r d).trans ?_
  refine (along_eq m c t hQ hK r ⟨128 + d.val, by omega⟩).trans (Eq.trans ?_ (gates_apply _ _ _ _).symm)
  refine congrArg (product m c) (congrArg (ix3 (batch t) (place t r)) ?_)
  unfold along
  rw [if_neg (show ¬128 + d.val < 128 by omega)]
  exact Fin.ext (show 128 + d.val + 1152 = 1280 + d.val by omega)

end

end Cert.Kernel4Ideal.Hand

end
-- ==== Proof.Result4.lean ====
/-
  A middle layer's end's arrays are the reference's results.
-/
module

public import proofs.«01_k».proof.Proof.Equation4

@[expose] public section

set_option maxRecDepth 16384

noncomputable section

namespace Cert.Kernel4Ideal.Hand

open Cert.Kernel4Ideal Cert.Kernel4Ideal.Gen Idealize.ShloMosaic Idealize.ShloMosaic.TcCoe
open Cert.Reference4Ideal.Hand (queries keys stacked values questions gates)

theorem emb10 (t : Fin cfg0.N) (r : Fin 512) (d : Fin 1024) : ((cfg0.win 10).blk t).view.emb (ix3 0 r d) = (ix3 (batch t) (place t r) d : S2x16384x1024.Idx) := by
  unfold place batch tile
  blk_ext [idx t]

theorem emb11 (t : Fin cfg0.N) (j : Fin 768) (r : Fin 512) : ((cfg0.win 11).blk t).view.emb (ix3 0 j r) = (ix3 (batch t) j (place t r) : S2x768x16384.Idx) := by
  unfold place batch tile
  blk_ext [idx t]

theorem emb12 (t : Fin cfg0.N) (r : Fin 512) (d : Fin 128) : ((cfg0.win 12).blk t).view.emb (ix3 0 r d) = (ix3 (batch t) (place t r) d : S2x16384x128.Idx) := by
  unfold place batch tile
  blk_ext [idx t]

theorem emb13 (t : Fin cfg0.N) (j : Fin 160) (r : Fin 512) : ((cfg0.win 13).blk t).view.emb (ix3 0 j r) = (ix3 (batch t) j (place t r) : S2x160x16384.Idx) := by
  unfold place batch tile
  blk_ext [idx t]

theorem emb14 (t : Fin cfg0.N) (j : Fin 256) (r : Fin 512) : ((cfg0.win 14).blk t).view.emb (ix3 0 j r) = (ix3 (batch t) j (place t r) : S2x256x16384.Idx) := by
  unfold place batch tile
  blk_ext [idx t]

theorem emb15 (t : Fin cfg0.N) (r : Fin 512) (d : Fin 1024) : ((cfg0.win 15).blk t).view.emb (ix3 0 r d) = (ix3 (batch t) (place t r) d : S2x16384x1024.Idx) := by
  unfold place batch tile
  blk_ext [idx t]

variable (m : (ℓ : Loc nD τ sig) → Buf (Elt Ideal) ℓ) (c : Dev nD)
  (hQ : ∀ y, ∃ r : ℝ, argQ m c y = (r : EReal)) (hK : ∀ y, ∃ r : ℝ, argK m c y = (r : EReal))

include hQ hK in
theorem state_array : (dats m 0 c).arrAt 10 cfg0.N = state m c := by
  refine (dats m 0 c).arrAt_eq_of_covers 10 _ (by decide +kernel) fun t hf y => ?_
  obtain ⟨r, d, rfl⟩ : ∃ (r : Fin 512) (d : Fin 1024), y = ix3 0 r d := ⟨y 1, y 2, by
    funext a
    match a with
    | ⟨0, _⟩ => exact Subsingleton.elim (α := Fin 1) _ _
    | ⟨1, _⟩ => rfl
    | ⟨2, _⟩ => rfl⟩
  exact (state_tile m c t hQ hK r d).trans (congrArg (state m c) (emb10 t r d).symm)

include hQ hK in
theorem queries_array : (dats m 0 c).arrAt 11 cfg0.N = queries (product m c) := by
  refine (dats m 0 c).arrAt_eq_of_covers 11 _ (by decide +kernel) fun t hf y => ?_
  obtain ⟨r, d, rfl⟩ : ∃ (r : Fin 768) (d : Fin 512), y = ix3 0 r d := ⟨y 1, y 2, by
    funext a
    match a with
    | ⟨0, _⟩ => exact Subsingleton.elim (α := Fin 1) _ _
    | ⟨1, _⟩ => rfl
    | ⟨2, _⟩ => rfl⟩
  exact (queries_tile m c t hQ hK r d).trans (congrArg (queries (product m c)) (emb11 t r d).symm)

include hQ hK in
theorem keys_array : (dats m 0 c).arrAt 12 cfg0.N = keys (product m c) := by
  refine (dats m 0 c).arrAt_eq_of_covers 12 _ (by decide +kernel) fun t hf y => ?_
  obtain ⟨r, d, rfl⟩ : ∃ (r : Fin 512) (d : Fin 128), y = ix3 0 r d := ⟨y 1, y 2, by
    funext a
    match a with
    | ⟨0, _⟩ => exact Subsingleton.elim (α := Fin 1) _ _
    | ⟨1, _⟩ => rfl
    | ⟨2, _⟩ => rfl⟩
  exact (keys_tile m c t hQ hK r d).trans (congrArg (keys (product m c)) (emb12 t r d).symm)

include hQ hK in
theorem values_array : (dats m 0 c).arrAt 13 cfg0.N = values (stacked (product m c)) := by
  refine (dats m 0 c).arrAt_eq_of_covers 13 _ (by decide +kernel) fun t hf y => ?_
  obtain ⟨r, d, rfl⟩ : ∃ (r : Fin 160) (d : Fin 512), y = ix3 0 r d := ⟨y 1, y 2, by
    funext a
    match a with
    | ⟨0, _⟩ => exact Subsingleton.elim (α := Fin 1) _ _
    | ⟨1, _⟩ => rfl
    | ⟨2, _⟩ => rfl⟩
  exact (values_tile m c t hQ hK r d).trans (congrArg (values (stacked (product m c))) (emb13 t r d).symm)

include hQ hK in
theorem questions_array : (dats m 0 c).arrAt 14 cfg0.N = questions (product m c) := by
  refine (dats m 0 c).arrAt_eq_of_covers 14 _ (by decide +kernel) fun t hf y => ?_
  obtain ⟨r, d, rfl⟩ : ∃ (r : Fin 256) (d : Fin 512), y = ix3 0 r d := ⟨y 1, y 2, by
    funext a
    match a with
    | ⟨0, _⟩ => exact Subsingleton.elim (α := Fin 1) _ _
    | ⟨1, _⟩ => rfl
    | ⟨2, _⟩ => rfl⟩
  exact (questions_tile m c t hQ hK r d).trans (congrArg (questions (product m c)) (emb14 t r d).symm)

include hQ hK in
theorem gates_array : (dats m 0 c).arrAt 15 cfg0.N = gates (product m c) := by
  refine (dats m 0 c).arrAt_eq_of_covers 15 _ (by decide +kernel) fun t hf y => ?_
  obtain ⟨r, d, rfl⟩ : ∃ (r : Fin 512) (d : Fin 1024), y = ix3 0 r d := ⟨y 1, y 2, by
    funext a
    match a with
    | ⟨0, _⟩ => exact Subsingleton.elim (α := Fin 1) _ _
    | ⟨1, _⟩ => rfl
    | ⟨2, _⟩ => rfl⟩
  exact (gates_tile m c t hQ hK r d).trans (congrArg (gates (product m c)) (emb15 t r d).symm)

end Cert.Kernel4Ideal.Hand

end
-- ==== Proof.Finite4.lean ====
/-
  What the precondition of a middle layer's end says: every entry of the memory's queries and keys is a real number.
-/
module

public import proofs.«01_k».proof.Pre_finite4
public import proofs.«01_k».proof.Proof.Gen.Pre_finite4
public import proofs.«01_k».proof.Proof.Finite

@[expose] public section

noncomputable section

namespace Cert.Pre_finite4.Hand

open Cert.Pre_finite4 Idealize.ShloMosaic

local instance : Facts := Cert.Pre_finite4.Gen.facts

theorem finite {y : FVec Ideal S2x16384x768 .f32} {q : FVec Ideal S2x16384x256 .f32} {k v : FVec Ideal S2x256x256 .f32}
    {z x : FVec Ideal S2x16384x1024 .f32} {w : FVec Ideal S1024x1024 .f32} {g : FVec Ideal S1024 .f32} {n : FVec Ideal S1024x2304 .f32}
    (h : fn (F := Ideal) y q k v z x w g n = fun _ => 1#1) :
    (∀ y, ∃ r : ℝ, q y = (r : EReal)) ∧ (∀ y, ∃ r : ℝ, k y = (r : EReal)) := by
  have e := congrFun h (fun a => a.elim0)
  unfold fn at e
  dsimp only at e
  have a2 : ∀ a b : BitVec 1, IntOp.andi a b = 1#1 → a = 1#1 ∧ b = 1#1 := by decide
  obtain ⟨e1, e2⟩ := a2 _ _ e
  haveI : Subsingleton S_.Idx := ⟨fun a b => funext fun x => x.elim0⟩
  refine ⟨fun y => ?_, fun y => ?_⟩
  · have := Host.reduce_andi_all _ _ _ _ _ e1 y
    exact Cert.Pre_finite.Hand.real_of_abs_lt _ this
  · have := Host.reduce_andi_all _ _ _ _ _ e2 y
    exact Cert.Pre_finite.Hand.real_of_abs_lt _ this

end Cert.Pre_finite4.Hand

end
-- ==== Proof.Frames4.lean ====
/-
  The end of a middle layer: the programs end with their arguments unchanged and every counter at zero, and over the reals
  the kernel's results are the reference's on finite queries and keys.
-/
module

public import proofs.«01_k».proof.Defs
public import proofs.«01_k».proof.Proof.Result4
public import proofs.«01_k».proof.Proof.Finite4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite4
public import Idealize.ShloMosaic.Lib.Quiescent

@[expose] public section

noncomputable section

namespace Cert.Proof.Fourth

open Idealize.ShloMosaic Idealize.ShloMosaic.TcCoe Idealize.SL.Sem

local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Pre_finite4.Facts := Cert.Pre_finite4.Gen.facts

theorem kernel_frame4 : Cert.quiescent_Kernel4 := fun m g _ => Cert.Kernel4.Gen.frame m g

theorem ideal_frame4 : Cert.quiescent_Kernel4Ideal := fun m g _ => Cert.Kernel4Ideal.Gen.frame m g

theorem ideal_frame_finite4 : Cert.quiescent_Kernel4Ideal_pre_finite4 := fun m g _ => Cert.Kernel4Ideal.Gen.frame m g

theorem reference_frame4 : Cert.quiescent_Reference4Ideal := fun m g _ =>
  (θ_run Cert.Reference4Ideal.defs _ _).mono (fun r h => ⟨fun c => (h c).2.2.2.2.2.2, Idealize.ShloMosaic.sem_eq_zero_of_no_sems (by decide) r.2⟩)
    (Cert.Reference4Ideal.Value.run (F := Ideal) m g)

theorem reference_frame_finite4 : Cert.quiescent_Reference4Ideal_pre_finite4 := fun m g _ =>
  (θ_run Cert.Reference4Ideal.defs _ _).mono (fun r h => ⟨fun c => (h c).2.2.2.2.2.2, Idealize.ShloMosaic.sem_eq_zero_of_no_sems (by decide) r.2⟩)
    (Cert.Reference4Ideal.Value.run (F := Ideal) m g)

section
open Cert.Kernel4Ideal.Hand (product state state_array queries_array keys_array values_array questions_array gates_array)
open Cert.Reference4Ideal.Hand (queries keys stacked values questions gates)

theorem value4 : Cert.algebraic_Kernel4Ideal_Reference4Ideal_pre_finite4 := by
  intro m ρ m' ρ' hpre hagree
  refine ⟨fun c => state m c, fun c => queries (product m c), fun c => keys (product m c), fun c => values (stacked (product m c)), fun c => questions (product m c), fun c => gates (product m c), ?_, ?_⟩
  · refine (θ_run _ _ _).mono (fun r h c => ?_) (Cert.Kernel4Ideal.Value.run_blocks (F := Ideal) m ρ)
    obtain ⟨h10, h11, h12, h13, h14, h15, hk⟩ := h c
    obtain ⟨hQ, hK⟩ := Cert.Pre_finite4.Hand.finite (hpre c)
    exact ⟨h10.trans (state_array m c hQ hK), h11.trans (queries_array m c hQ hK), h12.trans (keys_array m c hQ hK), h13.trans (values_array m c hQ hK), h14.trans (questions_array m c hQ hK), h15.trans (gates_array m c hQ hK), hk⟩
  · refine (θ_run _ _ _).mono (fun r h c => ?_) (Cert.Reference4Ideal.Value.run (F := Ideal) m' ρ')
    obtain ⟨e0, e1, e2, e3, e4, e5, e6, e7, e8⟩ := hagree c
    have es : Cert.Reference4Ideal.Hand.state m' c = state m c := by
      unfold Cert.Reference4Ideal.Hand.state
      rw [e0, e1, e2, e3, e4, e5, e6]
    have e : Cert.Reference4Ideal.Hand.product m' c = product m c := by
      unfold Cert.Reference4Ideal.Hand.product
      rw [es, e7, e8]
    obtain ⟨r0, r1, r2, r3, r4, r5, hk⟩ := h c
    exact ⟨r0.trans es, r1.trans (congrArg queries e), r2.trans (congrArg keys e), r3.trans (congrArg (fun P => values (stacked P)) e), r4.trans (congrArg questions e), r5.trans (congrArg gates e), hk⟩

end

end Cert.Proof.Fourth

end
-- ==== Proof.lean ====
/-
  The certificate of the four calls: each kernel and its reference end with their arguments unchanged and every counter at
  zero, the attention's constant log2 e is the named one, and over the reals each kernel's results are its reference's
  (for the attention and the two layers' ends, on finite arguments).
-/
module

public import proofs.«01_k».proof.Defs
public import proofs.«01_k».proof.Proof.Frames
public import proofs.«01_k».proof.Proof.Equation
public import proofs.«01_k».proof.Proof.Finite
public import proofs.«01_k».proof.Proof.Frames2
public import proofs.«01_k».proof.Proof.Frames3
public import proofs.«01_k».proof.Proof.Frames4

@[expose] public section

noncomputable section

namespace Cert.Proof

open Idealize.ShloMosaic Idealize.ShloMosaic.TcCoe Idealize.SL.Sem
open Cert.Proof.Second Cert.Proof.Third Cert.Proof.Fourth

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite.Facts := Cert.Pre_finite.Gen.facts

theorem value : Cert.algebraic_KernelIdeal_ReferenceIdeal_pre_finite := by
  intro m ρ m' ρ' hpre hagree
  refine ⟨fun c => Cert.ReferenceIdeal.Hand.attention (Cert.KernelIdeal.Hand.argQ m c) (Cert.KernelIdeal.Hand.argK m c)
    (Cert.KernelIdeal.Hand.argV m c) (Cert.KernelIdeal.Hand.argT m c), ?_, ?_⟩
  · refine (θ_run _ _ _).mono (fun r h c => ⟨(h.2 c).trans ?_, h.1.1 c⟩) (ideal_run m ρ)
    obtain ⟨hQ, hK, hT⟩ := Cert.Pre_finite.Hand.finite (hpre c)
    exact Cert.KernelIdeal.Hand.array_eq m c hQ hK hT
  · refine (θ_run _ _ _).mono (fun r h c => ⟨(h c).1.trans ?_, (h c).2⟩) (Cert.ReferenceIdeal.Value.run (F := Ideal) m' ρ')
    obtain ⟨h0, h1, h2, h3⟩ := hagree c
    refine (Cert.ReferenceIdeal.Hand.result_eq m' c).trans ?_
    rw [h0, h1, h2, h3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite2.Gen.facts, Cert.Pre_finite4.Gen.facts,
  kernel_frame, ideal_frame, ideal_frame_finite, reference_frame, reference_frame_finite,
  kernel_frame2, ideal_frame2, ideal_frame_finite2, reference_frame2, reference_frame_finite2,
  kernel_frame3, ideal_frame3, reference_frame3,
  kernel_frame4, ideal_frame4, ideal_frame_finite4, reference_frame4, reference_frame_finite4,
  constant_kept, value, trivial, value2, trivial, value3, trivial, value4⟩

end Cert.Proof

end
